-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_but_gate [hPre_finite_but_gate : Cert.Pre_finite_but_gate.Facts] (m : (ℓ : Loc Cert.DownIdeal.nD Cert.DownIdeal.τ Cert.DownIdeal.sig) → Buf (Elt Ideal) ℓ) : Prop :=
  ∀ c : Dev Cert.DownIdeal.nD,
    (Cert.Pre_finite_but_gate.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_finite_but_gate [hPre_finite_but_gate : Cert.Pre_finite_but_gate.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_finite_but_gate.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_DownWeights (m : (ℓ : Loc Cert.DownWeights.nD Cert.DownWeights.τ Cert.DownWeights.sig) → Buf (Elt Bits) ℓ) : Prop :=
  True

def Pre_DownWeightsIdeal (m : (ℓ : Loc Cert.DownWeightsIdeal.nD Cert.DownWeightsIdeal.τ Cert.DownWeightsIdeal.sig) → Buf (Elt Ideal) ℓ) : Prop :=
  True

def Pre_DownWeightsReferenceIdeal (m : (ℓ : Loc Cert.DownWeightsReferenceIdeal.nD Cert.DownWeightsReferenceIdeal.τ Cert.DownWeightsReferenceIdeal.sig) → Buf (Elt Ideal) ℓ) : Prop :=
  True

def Pre_InWeights (m : (ℓ : Loc Cert.InWeights.nD Cert.InWeights.τ Cert.InWeights.sig) → Buf (Elt Bits) ℓ) : Prop :=
  True

def Pre_InWeightsIdeal (m : (ℓ : Loc Cert.InWeightsIdeal.nD Cert.InWeightsIdeal.τ Cert.InWeightsIdeal.sig) → Buf (Elt Ideal) ℓ) : Prop :=
  True

def Pre_InWeightsReferenceIdeal (m : (ℓ : Loc Cert.InWeightsReferenceIdeal.nD Cert.InWeightsReferenceIdeal.τ Cert.InWeightsReferenceIdeal.sig) → Buf (Elt Ideal) ℓ) : Prop :=
  True

def Pre_OutWeights (m : (ℓ : Loc Cert.OutWeights.nD Cert.OutWeights.τ Cert.OutWeights.sig) → Buf (Elt Bits) ℓ) : Prop :=
  True

def Pre_OutWeightsIdeal (m : (ℓ : Loc Cert.OutWeightsIdeal.nD Cert.OutWeightsIdeal.τ Cert.OutWeightsIdeal.sig) → Buf (Elt Ideal) ℓ) : Prop :=
  True

def Pre_OutWeightsReferenceIdeal (m : (ℓ : Loc Cert.OutWeightsReferenceIdeal.nD Cert.OutWeightsReferenceIdeal.τ Cert.OutWeightsReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_DownForward (m : (ℓ : Loc Cert.DownForward.nD Cert.DownForward.τ Cert.DownForward.sig) → Buf (Elt Bits) ℓ) : Prop :=
  True

def Pre_DownForwardIdeal (m : (ℓ : Loc Cert.DownForwardIdeal.nD Cert.DownForwardIdeal.τ Cert.DownForwardIdeal.sig) → Buf (Elt Ideal) ℓ) : Prop :=
  True

def Pre_DownForwardReferenceIdeal (m : (ℓ : Loc Cert.DownForwardReferenceIdeal.nD Cert.DownForwardReferenceIdeal.τ Cert.DownForwardReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_but_gate [hDownIdeal : Cert.DownIdeal.Facts] [hPre_finite_but_gate : Cert.Pre_finite_but_gate.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_but_gate m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_finite_but_gate [hDownReferenceIdeal : Cert.DownReferenceIdeal.Facts] [hPre_finite_but_gate : Cert.Pre_finite_but_gate.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_finite_but_gate m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4))
      ∧ r.2.sem = fun _ => 0)

def quiescent_DownWeights [hDownWeights : Cert.DownWeights.Facts] : Prop :=
  ∀ (m : (ℓ : Loc Cert.DownWeights.nD Cert.DownWeights.τ Cert.DownWeights.sig) → Buf (Elt Bits) ℓ) (g : Dev Cert.DownWeights.nD → PrngReg), Pre_DownWeights m →
    θ_run (Cert.DownWeights.defs (F := Bits)) (onTc (τ := Cert.DownWeights.τ) (Cert.DownWeights.main (F := Bits))) ⟨m, fun _ => 0, g⟩ (fun r => (∀ c : Dev Cert.DownWeights.nD,
      r.2.mem ((c.tc : Thread Cert.DownWeights.nD Cert.DownWeights.τ).loc Cert.DownWeights.main_arg0) = m ((c.tc : Thread Cert.DownWeights.nD Cert.DownWeights.τ).loc Cert.DownWeights.main_arg0)
      ∧ r.2.mem ((c.tc : Thread Cert.DownWeights.nD Cert.DownWeights.τ).loc Cert.DownWeights.main_arg1) = m ((c.tc : Thread Cert.DownWeights.nD Cert.DownWeights.τ).loc Cert.DownWeights.main_arg1)
      ∧ r.2.mem ((c.tc : Thread Cert.DownWeights.nD Cert.DownWeights.τ).loc Cert.DownWeights.main_arg2) = m ((c.tc : Thread Cert.DownWeights.nD Cert.DownWeights.τ).loc Cert.DownWeights.main_arg2)
      ∧ r.2.mem ((c.tc : Thread Cert.DownWeights.nD Cert.DownWeights.τ).loc Cert.DownWeights.main_arg3) = m ((c.tc : Thread Cert.DownWeights.nD Cert.DownWeights.τ).loc Cert.DownWeights.main_arg3))
      ∧ r.2.sem = fun _ => 0)

def quiescent_DownWeightsIdeal [hDownWeightsIdeal : Cert.DownWeightsIdeal.Facts] : Prop :=
  ∀ (m : (ℓ : Loc Cert.DownWeightsIdeal.nD Cert.DownWeightsIdeal.τ Cert.DownWeightsIdeal.sig) → Buf (Elt Ideal) ℓ) (g : Dev Cert.DownWeightsIdeal.nD → PrngReg), Pre_DownWeightsIdeal m →
    θ_run (Cert.DownWeightsIdeal.defs (F := Ideal)) (onTc (τ := Cert.DownWeightsIdeal.τ) (Cert.DownWeightsIdeal.main (F := Ideal))) ⟨m, fun _ => 0, g⟩ (fun r => (∀ c : Dev Cert.DownWeightsIdeal.nD,
      r.2.mem ((c.tc : Thread Cert.DownWeightsIdeal.nD Cert.DownWeightsIdeal.τ).loc Cert.DownWeightsIdeal.main_arg0) = m ((c.tc : Thread Cert.DownWeightsIdeal.nD Cert.DownWeightsIdeal.τ).loc Cert.DownWeightsIdeal.main_arg0)
      ∧ r.2.mem ((c.tc : Thread Cert.DownWeightsIdeal.nD Cert.DownWeightsIdeal.τ).loc Cert.DownWeightsIdeal.main_arg1) = m ((c.tc : Thread Cert.DownWeightsIdeal.nD Cert.DownWeightsIdeal.τ).loc Cert.DownWeightsIdeal.main_arg1)
      ∧ r.2.mem ((c.tc : Thread Cert.DownWeightsIdeal.nD Cert.DownWeightsIdeal.τ).loc Cert.DownWeightsIdeal.main_arg2) = m ((c.tc : Thread Cert.DownWeightsIdeal.nD Cert.DownWeightsIdeal.τ).loc Cert.DownWeightsIdeal.main_arg2)
      ∧ r.2.mem ((c.tc : Thread Cert.DownWeightsIdeal.nD Cert.DownWeightsIdeal.τ).loc Cert.DownWeightsIdeal.main_arg3) = m ((c.tc : Thread Cert.DownWeightsIdeal.nD Cert.DownWeightsIdeal.τ).loc Cert.DownWeightsIdeal.main_arg3))
      ∧ r.2.sem = fun _ => 0)

def quiescent_DownWeightsReferenceIdeal [hDownWeightsReferenceIdeal : Cert.DownWeightsReferenceIdeal.Facts] : Prop :=
  ∀ (m : (ℓ : Loc Cert.DownWeightsReferenceIdeal.nD Cert.DownWeightsReferenceIdeal.τ Cert.DownWeightsReferenceIdeal.sig) → Buf (Elt Ideal) ℓ) (g : Dev Cert.DownWeightsReferenceIdeal.nD → PrngReg), Pre_DownWeightsReferenceIdeal m →
    θ_run (Cert.DownWeightsReferenceIdeal.defs (F := Ideal)) (onTc (τ := Cert.DownWeightsReferenceIdeal.τ) (Cert.DownWeightsReferenceIdeal.main (F := Ideal))) ⟨m, fun _ => 0, g⟩ (fun r => (∀ c : Dev Cert.DownWeightsReferenceIdeal.nD,
      r.2.mem ((c.tc : Thread Cert.DownWeightsReferenceIdeal.nD Cert.DownWeightsReferenceIdeal.τ).loc Cert.DownWeightsReferenceIdeal.main_arg0) = m ((c.tc : Thread Cert.DownWeightsReferenceIdeal.nD Cert.DownWeightsReferenceIdeal.τ).loc Cert.DownWeightsReferenceIdeal.main_arg0)
      ∧ r.2.mem ((c.tc : Thread Cert.DownWeightsReferenceIdeal.nD Cert.DownWeightsReferenceIdeal.τ).loc Cert.DownWeightsReferenceIdeal.main_arg1) = m ((c.tc : Thread Cert.DownWeightsReferenceIdeal.nD Cert.DownWeightsReferenceIdeal.τ).loc Cert.DownWeightsReferenceIdeal.main_arg1)
      ∧ r.2.mem ((c.tc : Thread Cert.DownWeightsReferenceIdeal.nD Cert.DownWeightsReferenceIdeal.τ).loc Cert.DownWeightsReferenceIdeal.main_arg2) = m ((c.tc : Thread Cert.DownWeightsReferenceIdeal.nD Cert.DownWeightsReferenceIdeal.τ).loc Cert.DownWeightsReferenceIdeal.main_arg2)
      ∧ r.2.mem ((c.tc : Thread Cert.DownWeightsReferenceIdeal.nD Cert.DownWeightsReferenceIdeal.τ).loc Cert.DownWeightsReferenceIdeal.main_arg3) = m ((c.tc : Thread Cert.DownWeightsReferenceIdeal.nD Cert.DownWeightsReferenceIdeal.τ).loc Cert.DownWeightsReferenceIdeal.main_arg3))
      ∧ r.2.sem = fun _ => 0)

def quiescent_InWeights [hInWeights : Cert.InWeights.Facts] : Prop :=
  ∀ (m : (ℓ : Loc Cert.InWeights.nD Cert.InWeights.τ Cert.InWeights.sig) → Buf (Elt Bits) ℓ) (g : Dev Cert.InWeights.nD → PrngReg), Pre_InWeights m →
    θ_run (Cert.InWeights.defs (F := Bits)) (onTc (τ := Cert.InWeights.τ) (Cert.InWeights.main (F := Bits))) ⟨m, fun _ => 0, g⟩ (fun r => (∀ c : Dev Cert.InWeights.nD,
      r.2.mem ((c.tc : Thread Cert.InWeights.nD Cert.InWeights.τ).loc Cert.InWeights.main_arg0) = m ((c.tc : Thread Cert.InWeights.nD Cert.InWeights.τ).loc Cert.InWeights.main_arg0)
      ∧ r.2.mem ((c.tc : Thread Cert.InWeights.nD Cert.InWeights.τ).loc Cert.InWeights.main_arg1) = m ((c.tc : Thread Cert.InWeights.nD Cert.InWeights.τ).loc Cert.InWeights.main_arg1)
      ∧ r.2.mem ((c.tc : Thread Cert.InWeights.nD Cert.InWeights.τ).loc Cert.InWeights.main_arg2) = m ((c.tc : Thread Cert.InWeights.nD Cert.InWeights.τ).loc Cert.InWeights.main_arg2)
      ∧ r.2.mem ((c.tc : Thread Cert.InWeights.nD Cert.InWeights.τ).loc Cert.InWeights.main_arg3) = m ((c.tc : Thread Cert.InWeights.nD Cert.InWeights.τ).loc Cert.InWeights.main_arg3))
      ∧ r.2.sem = fun _ => 0)

def quiescent_InWeightsIdeal [hInWeightsIdeal : Cert.InWeightsIdeal.Facts] : Prop :=
  ∀ (m : (ℓ : Loc Cert.InWeightsIdeal.nD Cert.InWeightsIdeal.τ Cert.InWeightsIdeal.sig) → Buf (Elt Ideal) ℓ) (g : Dev Cert.InWeightsIdeal.nD → PrngReg), Pre_InWeightsIdeal m →
    θ_run (Cert.InWeightsIdeal.defs (F := Ideal)) (onTc (τ := Cert.InWeightsIdeal.τ) (Cert.InWeightsIdeal.main (F := Ideal))) ⟨m, fun _ => 0, g⟩ (fun r => (∀ c : Dev Cert.InWeightsIdeal.nD,
      r.2.mem ((c.tc : Thread Cert.InWeightsIdeal.nD Cert.InWeightsIdeal.τ).loc Cert.InWeightsIdeal.main_arg0) = m ((c.tc : Thread Cert.InWeightsIdeal.nD Cert.InWeightsIdeal.τ).loc Cert.InWeightsIdeal.main_arg0)
      ∧ r.2.mem ((c.tc : Thread Cert.InWeightsIdeal.nD Cert.InWeightsIdeal.τ).loc Cert.InWeightsIdeal.main_arg1) = m ((c.tc : Thread Cert.InWeightsIdeal.nD Cert.InWeightsIdeal.τ).loc Cert.InWeightsIdeal.main_arg1)
      ∧ r.2.mem ((c.tc : Thread Cert.InWeightsIdeal.nD Cert.InWeightsIdeal.τ).loc Cert.InWeightsIdeal.main_arg2) = m ((c.tc : Thread Cert.InWeightsIdeal.nD Cert.InWeightsIdeal.τ).loc Cert.InWeightsIdeal.main_arg2)
      ∧ r.2.mem ((c.tc : Thread Cert.InWeightsIdeal.nD Cert.InWeightsIdeal.τ).loc Cert.InWeightsIdeal.main_arg3) = m ((c.tc : Thread Cert.InWeightsIdeal.nD Cert.InWeightsIdeal.τ).loc Cert.InWeightsIdeal.main_arg3))
      ∧ r.2.sem = fun _ => 0)

def quiescent_InWeightsReferenceIdeal [hInWeightsReferenceIdeal : Cert.InWeightsReferenceIdeal.Facts] : Prop :=
  ∀ (m : (ℓ : Loc Cert.InWeightsReferenceIdeal.nD Cert.InWeightsReferenceIdeal.τ Cert.InWeightsReferenceIdeal.sig) → Buf (Elt Ideal) ℓ) (g : Dev Cert.InWeightsReferenceIdeal.nD → PrngReg), Pre_InWeightsReferenceIdeal m →
    θ_run (Cert.InWeightsReferenceIdeal.defs (F := Ideal)) (onTc (τ := Cert.InWeightsReferenceIdeal.τ) (Cert.InWeightsReferenceIdeal.main (F := Ideal))) ⟨m, fun _ => 0, g⟩ (fun r => (∀ c : Dev Cert.InWeightsReferenceIdeal.nD,
      r.2.mem ((c.tc : Thread Cert.InWeightsReferenceIdeal.nD Cert.InWeightsReferenceIdeal.τ).loc Cert.InWeightsReferenceIdeal.main_arg0) = m ((c.tc : Thread Cert.InWeightsReferenceIdeal.nD Cert.InWeightsReferenceIdeal.τ).loc Cert.InWeightsReferenceIdeal.main_arg0)
      ∧ r.2.mem ((c.tc : Thread Cert.InWeightsReferenceIdeal.nD Cert.InWeightsReferenceIdeal.τ).loc Cert.InWeightsReferenceIdeal.main_arg1) = m ((c.tc : Thread Cert.InWeightsReferenceIdeal.nD Cert.InWeightsReferenceIdeal.τ).loc Cert.InWeightsReferenceIdeal.main_arg1)
      ∧ r.2.mem ((c.tc : Thread Cert.InWeightsReferenceIdeal.nD Cert.InWeightsReferenceIdeal.τ).loc Cert.InWeightsReferenceIdeal.main_arg2) = m ((c.tc : Thread Cert.InWeightsReferenceIdeal.nD Cert.InWeightsReferenceIdeal.τ).loc Cert.InWeightsReferenceIdeal.main_arg2)
      ∧ r.2.mem ((c.tc : Thread Cert.InWeightsReferenceIdeal.nD Cert.InWeightsReferenceIdeal.τ).loc Cert.InWeightsReferenceIdeal.main_arg3) = m ((c.tc : Thread Cert.InWeightsReferenceIdeal.nD Cert.InWeightsReferenceIdeal.τ).loc Cert.InWeightsReferenceIdeal.main_arg3))
      ∧ r.2.sem = fun _ => 0)

def quiescent_OutWeights [hOutWeights : Cert.OutWeights.Facts] : Prop :=
  ∀ (m : (ℓ : Loc Cert.OutWeights.nD Cert.OutWeights.τ Cert.OutWeights.sig) → Buf (Elt Bits) ℓ) (g : Dev Cert.OutWeights.nD → PrngReg), Pre_OutWeights m →
    θ_run (Cert.OutWeights.defs (F := Bits)) (onTc (τ := Cert.OutWeights.τ) (Cert.OutWeights.main (F := Bits))) ⟨m, fun _ => 0, g⟩ (fun r => (∀ c : Dev Cert.OutWeights.nD,
      r.2.mem ((c.tc : Thread Cert.OutWeights.nD Cert.OutWeights.τ).loc Cert.OutWeights.main_arg0) = m ((c.tc : Thread Cert.OutWeights.nD Cert.OutWeights.τ).loc Cert.OutWeights.main_arg0)
      ∧ r.2.mem ((c.tc : Thread Cert.OutWeights.nD Cert.OutWeights.τ).loc Cert.OutWeights.main_arg1) = m ((c.tc : Thread Cert.OutWeights.nD Cert.OutWeights.τ).loc Cert.OutWeights.main_arg1)
      ∧ r.2.mem ((c.tc : Thread Cert.OutWeights.nD Cert.OutWeights.τ).loc Cert.OutWeights.main_arg2) = m ((c.tc : Thread Cert.OutWeights.nD Cert.OutWeights.τ).loc Cert.OutWeights.main_arg2))
      ∧ r.2.sem = fun _ => 0)

def quiescent_OutWeightsIdeal [hOutWeightsIdeal : Cert.OutWeightsIdeal.Facts] : Prop :=
  ∀ (m : (ℓ : Loc Cert.OutWeightsIdeal.nD Cert.OutWeightsIdeal.τ Cert.OutWeightsIdeal.sig) → Buf (Elt Ideal) ℓ) (g : Dev Cert.OutWeightsIdeal.nD → PrngReg), Pre_OutWeightsIdeal m →
    θ_run (Cert.OutWeightsIdeal.defs (F := Ideal)) (onTc (τ := Cert.OutWeightsIdeal.τ) (Cert.OutWeightsIdeal.main (F := Ideal))) ⟨m, fun _ => 0, g⟩ (fun r => (∀ c : Dev Cert.OutWeightsIdeal.nD,
      r.2.mem ((c.tc : Thread Cert.OutWeightsIdeal.nD Cert.OutWeightsIdeal.τ).loc Cert.OutWeightsIdeal.main_arg0) = m ((c.tc : Thread Cert.OutWeightsIdeal.nD Cert.OutWeightsIdeal.τ).loc Cert.OutWeightsIdeal.main_arg0)
      ∧ r.2.mem ((c.tc : Thread Cert.OutWeightsIdeal.nD Cert.OutWeightsIdeal.τ).loc Cert.OutWeightsIdeal.main_arg1) = m ((c.tc : Thread Cert.OutWeightsIdeal.nD Cert.OutWeightsIdeal.τ).loc Cert.OutWeightsIdeal.main_arg1)
      ∧ r.2.mem ((c.tc : Thread Cert.OutWeightsIdeal.nD Cert.OutWeightsIdeal.τ).loc Cert.OutWeightsIdeal.main_arg2) = m ((c.tc : Thread Cert.OutWeightsIdeal.nD Cert.OutWeightsIdeal.τ).loc Cert.OutWeightsIdeal.main_arg2))
      ∧ r.2.sem = fun _ => 0)

def quiescent_OutWeightsReferenceIdeal [hOutWeightsReferenceIdeal : Cert.OutWeightsReferenceIdeal.Facts] : Prop :=
  ∀ (m : (ℓ : Loc Cert.OutWeightsReferenceIdeal.nD Cert.OutWeightsReferenceIdeal.τ Cert.OutWeightsReferenceIdeal.sig) → Buf (Elt Ideal) ℓ) (g : Dev Cert.OutWeightsReferenceIdeal.nD → PrngReg), Pre_OutWeightsReferenceIdeal m →
    θ_run (Cert.OutWeightsReferenceIdeal.defs (F := Ideal)) (onTc (τ := Cert.OutWeightsReferenceIdeal.τ) (Cert.OutWeightsReferenceIdeal.main (F := Ideal))) ⟨m, fun _ => 0, g⟩ (fun r => (∀ c : Dev Cert.OutWeightsReferenceIdeal.nD,
      r.2.mem ((c.tc : Thread Cert.OutWeightsReferenceIdeal.nD Cert.OutWeightsReferenceIdeal.τ).loc Cert.OutWeightsReferenceIdeal.main_arg0) = m ((c.tc : Thread Cert.OutWeightsReferenceIdeal.nD Cert.OutWeightsReferenceIdeal.τ).loc Cert.OutWeightsReferenceIdeal.main_arg0)
      ∧ r.2.mem ((c.tc : Thread Cert.OutWeightsReferenceIdeal.nD Cert.OutWeightsReferenceIdeal.τ).loc Cert.OutWeightsReferenceIdeal.main_arg1) = m ((c.tc : Thread Cert.OutWeightsReferenceIdeal.nD Cert.OutWeightsReferenceIdeal.τ).loc Cert.OutWeightsReferenceIdeal.main_arg1)
      ∧ r.2.mem ((c.tc : Thread Cert.OutWeightsReferenceIdeal.nD Cert.OutWeightsReferenceIdeal.τ).loc Cert.OutWeightsReferenceIdeal.main_arg2) = m ((c.tc : Thread Cert.OutWeightsReferenceIdeal.nD Cert.OutWeightsReferenceIdeal.τ).loc Cert.OutWeightsReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_DownForward [hDownForward : Cert.DownForward.Facts] : Prop :=
  ∀ (m : (ℓ : Loc Cert.DownForward.nD Cert.DownForward.τ Cert.DownForward.sig) → Buf (Elt Bits) ℓ) (g : Dev Cert.DownForward.nD → PrngReg), Pre_DownForward m →
    θ_run (Cert.DownForward.defs (F := Bits)) (onTc (τ := Cert.DownForward.τ) (Cert.DownForward.main (F := Bits))) ⟨m, fun _ => 0, g⟩ (fun r => (∀ c : Dev Cert.DownForward.nD,
      r.2.mem ((c.tc : Thread Cert.DownForward.nD Cert.DownForward.τ).loc Cert.DownForward.main_arg0) = m ((c.tc : Thread Cert.DownForward.nD Cert.DownForward.τ).loc Cert.DownForward.main_arg0)
      ∧ r.2.mem ((c.tc : Thread Cert.DownForward.nD Cert.DownForward.τ).loc Cert.DownForward.main_arg1) = m ((c.tc : Thread Cert.DownForward.nD Cert.DownForward.τ).loc Cert.DownForward.main_arg1)
      ∧ r.2.mem ((c.tc : Thread Cert.DownForward.nD Cert.DownForward.τ).loc Cert.DownForward.main_arg2) = m ((c.tc : Thread Cert.DownForward.nD Cert.DownForward.τ).loc Cert.DownForward.main_arg2)
      ∧ r.2.mem ((c.tc : Thread Cert.DownForward.nD Cert.DownForward.τ).loc Cert.DownForward.main_arg3) = m ((c.tc : Thread Cert.DownForward.nD Cert.DownForward.τ).loc Cert.DownForward.main_arg3)
      ∧ r.2.mem ((c.tc : Thread Cert.DownForward.nD Cert.DownForward.τ).loc Cert.DownForward.main_arg4) = m ((c.tc : Thread Cert.DownForward.nD Cert.DownForward.τ).loc Cert.DownForward.main_arg4))
      ∧ r.2.sem = fun _ => 0)

def quiescent_DownForwardIdeal [hDownForwardIdeal : Cert.DownForwardIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg), Pre_DownForwardIdeal m →
    θ_run (Cert.DownForwardIdeal.defs (F := Ideal)) (onTc (τ := Cert.DownForwardIdeal.τ) (Cert.DownForwardIdeal.main (F := Ideal))) ⟨m, fun _ => 0, g⟩ (fun r => (∀ c : Dev Cert.DownForwardIdeal.nD,
      r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
      ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1)
      ∧ r.2.mem ((c.tc : Thread Cert.DownForwardIdeal.nD Cert.DownForwardIdeal.τ).loc Cert.DownForwardIdeal.main_arg2) = m ((c.tc : Thread Cert.DownForwardIdeal.nD Cert.DownForwardIdeal.τ).loc Cert.DownForwardIdeal.main_arg2)
      ∧ r.2.mem ((c.tc : Thread Cert.DownForwardIdeal.nD Cert.DownForwardIdeal.τ).loc Cert.DownForwardIdeal.main_arg3) = m ((c.tc : Thread Cert.DownForwardIdeal.nD Cert.DownForwardIdeal.τ).loc Cert.DownForwardIdeal.main_arg3)
      ∧ r.2.mem ((c.tc : Thread Cert.DownForwardIdeal.nD Cert.DownForwardIdeal.τ).loc Cert.DownForwardIdeal.main_arg4) = m ((c.tc : Thread Cert.DownForwardIdeal.nD Cert.DownForwardIdeal.τ).loc Cert.DownForwardIdeal.main_arg4))
      ∧ r.2.sem = fun _ => 0)

def quiescent_DownForwardReferenceIdeal [hDownForwardReferenceIdeal : Cert.DownForwardReferenceIdeal.Facts] : Prop :=
  ∀ (m : (ℓ : Loc Cert.DownForwardReferenceIdeal.nD Cert.DownForwardReferenceIdeal.τ Cert.DownForwardReferenceIdeal.sig) → Buf (Elt Ideal) ℓ) (g : Dev Cert.DownForwardReferenceIdeal.nD → PrngReg), Pre_DownForwardReferenceIdeal m →
    θ_run (Cert.DownForwardReferenceIdeal.defs (F := Ideal)) (onTc (τ := Cert.DownForwardReferenceIdeal.τ) (Cert.DownForwardReferenceIdeal.main (F := Ideal))) ⟨m, fun _ => 0, g⟩ (fun r => (∀ c : Dev Cert.DownForwardReferenceIdeal.nD,
      r.2.mem ((c.tc : Thread Cert.DownForwardReferenceIdeal.nD Cert.DownForwardReferenceIdeal.τ).loc Cert.DownForwardReferenceIdeal.main_arg0) = m ((c.tc : Thread Cert.DownForwardReferenceIdeal.nD Cert.DownForwardReferenceIdeal.τ).loc Cert.DownForwardReferenceIdeal.main_arg0)
      ∧ r.2.mem ((c.tc : Thread Cert.DownForwardReferenceIdeal.nD Cert.DownForwardReferenceIdeal.τ).loc Cert.DownForwardReferenceIdeal.main_arg1) = m ((c.tc : Thread Cert.DownForwardReferenceIdeal.nD Cert.DownForwardReferenceIdeal.τ).loc Cert.DownForwardReferenceIdeal.main_arg1)
      ∧ r.2.mem ((c.tc : Thread Cert.DownForwardReferenceIdeal.nD Cert.DownForwardReferenceIdeal.τ).loc Cert.DownForwardReferenceIdeal.main_arg2) = m ((c.tc : Thread Cert.DownForwardReferenceIdeal.nD Cert.DownForwardReferenceIdeal.τ).loc Cert.DownForwardReferenceIdeal.main_arg2)
      ∧ r.2.mem ((c.tc : Thread Cert.DownForwardReferenceIdeal.nD Cert.DownForwardReferenceIdeal.τ).loc Cert.DownForwardReferenceIdeal.main_arg3) = m ((c.tc : Thread Cert.DownForwardReferenceIdeal.nD Cert.DownForwardReferenceIdeal.τ).loc Cert.DownForwardReferenceIdeal.main_arg3)
      ∧ r.2.mem ((c.tc : Thread Cert.DownForwardReferenceIdeal.nD Cert.DownForwardReferenceIdeal.τ).loc Cert.DownForwardReferenceIdeal.main_arg4) = m ((c.tc : Thread Cert.DownForwardReferenceIdeal.nD Cert.DownForwardReferenceIdeal.τ).loc Cert.DownForwardReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6)
      ∧ r.2.mem ((c.tc : Thread Cert.GateUpReferenceIdeal.nD Cert.GateUpReferenceIdeal.τ).loc Cert.GateUpReferenceIdeal.main_arg7) = m ((c.tc : Thread Cert.GateUpReferenceIdeal.nD Cert.GateUpReferenceIdeal.τ).loc Cert.GateUpReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal_pre_finite_but_gate [hDownIdeal : Cert.DownIdeal.Facts] [hDownReferenceIdeal : Cert.DownReferenceIdeal.Facts] [hPre_finite_but_gate : Cert.Pre_finite_but_gate.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_finite_but_gate m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_v8) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)
      ∧ m' ((c.tc : Thread Cert.WeightsReferenceIdeal.nD Cert.WeightsReferenceIdeal.τ).loc Cert.WeightsReferenceIdeal.main_arg3) = m ((c.tc : Thread Cert.WeightsIdeal.nD Cert.WeightsIdeal.τ).loc Cert.WeightsIdeal.main_arg3)
      ∧ m' ((c.tc : Thread Cert.WeightsReferenceIdeal.nD Cert.WeightsReferenceIdeal.τ).loc Cert.WeightsReferenceIdeal.main_arg4) = m ((c.tc : Thread Cert.WeightsIdeal.nD Cert.WeightsIdeal.τ).loc Cert.WeightsIdeal.main_arg4)) →
    ∃ (v0 : (c : Dev Cert.WeightsIdeal.nD) → Buf (Elt Ideal) ((c.tc : Thread Cert.WeightsIdeal.nD Cert.WeightsIdeal.τ).loc Cert.WeightsIdeal.main_v4)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v4) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v7) = v0 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2)
          ∧ r.2.mem ((c.tc : Thread Cert.WeightsReferenceIdeal.nD Cert.WeightsReferenceIdeal.τ).loc Cert.WeightsReferenceIdeal.main_arg3) = m' ((c.tc : Thread Cert.WeightsReferenceIdeal.nD Cert.WeightsReferenceIdeal.τ).loc Cert.WeightsReferenceIdeal.main_arg3)
          ∧ r.2.mem ((c.tc : Thread Cert.WeightsReferenceIdeal.nD Cert.WeightsReferenceIdeal.τ).loc Cert.WeightsReferenceIdeal.main_arg4) = m' ((c.tc : Thread Cert.WeightsReferenceIdeal.nD Cert.WeightsReferenceIdeal.τ).loc Cert.WeightsReferenceIdeal.main_arg4))

def preserves_DownWeights_DownWeightsIdeal : Prop :=
  True

def algebraic_DownWeightsIdeal_DownWeightsReferenceIdeal [hDownWeightsIdeal : Cert.DownWeightsIdeal.Facts] [hDownWeightsReferenceIdeal : Cert.DownWeightsReferenceIdeal.Facts] : Prop :=
  ∀ (m : (ℓ : Loc Cert.DownWeightsIdeal.nD Cert.DownWeightsIdeal.τ Cert.DownWeightsIdeal.sig) → Buf (Elt Ideal) ℓ) (g : Dev Cert.DownWeightsIdeal.nD → PrngReg)
    (m' : (ℓ : Loc Cert.DownWeightsReferenceIdeal.nD Cert.DownWeightsReferenceIdeal.τ Cert.DownWeightsReferenceIdeal.sig) → Buf (Elt Ideal) ℓ) (g' : Dev Cert.DownWeightsReferenceIdeal.nD → PrngReg), Pre_DownWeightsIdeal m →
    (∀ c : Dev Cert.DownWeightsIdeal.nD,
      m' ((c.tc : Thread Cert.DownWeightsReferenceIdeal.nD Cert.DownWeightsReferenceIdeal.τ).loc Cert.DownWeightsReferenceIdeal.main_arg0) = m ((c.tc : Thread Cert.DownWeightsIdeal.nD Cert.DownWeightsIdeal.τ).loc Cert.DownWeightsIdeal.main_arg0)
      ∧ m' ((c.tc : Thread Cert.DownWeightsReferenceIdeal.nD Cert.DownWeightsReferenceIdeal.τ).loc Cert.DownWeightsReferenceIdeal.main_arg1) = m ((c.tc : Thread Cert.DownWeightsIdeal.nD Cert.DownWeightsIdeal.τ).loc Cert.DownWeightsIdeal.main_arg1)
      ∧ m' ((c.tc : Thread Cert.DownWeightsReferenceIdeal.nD Cert.DownWeightsReferenceIdeal.τ).loc Cert.DownWeightsReferenceIdeal.main_arg2) = m ((c.tc : Thread Cert.DownWeightsIdeal.nD Cert.DownWeightsIdeal.τ).loc Cert.DownWeightsIdeal.main_arg2)
      ∧ m' ((c.tc : Thread Cert.DownWeightsReferenceIdeal.nD Cert.DownWeightsReferenceIdeal.τ).loc Cert.DownWeightsReferenceIdeal.main_arg3) = m ((c.tc : Thread Cert.DownWeightsIdeal.nD Cert.DownWeightsIdeal.τ).loc Cert.DownWeightsIdeal.main_arg3)) →
    ∃ (v0 : (c : Dev Cert.DownWeightsIdeal.nD) → Buf (Elt Ideal) ((c.tc : Thread Cert.DownWeightsIdeal.nD Cert.DownWeightsIdeal.τ).loc Cert.DownWeightsIdeal.main_v4)),
      θ_run (Cert.DownWeightsIdeal.defs (F := Ideal)) (onTc (τ := Cert.DownWeightsIdeal.τ) (Cert.DownWeightsIdeal.main (F := Ideal))) ⟨m, fun _ => 0, g⟩ (fun r => ∀ c : Dev Cert.DownWeightsIdeal.nD,
          r.2.mem ((c.tc : Thread Cert.DownWeightsIdeal.nD Cert.DownWeightsIdeal.τ).loc Cert.DownWeightsIdeal.main_v4) = v0 c
          ∧ r.2.mem ((c.tc : Thread Cert.DownWeightsIdeal.nD Cert.DownWeightsIdeal.τ).loc Cert.DownWeightsIdeal.main_arg0) = m ((c.tc : Thread Cert.DownWeightsIdeal.nD Cert.DownWeightsIdeal.τ).loc Cert.DownWeightsIdeal.main_arg0)
          ∧ r.2.mem ((c.tc : Thread Cert.DownWeightsIdeal.nD Cert.DownWeightsIdeal.τ).loc Cert.DownWeightsIdeal.main_arg1) = m ((c.tc : Thread Cert.DownWeightsIdeal.nD Cert.DownWeightsIdeal.τ).loc Cert.DownWeightsIdeal.main_arg1)
          ∧ r.2.mem ((c.tc : Thread Cert.DownWeightsIdeal.nD Cert.DownWeightsIdeal.τ).loc Cert.DownWeightsIdeal.main_arg2) = m ((c.tc : Thread Cert.DownWeightsIdeal.nD Cert.DownWeightsIdeal.τ).loc Cert.DownWeightsIdeal.main_arg2)
          ∧ r.2.mem ((c.tc : Thread Cert.DownWeightsIdeal.nD Cert.DownWeightsIdeal.τ).loc Cert.DownWeightsIdeal.main_arg3) = m ((c.tc : Thread Cert.DownWeightsIdeal.nD Cert.DownWeightsIdeal.τ).loc Cert.DownWeightsIdeal.main_arg3))
      ∧ θ_run (Cert.DownWeightsReferenceIdeal.defs (F := Ideal)) (onTc (τ := Cert.DownWeightsReferenceIdeal.τ) (Cert.DownWeightsReferenceIdeal.main (F := Ideal))) ⟨m', fun _ => 0, g'⟩ (fun r => ∀ c : Dev Cert.DownWeightsReferenceIdeal.nD,
          r.2.mem ((c.tc : Thread Cert.DownWeightsReferenceIdeal.nD Cert.DownWeightsReferenceIdeal.τ).loc Cert.DownWeightsReferenceIdeal.main_v5) = v0 c
          ∧ r.2.mem ((c.tc : Thread Cert.DownWeightsReferenceIdeal.nD Cert.DownWeightsReferenceIdeal.τ).loc Cert.DownWeightsReferenceIdeal.main_arg0) = m' ((c.tc : Thread Cert.DownWeightsReferenceIdeal.nD Cert.DownWeightsReferenceIdeal.τ).loc Cert.DownWeightsReferenceIdeal.main_arg0)
          ∧ r.2.mem ((c.tc : Thread Cert.DownWeightsReferenceIdeal.nD Cert.DownWeightsReferenceIdeal.τ).loc Cert.DownWeightsReferenceIdeal.main_arg1) = m' ((c.tc : Thread Cert.DownWeightsReferenceIdeal.nD Cert.DownWeightsReferenceIdeal.τ).loc Cert.DownWeightsReferenceIdeal.main_arg1)
          ∧ r.2.mem ((c.tc : Thread Cert.DownWeightsReferenceIdeal.nD Cert.DownWeightsReferenceIdeal.τ).loc Cert.DownWeightsReferenceIdeal.main_arg2) = m' ((c.tc : Thread Cert.DownWeightsReferenceIdeal.nD Cert.DownWeightsReferenceIdeal.τ).loc Cert.DownWeightsReferenceIdeal.main_arg2)
          ∧ r.2.mem ((c.tc : Thread Cert.DownWeightsReferenceIdeal.nD Cert.DownWeightsReferenceIdeal.τ).loc Cert.DownWeightsReferenceIdeal.main_arg3) = m' ((c.tc : Thread Cert.DownWeightsReferenceIdeal.nD Cert.DownWeightsReferenceIdeal.τ).loc Cert.DownWeightsReferenceIdeal.main_arg3))

def preserves_InWeights_InWeightsIdeal : Prop :=
  True

def algebraic_InWeightsIdeal_InWeightsReferenceIdeal [hInWeightsIdeal : Cert.InWeightsIdeal.Facts] [hInWeightsReferenceIdeal : Cert.InWeightsReferenceIdeal.Facts] : Prop :=
  ∀ (m : (ℓ : Loc Cert.InWeightsIdeal.nD Cert.InWeightsIdeal.τ Cert.InWeightsIdeal.sig) → Buf (Elt Ideal) ℓ) (g : Dev Cert.InWeightsIdeal.nD → PrngReg)
    (m' : (ℓ : Loc Cert.InWeightsReferenceIdeal.nD Cert.InWeightsReferenceIdeal.τ Cert.InWeightsReferenceIdeal.sig) → Buf (Elt Ideal) ℓ) (g' : Dev Cert.InWeightsReferenceIdeal.nD → PrngReg), Pre_InWeightsIdeal m →
    (∀ c : Dev Cert.InWeightsIdeal.nD,
      m' ((c.tc : Thread Cert.InWeightsReferenceIdeal.nD Cert.InWeightsReferenceIdeal.τ).loc Cert.InWeightsReferenceIdeal.main_arg0) = m ((c.tc : Thread Cert.InWeightsIdeal.nD Cert.InWeightsIdeal.τ).loc Cert.InWeightsIdeal.main_arg0)
      ∧ m' ((c.tc : Thread Cert.InWeightsReferenceIdeal.nD Cert.InWeightsReferenceIdeal.τ).loc Cert.InWeightsReferenceIdeal.main_arg1) = m ((c.tc : Thread Cert.InWeightsIdeal.nD Cert.InWeightsIdeal.τ).loc Cert.InWeightsIdeal.main_arg1)
      ∧ m' ((c.tc : Thread Cert.InWeightsReferenceIdeal.nD Cert.InWeightsReferenceIdeal.τ).loc Cert.InWeightsReferenceIdeal.main_arg2) = m ((c.tc : Thread Cert.InWeightsIdeal.nD Cert.InWeightsIdeal.τ).loc Cert.InWeightsIdeal.main_arg2)
      ∧ m' ((c.tc : Thread Cert.InWeightsReferenceIdeal.nD Cert.InWeightsReferenceIdeal.τ).loc Cert.InWeightsReferenceIdeal.main_arg3) = m ((c.tc : Thread Cert.InWeightsIdeal.nD Cert.InWeightsIdeal.τ).loc Cert.InWeightsIdeal.main_arg3)) →
    ∃ (v0 : (c : Dev Cert.InWeightsIdeal.nD) → Buf (Elt Ideal) ((c.tc : Thread Cert.InWeightsIdeal.nD Cert.InWeightsIdeal.τ).loc Cert.InWeightsIdeal.main_v3)),
      θ_run (Cert.InWeightsIdeal.defs (F := Ideal)) (onTc (τ := Cert.InWeightsIdeal.τ) (Cert.InWeightsIdeal.main (F := Ideal))) ⟨m, fun _ => 0, g⟩ (fun r => ∀ c : Dev Cert.InWeightsIdeal.nD,
          r.2.mem ((c.tc : Thread Cert.InWeightsIdeal.nD Cert.InWeightsIdeal.τ).loc Cert.InWeightsIdeal.main_v3) = v0 c
          ∧ r.2.mem ((c.tc : Thread Cert.InWeightsIdeal.nD Cert.InWeightsIdeal.τ).loc Cert.InWeightsIdeal.main_arg0) = m ((c.tc : Thread Cert.InWeightsIdeal.nD Cert.InWeightsIdeal.τ).loc Cert.InWeightsIdeal.main_arg0)
          ∧ r.2.mem ((c.tc : Thread Cert.InWeightsIdeal.nD Cert.InWeightsIdeal.τ).loc Cert.InWeightsIdeal.main_arg1) = m ((c.tc : Thread Cert.InWeightsIdeal.nD Cert.InWeightsIdeal.τ).loc Cert.InWeightsIdeal.main_arg1)
          ∧ r.2.mem ((c.tc : Thread Cert.InWeightsIdeal.nD Cert.InWeightsIdeal.τ).loc Cert.InWeightsIdeal.main_arg2) = m ((c.tc : Thread Cert.InWeightsIdeal.nD Cert.InWeightsIdeal.τ).loc Cert.InWeightsIdeal.main_arg2)
          ∧ r.2.mem ((c.tc : Thread Cert.InWeightsIdeal.nD Cert.InWeightsIdeal.τ).loc Cert.InWeightsIdeal.main_arg3) = m ((c.tc : Thread Cert.InWeightsIdeal.nD Cert.InWeightsIdeal.τ).loc Cert.InWeightsIdeal.main_arg3))
      ∧ θ_run (Cert.InWeightsReferenceIdeal.defs (F := Ideal)) (onTc (τ := Cert.InWeightsReferenceIdeal.τ) (Cert.InWeightsReferenceIdeal.main (F := Ideal))) ⟨m', fun _ => 0, g'⟩ (fun r => ∀ c : Dev Cert.InWeightsReferenceIdeal.nD,
          r.2.mem ((c.tc : Thread Cert.InWeightsReferenceIdeal.nD Cert.InWeightsReferenceIdeal.τ).loc Cert.InWeightsReferenceIdeal.main_v24) = v0 c
          ∧ r.2.mem ((c.tc : Thread Cert.InWeightsReferenceIdeal.nD Cert.InWeightsReferenceIdeal.τ).loc Cert.InWeightsReferenceIdeal.main_arg0) = m' ((c.tc : Thread Cert.InWeightsReferenceIdeal.nD Cert.InWeightsReferenceIdeal.τ).loc Cert.InWeightsReferenceIdeal.main_arg0)
          ∧ r.2.mem ((c.tc : Thread Cert.InWeightsReferenceIdeal.nD Cert.InWeightsReferenceIdeal.τ).loc Cert.InWeightsReferenceIdeal.main_arg1) = m' ((c.tc : Thread Cert.InWeightsReferenceIdeal.nD Cert.InWeightsReferenceIdeal.τ).loc Cert.InWeightsReferenceIdeal.main_arg1)
          ∧ r.2.mem ((c.tc : Thread Cert.InWeightsReferenceIdeal.nD Cert.InWeightsReferenceIdeal.τ).loc Cert.InWeightsReferenceIdeal.main_arg2) = m' ((c.tc : Thread Cert.InWeightsReferenceIdeal.nD Cert.InWeightsReferenceIdeal.τ).loc Cert.InWeightsReferenceIdeal.main_arg2)
          ∧ r.2.mem ((c.tc : Thread Cert.InWeightsReferenceIdeal.nD Cert.InWeightsReferenceIdeal.τ).loc Cert.InWeightsReferenceIdeal.main_arg3) = m' ((c.tc : Thread Cert.InWeightsReferenceIdeal.nD Cert.InWeightsReferenceIdeal.τ).loc Cert.InWeightsReferenceIdeal.main_arg3))

def preserves_OutWeights_OutWeightsIdeal : Prop :=
  True

def algebraic_OutWeightsIdeal_OutWeightsReferenceIdeal [hOutWeightsIdeal : Cert.OutWeightsIdeal.Facts] [hOutWeightsReferenceIdeal : Cert.OutWeightsReferenceIdeal.Facts] : Prop :=
  ∀ (m : (ℓ : Loc Cert.OutWeightsIdeal.nD Cert.OutWeightsIdeal.τ Cert.OutWeightsIdeal.sig) → Buf (Elt Ideal) ℓ) (g : Dev Cert.OutWeightsIdeal.nD → PrngReg)
    (m' : (ℓ : Loc Cert.OutWeightsReferenceIdeal.nD Cert.OutWeightsReferenceIdeal.τ Cert.OutWeightsReferenceIdeal.sig) → Buf (Elt Ideal) ℓ) (g' : Dev Cert.OutWeightsReferenceIdeal.nD → PrngReg), Pre_OutWeightsIdeal m →
    (∀ c : Dev Cert.OutWeightsIdeal.nD,
      m' ((c.tc : Thread Cert.OutWeightsReferenceIdeal.nD Cert.OutWeightsReferenceIdeal.τ).loc Cert.OutWeightsReferenceIdeal.main_arg0) = m ((c.tc : Thread Cert.OutWeightsIdeal.nD Cert.OutWeightsIdeal.τ).loc Cert.OutWeightsIdeal.main_arg0)
      ∧ m' ((c.tc : Thread Cert.OutWeightsReferenceIdeal.nD Cert.OutWeightsReferenceIdeal.τ).loc Cert.OutWeightsReferenceIdeal.main_arg1) = m ((c.tc : Thread Cert.OutWeightsIdeal.nD Cert.OutWeightsIdeal.τ).loc Cert.OutWeightsIdeal.main_arg1)
      ∧ m' ((c.tc : Thread Cert.OutWeightsReferenceIdeal.nD Cert.OutWeightsReferenceIdeal.τ).loc Cert.OutWeightsReferenceIdeal.main_arg2) = m ((c.tc : Thread Cert.OutWeightsIdeal.nD Cert.OutWeightsIdeal.τ).loc Cert.OutWeightsIdeal.main_arg2)) →
    ∃ (v0 : (c : Dev Cert.OutWeightsIdeal.nD) → Buf (Elt Ideal) ((c.tc : Thread Cert.OutWeightsIdeal.nD Cert.OutWeightsIdeal.τ).loc Cert.OutWeightsIdeal.main_v2)),
      θ_run (Cert.OutWeightsIdeal.defs (F := Ideal)) (onTc (τ := Cert.OutWeightsIdeal.τ) (Cert.OutWeightsIdeal.main (F := Ideal))) ⟨m, fun _ => 0, g⟩ (fun r => ∀ c : Dev Cert.OutWeightsIdeal.nD,
          r.2.mem ((c.tc : Thread Cert.OutWeightsIdeal.nD Cert.OutWeightsIdeal.τ).loc Cert.OutWeightsIdeal.main_v2) = v0 c
          ∧ r.2.mem ((c.tc : Thread Cert.OutWeightsIdeal.nD Cert.OutWeightsIdeal.τ).loc Cert.OutWeightsIdeal.main_arg0) = m ((c.tc : Thread Cert.OutWeightsIdeal.nD Cert.OutWeightsIdeal.τ).loc Cert.OutWeightsIdeal.main_arg0)
          ∧ r.2.mem ((c.tc : Thread Cert.OutWeightsIdeal.nD Cert.OutWeightsIdeal.τ).loc Cert.OutWeightsIdeal.main_arg1) = m ((c.tc : Thread Cert.OutWeightsIdeal.nD Cert.OutWeightsIdeal.τ).loc Cert.OutWeightsIdeal.main_arg1)
          ∧ r.2.mem ((c.tc : Thread Cert.OutWeightsIdeal.nD Cert.OutWeightsIdeal.τ).loc Cert.OutWeightsIdeal.main_arg2) = m ((c.tc : Thread Cert.OutWeightsIdeal.nD Cert.OutWeightsIdeal.τ).loc Cert.OutWeightsIdeal.main_arg2))
      ∧ θ_run (Cert.OutWeightsReferenceIdeal.defs (F := Ideal)) (onTc (τ := Cert.OutWeightsReferenceIdeal.τ) (Cert.OutWeightsReferenceIdeal.main (F := Ideal))) ⟨m', fun _ => 0, g'⟩ (fun r => ∀ c : Dev Cert.OutWeightsReferenceIdeal.nD,
          r.2.mem ((c.tc : Thread Cert.OutWeightsReferenceIdeal.nD Cert.OutWeightsReferenceIdeal.τ).loc Cert.OutWeightsReferenceIdeal.main_v3) = v0 c
          ∧ r.2.mem ((c.tc : Thread Cert.OutWeightsReferenceIdeal.nD Cert.OutWeightsReferenceIdeal.τ).loc Cert.OutWeightsReferenceIdeal.main_arg0) = m' ((c.tc : Thread Cert.OutWeightsReferenceIdeal.nD Cert.OutWeightsReferenceIdeal.τ).loc Cert.OutWeightsReferenceIdeal.main_arg0)
          ∧ r.2.mem ((c.tc : Thread Cert.OutWeightsReferenceIdeal.nD Cert.OutWeightsReferenceIdeal.τ).loc Cert.OutWeightsReferenceIdeal.main_arg1) = m' ((c.tc : Thread Cert.OutWeightsReferenceIdeal.nD Cert.OutWeightsReferenceIdeal.τ).loc Cert.OutWeightsReferenceIdeal.main_arg1)
          ∧ r.2.mem ((c.tc : Thread Cert.OutWeightsReferenceIdeal.nD Cert.OutWeightsReferenceIdeal.τ).loc Cert.OutWeightsReferenceIdeal.main_arg2) = m' ((c.tc : Thread Cert.OutWeightsReferenceIdeal.nD Cert.OutWeightsReferenceIdeal.τ).loc Cert.OutWeightsReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v4_0)) (v1 : (c : Dev Cert.GatesIdeal.nD) → Buf (Elt Ideal) ((c.tc : Thread Cert.GatesIdeal.nD Cert.GatesIdeal.τ).loc Cert.GatesIdeal.main_v4_1)) (v2 : (c : Dev Cert.GatesIdeal.nD) → Buf (Elt Ideal) ((c.tc : Thread Cert.GatesIdeal.nD Cert.GatesIdeal.τ).loc Cert.GatesIdeal.main_v4_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4_0) = v0 c
          ∧ r.2.mem ((c.tc : Thread Cert.GatesIdeal.nD Cert.GatesIdeal.τ).loc Cert.GatesIdeal.main_v4_1) = v1 c
          ∧ r.2.mem ((c.tc : Thread Cert.GatesIdeal.nD Cert.GatesIdeal.τ).loc Cert.GatesIdeal.main_v4_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v3) = v0 c
          ∧ r.2.mem ((c.tc : Thread Cert.GatesReferenceIdeal.nD Cert.GatesReferenceIdeal.τ).loc Cert.GatesReferenceIdeal.main_v4) = v1 c
          ∧ r.2.mem ((c.tc : Thread Cert.GatesReferenceIdeal.nD Cert.GatesReferenceIdeal.τ).loc Cert.GatesReferenceIdeal.main_v7) = v2 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_DownForward_DownForwardIdeal : Prop :=
  True

def algebraic_DownForwardIdeal_DownForwardReferenceIdeal [hDownForwardIdeal : Cert.DownForwardIdeal.Facts] [hDownForwardReferenceIdeal : Cert.DownForwardReferenceIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg)
    (m' : (ℓ : Loc Cert.DownForwardReferenceIdeal.nD Cert.DownForwardReferenceIdeal.τ Cert.DownForwardReferenceIdeal.sig) → Buf (Elt Ideal) ℓ) (g' : Dev Cert.DownForwardReferenceIdeal.nD → PrngReg), Pre_DownForwardIdeal m →
    (∀ c : Dev Cert.DownForwardIdeal.nD,
      m' ((c.tc : Thread Cert.DownForwardReferenceIdeal.nD Cert.DownForwardReferenceIdeal.τ).loc Cert.DownForwardReferenceIdeal.main_arg0) = m ((c.tc : Thread Cert.DownForwardIdeal.nD Cert.DownForwardIdeal.τ).loc Cert.DownForwardIdeal.main_arg0)
      ∧ m' ((c.tc : Thread Cert.DownForwardReferenceIdeal.nD Cert.DownForwardReferenceIdeal.τ).loc Cert.DownForwardReferenceIdeal.main_arg1) = m ((c.tc : Thread Cert.DownForwardIdeal.nD Cert.DownForwardIdeal.τ).loc Cert.DownForwardIdeal.main_arg1)
      ∧ m' ((c.tc : Thread Cert.DownForwardReferenceIdeal.nD Cert.DownForwardReferenceIdeal.τ).loc Cert.DownForwardReferenceIdeal.main_arg2) = m ((c.tc : Thread Cert.DownForwardIdeal.nD Cert.DownForwardIdeal.τ).loc Cert.DownForwardIdeal.main_arg2)
      ∧ m' ((c.tc : Thread Cert.DownForwardReferenceIdeal.nD Cert.DownForwardReferenceIdeal.τ).loc Cert.DownForwardReferenceIdeal.main_arg3) = m ((c.tc : Thread Cert.DownForwardIdeal.nD Cert.DownForwardIdeal.τ).loc Cert.DownForwardIdeal.main_arg3)
      ∧ m' ((c.tc : Thread Cert.DownForwardReferenceIdeal.nD Cert.DownForwardReferenceIdeal.τ).loc Cert.DownForwardReferenceIdeal.main_arg4) = m ((c.tc : Thread Cert.DownForwardIdeal.nD Cert.DownForwardIdeal.τ).loc Cert.DownForwardIdeal.main_arg4)) →
    ∃ (v0 : (c : Dev Cert.DownForwardIdeal.nD) → Buf (Elt Ideal) ((c.tc : Thread Cert.DownForwardIdeal.nD Cert.DownForwardIdeal.τ).loc Cert.DownForwardIdeal.main_v5_0)) (v1 : (c : Dev Cert.DownForwardIdeal.nD) → Buf (Elt Ideal) ((c.tc : Thread Cert.DownForwardIdeal.nD Cert.DownForwardIdeal.τ).loc Cert.DownForwardIdeal.main_v5_1)) (v2 : (c : Dev Cert.DownForwardIdeal.nD) → Buf (Elt Ideal) ((c.tc : Thread Cert.DownForwardIdeal.nD Cert.DownForwardIdeal.τ).loc Cert.DownForwardIdeal.main_v5_2)),
      θ_run (Cert.DownForwardIdeal.defs (F := Ideal)) (onTc (τ := Cert.DownForwardIdeal.τ) (Cert.DownForwardIdeal.main (F := Ideal))) ⟨m, fun _ => 0, g⟩ (fun r => ∀ c : Dev Cert.DownForwardIdeal.nD,
          r.2.mem ((c.tc : Thread Cert.DownForwardIdeal.nD Cert.DownForwardIdeal.τ).loc Cert.DownForwardIdeal.main_v5_0) = v0 c
          ∧ r.2.mem ((c.tc : Thread Cert.DownForwardIdeal.nD Cert.DownForwardIdeal.τ).loc Cert.DownForwardIdeal.main_v5_1) = v1 c
          ∧ r.2.mem ((c.tc : Thread Cert.DownForwardIdeal.nD Cert.DownForwardIdeal.τ).loc Cert.DownForwardIdeal.main_v5_2) = v2 c
          ∧ r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
          ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1)
          ∧ r.2.mem ((c.tc : Thread Cert.DownForwardIdeal.nD Cert.DownForwardIdeal.τ).loc Cert.DownForwardIdeal.main_arg2) = m ((c.tc : Thread Cert.DownForwardIdeal.nD Cert.DownForwardIdeal.τ).loc Cert.DownForwardIdeal.main_arg2)
          ∧ r.2.mem ((c.tc : Thread Cert.DownForwardIdeal.nD Cert.DownForwardIdeal.τ).loc Cert.DownForwardIdeal.main_arg3) = m ((c.tc : Thread Cert.DownForwardIdeal.nD Cert.DownForwardIdeal.τ).loc Cert.DownForwardIdeal.main_arg3)
          ∧ r.2.mem ((c.tc : Thread Cert.DownForwardIdeal.nD Cert.DownForwardIdeal.τ).loc Cert.DownForwardIdeal.main_arg4) = m ((c.tc : Thread Cert.DownForwardIdeal.nD Cert.DownForwardIdeal.τ).loc Cert.DownForwardIdeal.main_arg4))
      ∧ θ_run (Cert.DownForwardReferenceIdeal.defs (F := Ideal)) (onTc (τ := Cert.DownForwardReferenceIdeal.τ) (Cert.DownForwardReferenceIdeal.main (F := Ideal))) ⟨m', fun _ => 0, g'⟩ (fun r => ∀ c : Dev Cert.DownForwardReferenceIdeal.nD,
          r.2.mem ((c.tc : Thread Cert.DownForwardReferenceIdeal.nD Cert.DownForwardReferenceIdeal.τ).loc Cert.DownForwardReferenceIdeal.main_v0) = v0 c
          ∧ r.2.mem ((c.tc : Thread Cert.DownForwardReferenceIdeal.nD Cert.DownForwardReferenceIdeal.τ).loc Cert.DownForwardReferenceIdeal.main_v14) = v1 c
          ∧ r.2.mem ((c.tc : Thread Cert.DownForwardReferenceIdeal.nD Cert.DownForwardReferenceIdeal.τ).loc Cert.DownForwardReferenceIdeal.main_v28) = v2 c
          ∧ r.2.mem ((c.tc : Thread Cert.DownForwardReferenceIdeal.nD Cert.DownForwardReferenceIdeal.τ).loc Cert.DownForwardReferenceIdeal.main_arg0) = m' ((c.tc : Thread Cert.DownForwardReferenceIdeal.nD Cert.DownForwardReferenceIdeal.τ).loc Cert.DownForwardReferenceIdeal.main_arg0)
          ∧ r.2.mem ((c.tc : Thread Cert.DownForwardReferenceIdeal.nD Cert.DownForwardReferenceIdeal.τ).loc Cert.DownForwardReferenceIdeal.main_arg1) = m' ((c.tc : Thread Cert.DownForwardReferenceIdeal.nD Cert.DownForwardReferenceIdeal.τ).loc Cert.DownForwardReferenceIdeal.main_arg1)
          ∧ r.2.mem ((c.tc : Thread Cert.DownForwardReferenceIdeal.nD Cert.DownForwardReferenceIdeal.τ).loc Cert.DownForwardReferenceIdeal.main_arg2) = m' ((c.tc : Thread Cert.DownForwardReferenceIdeal.nD Cert.DownForwardReferenceIdeal.τ).loc Cert.DownForwardReferenceIdeal.main_arg2)
          ∧ r.2.mem ((c.tc : Thread Cert.DownForwardReferenceIdeal.nD Cert.DownForwardReferenceIdeal.τ).loc Cert.DownForwardReferenceIdeal.main_arg3) = m' ((c.tc : Thread Cert.DownForwardReferenceIdeal.nD Cert.DownForwardReferenceIdeal.τ).loc Cert.DownForwardReferenceIdeal.main_arg3)
          ∧ r.2.mem ((c.tc : Thread Cert.DownForwardReferenceIdeal.nD Cert.DownForwardReferenceIdeal.τ).loc Cert.DownForwardReferenceIdeal.main_arg4) = m' ((c.tc : Thread Cert.DownForwardReferenceIdeal.nD Cert.DownForwardReferenceIdeal.τ).loc Cert.DownForwardReferenceIdeal.main_arg4))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)
      ∧ m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6)
      ∧ m' ((c.tc : Thread Cert.GateUpReferenceIdeal.nD Cert.GateUpReferenceIdeal.τ).loc Cert.GateUpReferenceIdeal.main_arg7) = m ((c.tc : Thread Cert.GateUpIdeal.nD Cert.GateUpIdeal.τ).loc Cert.GateUpIdeal.main_arg7)) →
    ∃ (v0 : (c : Dev Cert.GateUpIdeal.nD) → Buf (Elt Ideal) ((c.tc : Thread Cert.GateUpIdeal.nD Cert.GateUpIdeal.τ).loc Cert.GateUpIdeal.main_v21_0)) (v1 : (c : Dev Cert.GateUpIdeal.nD) → Buf (Elt Ideal) ((c.tc : Thread Cert.GateUpIdeal.nD Cert.GateUpIdeal.τ).loc Cert.GateUpIdeal.main_v21_2)) (v2 : (c : Dev Cert.GateUpIdeal.nD) → Buf (Elt Ideal) ((c.tc : Thread Cert.GateUpIdeal.nD Cert.GateUpIdeal.τ).loc Cert.GateUpIdeal.main_v21_1)) (v3 : (c : Dev Cert.GateUpIdeal.nD) → Buf (Elt Ideal) ((c.tc : Thread Cert.GateUpIdeal.nD Cert.GateUpIdeal.τ).loc Cert.GateUpIdeal.main_v21_3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v21_0) = v0 c
          ∧ r.2.mem ((c.tc : Thread Cert.GateUpIdeal.nD Cert.GateUpIdeal.τ).loc Cert.GateUpIdeal.main_v21_2) = v1 c
          ∧ r.2.mem ((c.tc : Thread Cert.GateUpIdeal.nD Cert.GateUpIdeal.τ).loc Cert.GateUpIdeal.main_v21_1) = v2 c
          ∧ r.2.mem ((c.tc : Thread Cert.GateUpIdeal.nD Cert.GateUpIdeal.τ).loc Cert.GateUpIdeal.main_v21_3) = v3 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v58) = v0 c
          ∧ r.2.mem ((c.tc : Thread Cert.GateUpReferenceIdeal.nD Cert.GateUpReferenceIdeal.τ).loc Cert.GateUpReferenceIdeal.main_v80) = v1 c
          ∧ r.2.mem ((c.tc : Thread Cert.GateUpReferenceIdeal.nD Cert.GateUpReferenceIdeal.τ).loc Cert.GateUpReferenceIdeal.main_v81) = v2 c
          ∧ r.2.mem ((c.tc : Thread Cert.GateUpReferenceIdeal.nD Cert.GateUpReferenceIdeal.τ).loc Cert.GateUpReferenceIdeal.main_v82) = v3 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5)
          ∧ r.2.mem ((c.tc : Thread Cert.GateUpReferenceIdeal.nD Cert.GateUpReferenceIdeal.τ).loc Cert.GateUpReferenceIdeal.main_arg6) = m' ((c.tc : Thread Cert.GateUpReferenceIdeal.nD Cert.GateUpReferenceIdeal.τ).loc Cert.GateUpReferenceIdeal.main_arg6)
          ∧ r.2.mem ((c.tc : Thread Cert.GateUpReferenceIdeal.nD Cert.GateUpReferenceIdeal.τ).loc Cert.GateUpReferenceIdeal.main_arg7) = m' ((c.tc : Thread Cert.GateUpReferenceIdeal.nD Cert.GateUpReferenceIdeal.τ).loc Cert.GateUpReferenceIdeal.main_arg7))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hWeights : Cert.Weights.Facts) (hWeightsIdeal : Cert.WeightsIdeal.Facts) (hWeightsReferenceIdeal : Cert.WeightsReferenceIdeal.Facts) (hDownWeights : Cert.DownWeights.Facts) (hDownWeightsIdeal : Cert.DownWeightsIdeal.Facts) (hDownWeightsReferenceIdeal : Cert.DownWeightsReferenceIdeal.Facts) (hInWeights : Cert.InWeights.Facts) (hInWeightsIdeal : Cert.InWeightsIdeal.Facts) (hInWeightsReferenceIdeal : Cert.InWeightsReferenceIdeal.Facts) (hOutWeights : Cert.OutWeights.Facts) (hOutWeightsIdeal : Cert.OutWeightsIdeal.Facts) (hOutWeightsReferenceIdeal : Cert.OutWeightsReferenceIdeal.Facts) (hGates : Cert.Gates.Facts) (hGatesIdeal : Cert.GatesIdeal.Facts) (hGatesReferenceIdeal : Cert.GatesReferenceIdeal.Facts) (hDownForward : Cert.DownForward.Facts) (hDownForwardIdeal : Cert.DownForwardIdeal.Facts) (hDownForwardReferenceIdeal : Cert.DownForwardReferenceIdeal.Facts) (hGateUp : Cert.GateUp.Facts) (hGateUpIdeal : Cert.GateUpIdeal.Facts) (hGateUpReferenceIdeal : Cert.GateUpReferenceIdeal.Facts) (hPre_finite : Cert.Pre_finite.Facts) (hPre_finite_but_gate : Cert.Pre_finite_but_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownIdeal_pre_finite_but_gate (hDownIdeal := hDownIdeal) (hPre_finite_but_gate := hPre_finite_but_gate)
    ∧ quiescent_DownReferenceIdeal (hDownReferenceIdeal := hDownReferenceIdeal)
    ∧ quiescent_DownReferenceIdeal_pre_finite_but_gate (hDownReferenceIdeal := hDownReferenceIdeal) (hPre_finite_but_gate := hPre_finite_but_gate)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_DownWeights (hDownWeights := hDownWeights)
    ∧ quiescent_DownWeightsIdeal (hDownWeightsIdeal := hDownWeightsIdeal)
    ∧ quiescent_DownWeightsReferenceIdeal (hDownWeightsReferenceIdeal := hDownWeightsReferenceIdeal)
    ∧ quiescent_InWeights (hInWeights := hInWeights)
    ∧ quiescent_InWeightsIdeal (hInWeightsIdeal := hInWeightsIdeal)
    ∧ quiescent_InWeightsReferenceIdeal (hInWeightsReferenceIdeal := hInWeightsReferenceIdeal)
    ∧ quiescent_OutWeights (hOutWeights := hOutWeights)
    ∧ quiescent_OutWeightsIdeal (hOutWeightsIdeal := hOutWeightsIdeal)
    ∧ quiescent_OutWeightsReferenceIdeal (hOutWeightsReferenceIdeal := hOutWeightsReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_DownForward (hDownForward := hDownForward)
    ∧ quiescent_DownForwardIdeal (hDownForwardIdeal := hDownForwardIdeal)
    ∧ quiescent_DownForwardReferenceIdeal (hDownForwardReferenceIdeal := hDownForwardReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal_pre_finite_but_gate (hDownIdeal := hDownIdeal) (hDownReferenceIdeal := hDownReferenceIdeal) (hPre_finite_but_gate := hPre_finite_but_gate)
    ∧ preserves_Weights_WeightsIdeal
    ∧ algebraic_WeightsIdeal_WeightsReferenceIdeal (hWeightsIdeal := hWeightsIdeal) (hWeightsReferenceIdeal := hWeightsReferenceIdeal)
    ∧ preserves_DownWeights_DownWeightsIdeal
    ∧ algebraic_DownWeightsIdeal_DownWeightsReferenceIdeal (hDownWeightsIdeal := hDownWeightsIdeal) (hDownWeightsReferenceIdeal := hDownWeightsReferenceIdeal)
    ∧ preserves_InWeights_InWeightsIdeal
    ∧ algebraic_InWeightsIdeal_InWeightsReferenceIdeal (hInWeightsIdeal := hInWeightsIdeal) (hInWeightsReferenceIdeal := hInWeightsReferenceIdeal)
    ∧ preserves_OutWeights_OutWeightsIdeal
    ∧ algebraic_OutWeightsIdeal_OutWeightsReferenceIdeal (hOutWeightsIdeal := hOutWeightsIdeal) (hOutWeightsReferenceIdeal := hOutWeightsReferenceIdeal)
    ∧ preserves_Gates_GatesIdeal
    ∧ algebraic_GatesIdeal_GatesReferenceIdeal (hGatesIdeal := hGatesIdeal) (hGatesReferenceIdeal := hGatesReferenceIdeal)
    ∧ preserves_DownForward_DownForwardIdeal
    ∧ algebraic_DownForwardIdeal_DownForwardReferenceIdeal (hDownForwardIdeal := hDownForwardIdeal) (hDownForwardReferenceIdeal := hDownForwardReferenceIdeal)
    ∧ preserves_GateUp_GateUpIdeal
    ∧ algebraic_GateUpIdeal_GateUpReferenceIdeal (hGateUpIdeal := hGateUpIdeal) (hGateUpReferenceIdeal := hGateUpReferenceIdeal)
-- ==== Pre_finite.lean ====
abbrev S4096x512 : Shape := ⟨2, ![4096, 512]⟩
abbrev S4096x8 : Shape := ⟨2, ![4096, 8]⟩
abbrev S4096x2064 : Shape := ⟨2, ![4096, 2064]⟩
abbrev S_ : Shape := ⟨0, ![]⟩

class Facts : Prop where
  concatenates_S4096x512_S4096x512_S4096x512_S4096x8_S4096x8_S4096x512_S4096x2064_d1 : Shape.Concatenates [S4096x512, S4096x512, S4096x512, S4096x8, S4096x8, S4096x512] S4096x2064 1
  bcast_S_S4096x2064 : S_.BroadcastsInDim S4096x2064 (![] : Fin 0 → Fin S4096x2064.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x8 .f32) (main_arg5 : FVec F S4096x512 .f32) : IVec S4096x2064 1 :=
  let main_v0 : FVec F S4096x2064 .f32 := concatenate S4096x2064 1 [⟨S4096x512, main_arg0⟩, ⟨S4096x512, main_arg1⟩, ⟨S4096x512, main_arg2⟩, ⟨S4096x8, main_arg3⟩, ⟨S4096x8, main_arg4⟩, ⟨S4096x512, main_arg5⟩] concatenates_S4096x512_S4096x512_S4096x512_S4096x8_S4096x8_S4096x512_S4096x2064_d1
  let main_v1 : FVec F S4096x2064 .f32 := Host.absf main_v0
  let main_cst : FVec F S_ .f32 := constant S_ .f32 0x7F800000#32
  let main_v2 : FVec F S4096x2064 .f32 := broadcastInDim S4096x2064 ![] bcast_S_S4096x2064 main_cst
  let main_v3 : IVec S4096x2064 1 := cmpf .olt main_v1 main_v2
  main_v3
-- ==== Pre_finite_but_gate.lean ====
abbrev S4096x2816 : Shape := ⟨2, ![4096, 2816]⟩
abbrev S2816x1024 : Shape := ⟨2, ![2816, 1024]⟩
abbrev S4096x1024 : Shape := ⟨2, ![4096, 1024]⟩
abbrev S11534336 : Shape := ⟨1, ![11534336]⟩
abbrev S2883584 : Shape := ⟨1, ![2883584]⟩
abbrev S4194304 : Shape := ⟨1, ![4194304]⟩
abbrev S18612224 : Shape := ⟨1, ![18612224]⟩
abbrev S_ : Shape := ⟨0, ![]⟩

class Facts : Prop where
  shapeCasts_S4096x2816_S11534336 : S4096x2816.ShapeCasts S11534336
  shapeCasts_S2816x1024_S2883584 : S2816x1024.ShapeCasts S2883584
  shapeCasts_S4096x1024_S4194304 : S4096x1024.ShapeCasts S4194304
  concatenates_S11534336_S2883584_S4194304_S18612224_d0 : Shape.Concatenates [S11534336, S2883584, S4194304] S18612224 0
  bcast_S_S18612224 : S_.BroadcastsInDim S18612224 (![] : Fin 0 → Fin S18612224.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S18612224 1 :=
  let main_v0 : FVec F S11534336 .f32 := shapeCast S11534336 main_arg1 shapeCasts_S4096x2816_S11534336
  let main_v1 : FVec F S2883584 .f32 := shapeCast S2883584 main_arg2 shapeCasts_S2816x1024_S2883584
  let main_v2 : FVec F S4194304 .f32 := shapeCast S4194304 main_arg3 shapeCasts_S4096x1024_S4194304
  let main_v3 : FVec F S18612224 .f32 := concatenate S18612224 0 [⟨S11534336, main_v0⟩, ⟨S2883584, main_v1⟩, ⟨S4194304, main_v2⟩] concatenates_S11534336_S2883584_S4194304_S18612224_d0
  let main_v4 : FVec F S18612224 .f32 := Host.absf main_v3
  let main_cst : FVec F S_ .f32 := constant S_ .f32 0x7F800000#32
  let main_v5 : FVec F S18612224 .f32 := broadcastInDim S18612224 ![] bcast_S_S18612224 main_cst
  let main_v6 : IVec S18612224 1 := cmpf .olt main_v4 main_v5
  main_v6
-- ==== Kernel.lean ====
abbrev S4096x512 : Shape := ⟨2, ![4096, 512]⟩
abbrev S4096x8 : Shape := ⟨2, ![4096, 8]⟩
abbrev S4096x8x64 : Shape := ⟨3, ![4096, 8, 64]⟩
abbrev S4096x8x8 : Shape := ⟨3, ![4096, 8, 8]⟩
abbrev S4096x1x8 : Shape := ⟨3, ![4096, 1, 8]⟩
abbrev S4096x8x48 : Shape := ⟨3, ![4096, 8, 48]⟩
abbrev S8x4096x4096 : Shape := ⟨3, ![8, 4096, 4096]⟩
abbrev S_ : Shape := ⟨0, ![]⟩
abbrev S4096x4096 : Shape := ⟨2, ![4096, 4096]⟩
abbrev S1x4096x4096 : Shape := ⟨3, ![1, 4096, 4096]⟩
abbrev S3x4096x4096 : Shape := ⟨3, ![3, 4096, 4096]⟩
abbrev S3x1x4096x4096 : Shape := ⟨4, ![3, 1, 4096, 4096]⟩
abbrev S3x8x4096x4096 : Shape := ⟨4, ![3, 8, 4096, 4096]⟩
abbrev S1x8x4096x4096 : Shape := ⟨4, ![1, 8, 4096, 4096]⟩
abbrev S3x8x4096 : Shape := ⟨3, ![3, 8, 4096]⟩
abbrev S3x8x4096x1 : Shape := ⟨4, ![3, 8, 4096, 1]⟩
abbrev S8x64x3x4096 : Shape := ⟨4, ![8, 64, 3, 4096]⟩
abbrev S3x8x4096x64 : Shape := ⟨4, ![3, 8, 4096, 64]⟩
abbrev S8x4096 : Shape := ⟨2, ![8, 4096]⟩
abbrev S1x8x4096 : Shape := ⟨3, ![1, 8, 4096]⟩
abbrev S8x4096x64 : Shape := ⟨3, ![8, 4096, 64]⟩
abbrev S4096x1536 : Shape := ⟨2, ![4096, 1536]⟩
abbrev S4096x3072 : Shape := ⟨2, ![4096, 3072]⟩
abbrev S4096x48 : Shape := ⟨2, ![4096, 48]⟩
abbrev S4096x128 : Shape := ⟨2, ![4096, 128]⟩
abbrev S4096x8x1 : Shape := ⟨3, ![4096, 8, 1]⟩
abbrev S3x4096x512 : Shape := ⟨3, ![3, 4096, 512]⟩
abbrev S3x4096x128 : Shape := ⟨3, ![3, 4096, 128]⟩
abbrev S3x256x256 : Shape := ⟨3, ![3, 256, 256]⟩
abbrev S512x256 : Shape := ⟨2, ![512, 256]⟩
abbrev S256x256 : Shape := ⟨2, ![256, 256]⟩
abbrev S1x256x256 : Shape := ⟨3, ![1, 256, 256]⟩
abbrev S128x128 : Shape := ⟨2, ![128, 128]⟩
abbrev S256x128 : Shape := ⟨2, ![256, 128]⟩
abbrev S128x1 : Shape := ⟨2, ![128, 1]⟩
abbrev S256x1 : Shape := ⟨2, ![256, 1]⟩
abbrev S512x128 : Shape := ⟨2, ![512, 128]⟩
abbrev S512x1 : Shape := ⟨2, ![512, 1]⟩
abbrev S1x512x128 : Shape := ⟨3, ![1, 512, 128]⟩

abbrev nBuf : Space → Nat
  | .hbm => 137
  | .vmem => 21
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x8, .f32⟩
  | 5 => ⟨S4096x512, .f32⟩
  | 6 => ⟨S4096x8x64, .f32⟩
  | 7 => ⟨S4096x8x8, .f32⟩
  | 8 => ⟨S4096x8x8, .f32⟩
  | 9 => ⟨S4096x1x8, .f32⟩
  | 10 => ⟨S4096x1x8, .f32⟩
  | 11 => ⟨S4096x8x8, .f32⟩
  | 12 => ⟨S4096x8x8, .f32⟩
  | 13 => ⟨S4096x8x8, .f32⟩
  | 14 => ⟨S4096x8x8, .f32⟩
  | 15 => ⟨S4096x8x8, .f32⟩
  | 16 => ⟨S4096x8x8, .f32⟩
  | 17 => ⟨S4096x8x8, .f32⟩
  | 18 => ⟨S4096x8x8, .f32⟩
  | 19 => ⟨S4096x8x8, .f32⟩
  | 20 => ⟨S4096x8x8, .f32⟩
  | 21 => ⟨S4096x8x48, .f32⟩
  | 22 => ⟨S4096x8x64, .f32⟩
  | 23 => ⟨S4096x8x64, .f32⟩
  | 24 => ⟨S4096x8x8, .f32⟩
  | 25 => ⟨S4096x8x8, .f32⟩
  | 26 => ⟨S4096x1x8, .f32⟩
  | 27 => ⟨S4096x1x8, .f32⟩
  | 28 => ⟨S4096x8x8, .f32⟩
  | 29 => ⟨S4096x8x8, .f32⟩
  | 30 => ⟨S4096x8x8, .f32⟩
  | 31 => ⟨S4096x8x8, .f32⟩
  | 32 => ⟨S4096x8x8, .f32⟩
  | 33 => ⟨S4096x8x8, .f32⟩
  | 34 => ⟨S4096x8x8, .f32⟩
  | 35 => ⟨S4096x8x8, .f32⟩
  | 36 => ⟨S4096x8x8, .f32⟩
  | 37 => ⟨S4096x8x8, .f32⟩
  | 38 => ⟨S4096x8x48, .f32⟩
  | 39 => ⟨S4096x8x64, .f32⟩
  | 40 => ⟨S4096x8x64, .f32⟩
  | 41 => ⟨S8x4096x4096, .f32⟩
  | 42 => ⟨S_, .f32⟩
  | 43 => ⟨S8x4096x4096, .f32⟩
  | 44 => ⟨S8x4096x4096, .f32⟩
  | 45 => ⟨S4096x4096, .i32⟩
  | 46 => ⟨S4096x4096, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i1⟩
  | 58 => ⟨S4096x4096, .i1⟩
  | 59 => ⟨S_, .i32⟩
  | 60 => ⟨S4096x4096, .i32⟩
  | 61 => ⟨S4096x4096, .i1⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i1⟩
  | 68 => ⟨S4096x4096, .i1⟩
  | 69 => ⟨S_, .i32⟩
  | 70 => ⟨S4096x4096, .i32⟩
  | 71 => ⟨S4096x4096, .i1⟩
  | 72 => ⟨S_, .i32⟩
  | 73 => ⟨S4096x4096, .i32⟩
  | 74 => ⟨S4096x4096, .i32⟩
  | 75 => ⟨S_, .i32⟩
  | 76 => ⟨S4096x4096, .i32⟩
  | 77 => ⟨S4096x4096, .i1⟩
  | 78 => ⟨S4096x4096, .i1⟩
  | 79 => ⟨S1x4096x4096, .i1⟩
  | 80 => ⟨S1x4096x4096, .i1⟩
  | 81 => ⟨S1x4096x4096, .i1⟩
  | 82 => ⟨S3x4096x4096, .i1⟩
  | 83 => ⟨S3x1x4096x4096, .i1⟩
  | 84 => ⟨S3x8x4096x4096, .i1⟩
  | 85 => ⟨S1x8x4096x4096, .f32⟩
  | 86 => ⟨S3x8x4096x4096, .f32⟩
  | 87 => ⟨S_, .f32⟩
  | 88 => ⟨S3x8x4096x4096, .f32⟩
  | 89 => ⟨S3x8x4096x4096, .f32⟩
  | 90 => ⟨S3x8x4096x4096, .f32⟩
  | 91 => ⟨S_, .f32⟩
  | 92 => ⟨S3x8x4096, .f32⟩
  | 93 => ⟨S3x8x4096, .f32⟩
  | 94 => ⟨S3x8x4096x1, .f32⟩
  | 95 => ⟨S3x8x4096x4096, .f32⟩
  | 96 => ⟨S3x8x4096x4096, .f32⟩
  | 97 => ⟨S3x8x4096x4096, .f32⟩
  | 98 => ⟨S8x64x3x4096, .f32⟩
  | 99 => ⟨S3x8x4096x64, .f32⟩
  | 100 => ⟨S3x8x4096, .f32⟩
  | 101 => ⟨S_, .f32⟩
  | 102 => ⟨S8x4096, .f32⟩
  | 103 => ⟨S8x4096, .f32⟩
  | 104 => ⟨S1x8x4096, .f32⟩
  | 105 => ⟨S3x8x4096, .f32⟩
  | 106 => ⟨S3x8x4096, .f32⟩
  | 107 => ⟨S3x8x4096, .f32⟩
  | 108 => ⟨S3x8x4096x1, .f32⟩
  | 109 => ⟨S3x8x4096x64, .f32⟩
  | 110 => ⟨S3x8x4096x64, .f32⟩
  | 111 => ⟨S_, .f32⟩
  | 112 => ⟨S8x4096x64, .f32⟩
  | 113 => ⟨S4096x8x64, .f32⟩
  | 114 => ⟨S4096x8x64, .f32⟩
  | 115 => ⟨S4096x8x64, .f32⟩
  | 116 => ⟨S_, .f32⟩
  | 117 => ⟨S4096x8, .f32⟩
  | 118 => ⟨S4096x512, .f32⟩
  | 119 => ⟨S4096x512, .f32⟩
  | 120 => ⟨S_, .f32⟩
  | 121 => ⟨S4096x1536, .f32⟩
  | 122 => ⟨S4096x3072, .f32⟩
  | 123 => ⟨S_, .f32⟩
  | 124 => ⟨S4096x48, .f32⟩
  | 125 => ⟨S4096x128, .f32⟩
  | 126 => ⟨S_, .f32⟩
  | 127 => ⟨S4096x48, .f32⟩
  | _ => ⟨S4096x512, .f32⟩

abbrev hbmTy0_1 (i : Nat) : BufTy := match i % 128 with
  | 0 => ⟨S4096x128, .f32⟩
  | 1 => ⟨S4096x8, .f32⟩
  | 2 => ⟨S4096x8x1, .f32⟩
  | 3 => ⟨S4096x8x64, .f32⟩
  | 4 => ⟨S4096x512, .f32⟩
  | 5 => ⟨S4096x8x1, .f32⟩
  | 6 => ⟨S4096x8x64, .f32⟩
  | 7 => ⟨S4096x512, .f32⟩
  | 8 => ⟨S3x4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S3x4096x128, .bf16⟩
  | .local _ .vmem, ⟨15, _⟩ => ⟨S3x4096x128, .bf16⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S3x256x256, .f32⟩
  | .local _ .vmem, ⟨20, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c : Ref sig .tc := ⟨.hbm, 49, rfl⟩
abbrev main_v42 : Ref sig .tc := ⟨.hbm, 50, rfl⟩
abbrev main_v43 : Ref sig .tc := ⟨.hbm, 51, rfl⟩
abbrev main_c_0 : Ref sig .tc := ⟨.hbm, 52, rfl⟩
abbrev main_v44 : Ref sig .tc := ⟨.hbm, 53, rfl⟩
abbrev main_v45 : Ref sig .tc := ⟨.hbm, 54, rfl⟩
abbrev main_c_1 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_2 : Ref sig .tc := ⟨.hbm, 59, rfl⟩
abbrev main_v49 : Ref sig .tc := ⟨.hbm, 60, rfl⟩
abbrev main_v50 : Ref sig .tc := ⟨.hbm, 61, rfl⟩
abbrev main_c_3 : Ref sig .tc := ⟨.hbm, 62, rfl⟩
abbrev main_v51 : Ref sig .tc := ⟨.hbm, 63, rfl⟩
abbrev main_v52 : Ref sig .tc := ⟨.hbm, 64, rfl⟩
abbrev main_c_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_5 : Ref sig .tc := ⟨.hbm, 69, rfl⟩
abbrev main_v56 : Ref sig .tc := ⟨.hbm, 70, rfl⟩
abbrev main_v57 : Ref sig .tc := ⟨.hbm, 71, rfl⟩
abbrev main_c_6 : Ref sig .tc := ⟨.hbm, 72, rfl⟩
abbrev main_v58 : Ref sig .tc := ⟨.hbm, 73, rfl⟩
abbrev main_v59 : Ref sig .tc := ⟨.hbm, 74, rfl⟩
abbrev main_c_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_12 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_13 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_cst_15 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_40 : BitVec 32 := 0#32
  let c32_i32 : BitVec 32 := 32#32
  let v100 : BitVec 32 := Scalar.addi c0_i32_40 c32_i32
  let c1_i32_41 : BitVec 32 := 1#32
  ⟨c0_i32_40, v100, c1_i32_41⟩
def k0_mult1 (k0_t1 : Fin k0_t1_loop.trips) : BitVec 32 :=
  let c0_i32_40 : BitVec 32 := 0#32
  let c1_i32_41 : BitVec 32 := 1#32
  let arg15 : BitVec 32 := Scf.iv c0_i32_40 c1_i32_41 k0_t1
  let c32_i32_53 : BitVec 32 := 32#32
  let c0_i32_54 : BitVec 32 := 0#32
  let v104 : BitVec 1 := Scalar.cmpi .eq c32_i32_53 c0_i32_54
  let c1_i32_55 : BitVec 32 := 1#32
  let v105 : BitVec 32 := Scalar.select v104 c1_i32_55 c32_i32_53
  let v106 : BitVec 32 := Scalar.remsi arg15 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c128_i32_59 : BitVec 32 := 128#32
  let v114 : BitVec 32 := Scalar.muli v113 c128_i32_59
  v114
def k0_mult2 (k0_t1 : Fin k0_t1_loop.trips) : BitVec 32 :=
  let c3840_i32 : BitVec 32 := 3840#32
  let c0_i32_61 : BitVec 32 := 0#32
  let c0_i32_40 : BitVec 32 := 0#32
  let c1_i32_41 : BitVec 32 := 1#32
  let arg15 : BitVec 32 := Scf.iv c0_i32_40 c1_i32_41 k0_t1
  let c32_i32_53 : BitVec 32 := 32#32
  let c0_i32_54 : BitVec 32 := 0#32
  let v104 : BitVec 1 := Scalar.cmpi .eq c32_i32_53 c0_i32_54
  let c1_i32_55 : BitVec 32 := 1#32
  let v105 : BitVec 32 := Scalar.select v104 c1_i32_55 c32_i32_53
  let v106 : BitVec 32 := Scalar.remsi arg15 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c128_i32_59 : BitVec 32 := 128#32
  let v114 : BitVec 32 := Scalar.muli v113 c128_i32_59
  let c64_i32_60 : BitVec 32 := 64#32
  let v115 : BitVec 32 := Scalar.subi v114 c64_i32_60
  let v116 : BitVec 32 := Scalar.maxsi c0_i32_61 v115
  let v117 : BitVec 32 := Scalar.minsi c3840_i32 v116
  v117
def k0_off1 (k0_t1 : Fin k0_t1_loop.trips) : Fin 3 → Nat :=
  let c3840_i32 : BitVec 32 := 3840#32
  let c0_i32_61 : BitVec 32 := 0#32
  let c0_i32_40 : BitVec 32 := 0#32
  let c1_i32_41 : BitVec 32 := 1#32
  let arg15 : BitVec 32 := Scf.iv c0_i32_40 c1_i32_41 k0_t1
  let c32_i32_53 : BitVec 32 := 32#32
  let c0_i32_54 : BitVec 32 := 0#32
  let v104 : BitVec 1 := Scalar.cmpi .eq c32_i32_53 c0_i32_54
  let c1_i32_55 : BitVec 32 := 1#32
  let v105 : BitVec 32 := Scalar.select v104 c1_i32_55 c32_i32_53
  let v106 : BitVec 32 := Scalar.remsi arg15 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c128_i32_59 : BitVec 32 := 128#32
  let v114 : BitVec 32 := Scalar.muli v113 c128_i32_59
  let c64_i32_60 : BitVec 32 := 64#32
  let v115 : BitVec 32 := Scalar.subi v114 c64_i32_60
  let v116 : BitVec 32 := Scalar.maxsi c0_i32_61 v115
  let v117 : BitVec 32 := Scalar.minsi c3840_i32 v116
  let v120 : BitVec 32 := Scalar.subi v117 v114
  let c_m64_i32_62 : BitVec 32 := 4294967232#32
  let v121 : BitVec 1 := Scalar.cmpi .eq v120 c_m64_i32_62
  let c0_i32_65 : BitVec 32 := 0#32
  let c0_i32_63 : BitVec 32 := 0#32
  let v122 : BitVec 1 := Scalar.cmpi .eq v120 c0_i32_63
  let c1_i32_64 : BitVec 32 := 1#32
  let c2_i32 : BitVec 32 := 2#32
  let v123 : BitVec 32 := Scalar.select v122 c1_i32_64 c2_i32
  let v124 : BitVec 32 := Scalar.select v121 c0_i32_65 v123
  let v125 : Index := Scalar.indexCast v124
  let c0_66 : Index := 0#32
  let c0_67 : Index := 0#32
  ![v125.toNat, 0, 0]
def k0_off2 (k0_t1 : Fin k0_t1_loop.trips) : Fin 2 → Nat :=
  let c0_i32_40 : BitVec 32 := 0#32
  let c1_i32_41 : BitVec 32 := 1#32
  let arg15 : BitVec 32 := Scf.iv c0_i32_40 c1_i32_41 k0_t1
  let c32_i32_53 : BitVec 32 := 32#32
  let c0_i32_54 : BitVec 32 := 0#32
  let v104 : BitVec 1 := Scalar.cmpi .eq c32_i32_53 c0_i32_54
  let c1_i32_55 : BitVec 32 := 1#32
  let v105 : BitVec 32 := Scalar.select v104 c1_i32_55 c32_i32_53
  let v106 : BitVec 32 := Scalar.remsi arg15 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c128_i32_59 : BitVec 32 := 128#32
  let v114 : BitVec 32 := Scalar.muli v113 c128_i32_59
  let v118 : BitVec 32 := v114
  let v131 : Index := Scalar.indexCast v118
  let c0_69 : Index := 0#32
  ![v131.toNat, 0]
def k0_off3 (k0_t1 : Fin k0_t1_loop.trips) : Fin 2 → Nat :=
  let c3840_i32 : BitVec 32 := 3840#32
  let c0_i32_61 : BitVec 32 := 0#32
  let c0_i32_40 : BitVec 32 := 0#32
  let c1_i32_41 : BitVec 32 := 1#32
  let arg15 : BitVec 32 := Scf.iv c0_i32_40 c1_i32_41 k0_t1
  let c32_i32_53 : BitVec 32 := 32#32
  let c0_i32_54 : BitVec 32 := 0#32
  let v104 : BitVec 1 := Scalar.cmpi .eq c32_i32_53 c0_i32_54
  let c1_i32_55 : BitVec 32 := 1#32
  let v105 : BitVec 32 := Scalar.select v104 c1_i32_55 c32_i32_53
  let v106 : BitVec 32 := Scalar.remsi arg15 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c128_i32_59 : BitVec 32 := 128#32
  let v114 : BitVec 32 := Scalar.muli v113 c128_i32_59
  let c64_i32_60 : BitVec 32 := 64#32
  let v115 : BitVec 32 := Scalar.subi v114 c64_i32_60
  let v116 : BitVec 32 := Scalar.maxsi c0_i32_61 v115
  let v117 : BitVec 32 := Scalar.minsi c3840_i32 v116
  let v119 : BitVec 32 := v117
  let v150 : Index := Scalar.indexCast v119
  let c0_76 : Index := 0#32
  ![v150.toNat, 0]
@[reducible] def k0_t2_loop : Scf.Loop 32 :=
  let c0_i32_43 : BitVec 32 := 0#32
  let c32_i32_44 : BitVec 32 := 32#32
  let v101 : BitVec 32 := Scalar.addi c0_i32_43 c32_i32_44
  let c1_i32_45 : BitVec 32 := 1#32
  ⟨c0_i32_43, v101, c1_i32_45⟩
def k0_off4 (k0_t2 : Fin k0_t2_loop.trips) : Fin 3 → Nat :=
  let c768_i32 : BitVec 32 := 768#32
  let c0_i32_68 : BitVec 32 := 0#32
  let c0_i32_43 : BitVec 32 := 0#32
  let c1_i32_45 : BitVec 32 := 1#32
  let arg15 : BitVec 32 := Scf.iv c0_i32_43 c1_i32_45 k0_t2
  let c8_i32_60 : BitVec 32 := 8#32
  let c0_i32_61 : BitVec 32 := 0#32
  let v121 : BitVec 1 := Scalar.cmpi .eq c8_i32_60 c0_i32_61
  let c1_i32_62 : BitVec 32 := 1#32
  let v122 : BitVec 32 := Scalar.select v121 c1_i32_62 c8_i32_60
  let v123 : BitVec 32 := Scalar.remsi arg15 v122
  let c0_i32_64 : BitVec 32 := 0#32
  let v125 : BitVec 1 := Scalar.cmpi .slt v123 c0_i32_64
  let c0_i32_65 : BitVec 32 := 0#32
  let v126 : BitVec 1 := Scalar.cmpi .slt v122 c0_i32_65
  let v127 : BitVec 1 := Scalar.xori v125 v126
  let c0_i32_63 : BitVec 32 := 0#32
  let v124 : BitVec 1 := Scalar.cmpi .ne v123 c0_i32_63
  let v128 : BitVec 1 := Scalar.andi v127 v124
  let v129 : BitVec 32 := Scalar.addi v123 v122
  let v130 : BitVec 32 := Scalar.select v128 v129 v123
  let c128_i32_66 : BitVec 32 := 128#32
  let v131 : BitVec 32 := Scalar.muli v130 c128_i32_66
  let c64_i32_67 : BitVec 32 := 64#32
  let v132 : BitVec 32 := Scalar.subi v131 c64_i32_67
  let v133 : BitVec 32 := Scalar.maxsi c0_i32_68 v132
  let v134 : BitVec 32 := Scalar.minsi c768_i32 v133
  let v139 : BitVec 32 := Scalar.subi v134 v131
  let c_m64_i32_70 : BitVec 32 := 4294967232#32
  let v140 : BitVec 1 := Scalar.cmpi .eq v139 c_m64_i32_70
  let c0_i32_73 : BitVec 32 := 0#32
  let c0_i32_71 : BitVec 32 := 0#32
  let v141 : BitVec 1 := Scalar.cmpi .eq v139 c0_i32_71
  let c1_i32_72 : BitVec 32 := 1#32
  let c2_i32 : BitVec 32 := 2#32
  let v142 : BitVec 32 := Scalar.select v141 c1_i32_72 c2_i32
  let v143 : BitVec 32 := Scalar.select v140 c0_i32_73 v142
  let v144 : Index := Scalar.indexCast v143
  let c0_74 : Index := 0#32
  let c0_75 : Index := 0#32
  ![v144.toNat, 0, 0]
def k0_off5 (k0_t2 : Fin k0_t2_loop.trips) : Fin 2 → Nat :=
  let c0_i32_43 : BitVec 32 := 0#32
  let c1_i32_45 : BitVec 32 := 1#32
  let arg15 : BitVec 32 := Scf.iv c0_i32_43 c1_i32_45 k0_t2
  let c0_i32_54 : BitVec 32 := 0#32
  let v105 : BitVec 1 := Scalar.cmpi .sgt arg15 c0_i32_54
  let v106 : BitVec 32 := Scalar.extui v105
  let c0_i32_55 : BitVec 32 := 0#32
  let v107 : BitVec 1 := Scalar.cmpi .slt arg15 c0_i32_55
  let v108 : BitVec 32 := Scalar.extui v107
  let v109 : BitVec 32 := Scalar.subi v106 v108
  let c8_i32_53 : BitVec 32 := 8#32
  let c0_i32_56 : BitVec 32 := 0#32
  let v110 : BitVec 1 := Scalar.cmpi .sgt c8_i32_53 c0_i32_56
  let v111 : BitVec 32 := Scalar.extui v110
  let c0_i32_57 : BitVec 32 := 0#32
  let v112 : BitVec 1 := Scalar.cmpi .slt c8_i32_53 c0_i32_57
  let v113 : BitVec 32 := Scalar.extui v112
  let v114 : BitVec 32 := Scalar.subi v111 v113
  let v115 : BitVec 1 := Scalar.cmpi .ne v109 v114
  let v116 : BitVec 32 := Scalar.remsi arg15 c8_i32_53
  let c0_i32_58 : BitVec 32 := 0#32
  let v117 : BitVec 1 := Scalar.cmpi .ne v116 c0_i32_58
  let v118 : BitVec 1 := Scalar.andi v115 v117
  let v104 : BitVec 32 := Scalar.divsi arg15 c8_i32_53
  let c1_i32_59 : BitVec 32 := 1#32
  let v119 : BitVec 32 := Scalar.subi v104 c1_i32_59
  let v120 : BitVec 32 := Scalar.select v118 v119 v104
  let c4_i32 : BitVec 32 := 4#32
  let c8_i32_60 : BitVec 32 := 8#32
  let c0_i32_61 : BitVec 32 := 0#32
  let v121 : BitVec 1 := Scalar.cmpi .eq c8_i32_60 c0_i32_61
  let c1_i32_62 : BitVec 32 := 1#32
  let v122 : BitVec 32 := Scalar.select v121 c1_i32_62 c8_i32_60
  let v123 : BitVec 32 := Scalar.remsi arg15 v122
  let c0_i32_64 : BitVec 32 := 0#32
  let v125 : BitVec 1 := Scalar.cmpi .slt v123 c0_i32_64
  let c0_i32_65 : BitVec 32 := 0#32
  let v126 : BitVec 1 := Scalar.cmpi .slt v122 c0_i32_65
  let v127 : BitVec 1 := Scalar.xori v125 v126
  let c0_i32_63 : BitVec 32 := 0#32
  let v124 : BitVec 1 := Scalar.cmpi .ne v123 c0_i32_63
  let v128 : BitVec 1 := Scalar.andi v127 v124
  let v129 : BitVec 32 := Scalar.addi v123 v122
  let v130 : BitVec 32 := Scalar.select v128 v129 v123
  let c128_i32_66 : BitVec 32 := 128#32
  let v131 : BitVec 32 := Scalar.muli v130 c128_i32_66
  let v135 : BitVec 32 := Scalar.muli c4_i32 v131
  let v136 : BitVec 32 := Scalar.addi v120 v135
  let v150 : Index := Scalar.indexCast v136
  let c0_77 : Index := 0#32
  ![v150.toNat, 0]
def k0_off6 (k0_t2 : Fin k0_t2_loop.trips) : Fin 2 → Nat :=
  let c0_i32_43 : BitVec 32 := 0#32
  let c1_i32_45 : BitVec 32 := 1#32
  let arg15 : BitVec 32 := Scf.iv c0_i32_43 c1_i32_45 k0_t2
  let c0_i32_54 : BitVec 32 := 0#32
  let v105 : BitVec 1 := Scalar.cmpi .sgt arg15 c0_i32_54
  let v106 : BitVec 32 := Scalar.extui v105
  let c0_i32_55 : BitVec 32 := 0#32
  let v107 : BitVec 1 := Scalar.cmpi .slt arg15 c0_i32_55
  let v108 : BitVec 32 := Scalar.extui v107
  let v109 : BitVec 32 := Scalar.subi v106 v108
  let c8_i32_53 : BitVec 32 := 8#32
  let c0_i32_56 : BitVec 32 := 0#32
  let v110 : BitVec 1 := Scalar.cmpi .sgt c8_i32_53 c0_i32_56
  let v111 : BitVec 32 := Scalar.extui v110
  let c0_i32_57 : BitVec 32 := 0#32
  let v112 : BitVec 1 := Scalar.cmpi .slt c8_i32_53 c0_i32_57
  let v113 : BitVec 32 := Scalar.extui v112
  let v114 : BitVec 32 := Scalar.subi v111 v113
  let v115 : BitVec 1 := Scalar.cmpi .ne v109 v114
  let v116 : BitVec 32 := Scalar.remsi arg15 c8_i32_53
  let c0_i32_58 : BitVec 32 := 0#32
  let v117 : BitVec 1 := Scalar.cmpi .ne v116 c0_i32_58
  let v118 : BitVec 1 := Scalar.andi v115 v117
  let v104 : BitVec 32 := Scalar.divsi arg15 c8_i32_53
  let c1_i32_59 : BitVec 32 := 1#32
  let v119 : BitVec 32 := Scalar.subi v104 c1_i32_59
  let v120 : BitVec 32 := Scalar.select v118 v119 v104
  let c4_i32_69 : BitVec 32 := 4#32
  let c768_i32 : BitVec 32 := 768#32
  let c0_i32_68 : BitVec 32 := 0#32
  let c8_i32_60 : BitVec 32 := 8#32
  let c0_i32_61 : BitVec 32 := 0#32
  let v121 : BitVec 1 := Scalar.cmpi .eq c8_i32_60 c0_i32_61
  let c1_i32_62 : BitVec 32 := 1#32
  let v122 : BitVec 32 := Scalar.select v121 c1_i32_62 c8_i32_60
  let v123 : BitVec 32 := Scalar.remsi arg15 v122
  let c0_i32_64 : BitVec 32 := 0#32
  let v125 : BitVec 1 := Scalar.cmpi .slt v123 c0_i32_64
  let c0_i32_65 : BitVec 32 := 0#32
  let v126 : BitVec 1 := Scalar.cmpi .slt v122 c0_i32_65
  let v127 : BitVec 1 := Scalar.xori v125 v126
  let c0_i32_63 : BitVec 32 := 0#32
  let v124 : BitVec 1 := Scalar.cmpi .ne v123 c0_i32_63
  let v128 : BitVec 1 := Scalar.andi v127 v124
  let v129 : BitVec 32 := Scalar.addi v123 v122
  let v130 : BitVec 32 := Scalar.select v128 v129 v123
  let c128_i32_66 : BitVec 32 := 128#32
  let v131 : BitVec 32 := Scalar.muli v130 c128_i32_66
  let c64_i32_67 : BitVec 32 := 64#32
  let v132 : BitVec 32 := Scalar.subi v131 c64_i32_67
  let v133 : BitVec 32 := Scalar.maxsi c0_i32_68 v132
  let v134 : BitVec 32 := Scalar.minsi c768_i32 v133
  let v137 : BitVec 32 := Scalar.muli c4_i32_69 v134
  let v138 : BitVec 32 := Scalar.addi v120 v137
  let v169 : Index := Scalar.indexCast v138
  let c0_84 : Index := 0#32
  ![v169.toNat, 0]
@[reducible] def k0_t3_loop : Scf.Loop 32 :=
  let c0_i32_47 : BitVec 32 := 0#32
  let c16_i32 : BitVec 32 := 16#32
  let v102 : BitVec 32 := Scalar.addi c0_i32_47 c16_i32
  let c1_i32_48 : BitVec 32 := 1#32
  ⟨c0_i32_47, v102, c1_i32_48⟩
def k0_off7 (k0_t3 : Fin k0_t3_loop.trips) : Fin 2 → Nat :=
  let c0_i32_47 : BitVec 32 := 0#32
  let c1_i32_48 : BitVec 32 := 1#32
  let arg15 : BitVec 32 := Scf.iv c0_i32_47 c1_i32_48 k0_t3
  let v108 : Index := Scalar.indexCast arg15
  let c0_56 : Index := 0#32
  ![v108.toNat, 0]
@[reducible] def k0_t4_loop : Scf.Loop 32 :=
  let c0_i32_50 : BitVec 32 := 0#32
  let c8_i32 : BitVec 32 := 8#32
  let v103 : BitVec 32 := Scalar.addi c0_i32_50 c8_i32
  let c1_i32_51 : BitVec 32 := 1#32
  ⟨c0_i32_50, v103, c1_i32_51⟩
def k0_mult3 (k0_t4 : Fin k0_t4_loop.trips) : BitVec 32 :=
  let c0_i32_50 : BitVec 32 := 0#32
  let c1_i32_51 : BitVec 32 := 1#32
  let arg15 : BitVec 32 := Scf.iv c0_i32_50 c1_i32_51 k0_t4
  let c512_i32 : BitVec 32 := 512#32
  let v104 : BitVec 32 := Scalar.muli arg15 c512_i32
  v104
def k0_off8 (k0_t4 : Fin k0_t4_loop.trips) : Fin 2 → Nat :=
  let c0_i32_50 : BitVec 32 := 0#32
  let c1_i32_51 : BitVec 32 := 1#32
  let arg15 : BitVec 32 := Scf.iv c0_i32_50 c1_i32_51 k0_t4
  let c512_i32 : BitVec 32 := 512#32
  let v104 : BitVec 32 := Scalar.muli arg15 c512_i32
  let v105 : BitVec 32 := v104
  let v106 : Index := Scalar.indexCast v105
  let c0_53 : Index := 0#32
  ![v106.toNat, 0]
def k0_off9 (k0_t4 : Fin k0_t4_loop.trips) : Fin 3 → Nat :=
  let c0_71 : Index := 0#32
  let c0_i32_50 : BitVec 32 := 0#32
  let c1_i32_51 : BitVec 32 := 1#32
  let arg15 : BitVec 32 := Scf.iv c0_i32_50 c1_i32_51 k0_t4
  let c512_i32 : BitVec 32 := 512#32
  let v104 : BitVec 32 := Scalar.muli arg15 c512_i32
  let v105 : BitVec 32 := v104
  let v156 : Index := Scalar.indexCast v105
  let c0_72 : Index := 0#32
  ![0, v156.toNat, 0]
def k0_off10 (k0_t4 : Fin k0_t4_loop.trips) : Fin 3 → Nat :=
  let c1_92 : Index := 1#32
  let c0_i32_50 : BitVec 32 := 0#32
  let c1_i32_51 : BitVec 32 := 1#32
  let arg15 : BitVec 32 := Scf.iv c0_i32_50 c1_i32_51 k0_t4
  let c512_i32 : BitVec 32 := 512#32
  let v104 : BitVec 32 := Scalar.muli arg15 c512_i32
  let v105 : BitVec 32 := v104
  let v210 : Index := Scalar.indexCast v105
  let c0_93 : Index := 0#32
  ![1, v210.toNat, 0]
def k0_off11 (k0_t4 : Fin k0_t4_loop.trips) : Fin 3 → Nat :=
  let c2_95 : Index := 2#32
  let c0_i32_50 : BitVec 32 := 0#32
  let c1_i32_51 : BitVec 32 := 1#32
  let arg15 : BitVec 32 := Scf.iv c0_i32_50 c1_i32_51 k0_t4
  let c512_i32 : BitVec 32 := 512#32
  let v104 : BitVec 32 := Scalar.muli arg15 c512_i32
  let v105 : BitVec 32 := v104
  let v217 : Index := Scalar.indexCast v105
  let c0_96 : Index := 0#32
  ![2, v217.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x8 : Shape := ⟨2, ![4096, 8]⟩
abbrev S4096x8x64 : Shape := ⟨3, ![4096, 8, 64]⟩
abbrev S4096x8x8 : Shape := ⟨3, ![4096, 8, 8]⟩
abbrev S4096x1x8 : Shape := ⟨3, ![4096, 1, 8]⟩
abbrev S4096x8x48 : Shape := ⟨3, ![4096, 8, 48]⟩
abbrev S8x4096x4096 : Shape := ⟨3, ![8, 4096, 4096]⟩
abbrev S_ : Shape := ⟨0, ![]⟩
abbrev S4096x4096 : Shape := ⟨2, ![4096, 4096]⟩
abbrev S1x4096x4096 : Shape := ⟨3, ![1, 4096, 4096]⟩
abbrev S3x4096x4096 : Shape := ⟨3, ![3, 4096, 4096]⟩
abbrev S3x1x4096x4096 : Shape := ⟨4, ![3, 1, 4096, 4096]⟩
abbrev S3x8x4096x4096 : Shape := ⟨4, ![3, 8, 4096, 4096]⟩
abbrev S1x8x4096x4096 : Shape := ⟨4, ![1, 8, 4096, 4096]⟩
abbrev S3x8x4096 : Shape := ⟨3, ![3, 8, 4096]⟩
abbrev S3x8x4096x1 : Shape := ⟨4, ![3, 8, 4096, 1]⟩
abbrev S8x64x3x4096 : Shape := ⟨4, ![8, 64, 3, 4096]⟩
abbrev S3x8x4096x64 : Shape := ⟨4, ![3, 8, 4096, 64]⟩
abbrev S8x4096 : Shape := ⟨2, ![8, 4096]⟩
abbrev S1x8x4096 : Shape := ⟨3, ![1, 8, 4096]⟩
abbrev S8x4096x64 : Shape := ⟨3, ![8, 4096, 64]⟩
abbrev S8x3x4096x4096 : Shape := ⟨4, ![8, 3, 4096, 4096]⟩
abbrev S8x64x4096 : Shape := ⟨3, ![8, 64, 4096]⟩
abbrev S1x4096x512 : Shape := ⟨3, ![1, 4096, 512]⟩
abbrev S3x4096x512 : Shape := ⟨3, ![3, 4096, 512]⟩

abbrev nBuf : Space → Nat
  | .hbm => 223
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x8, .f32⟩
  | 5 => ⟨S4096x512, .f32⟩
  | 6 => ⟨S4096x8x64, .f32⟩
  | 7 => ⟨S4096x8x8, .f32⟩
  | 8 => ⟨S4096x8x8, .f32⟩
  | 9 => ⟨S4096x1x8, .f32⟩
  | 10 => ⟨S4096x1x8, .f32⟩
  | 11 => ⟨S4096x8x8, .f32⟩
  | 12 => ⟨S4096x8x8, .f32⟩
  | 13 => ⟨S4096x8x8, .f32⟩
  | 14 => ⟨S4096x8x8, .f32⟩
  | 15 => ⟨S4096x8x8, .f32⟩
  | 16 => ⟨S4096x8x8, .f32⟩
  | 17 => ⟨S4096x8x8, .f32⟩
  | 18 => ⟨S4096x8x8, .f32⟩
  | 19 => ⟨S4096x8x8, .f32⟩
  | 20 => ⟨S4096x8x8, .f32⟩
  | 21 => ⟨S4096x8x48, .f32⟩
  | 22 => ⟨S4096x8x64, .f32⟩
  | 23 => ⟨S4096x8x64, .f32⟩
  | 24 => ⟨S4096x8x8, .f32⟩
  | 25 => ⟨S4096x8x8, .f32⟩
  | 26 => ⟨S4096x1x8, .f32⟩
  | 27 => ⟨S4096x1x8, .f32⟩
  | 28 => ⟨S4096x8x8, .f32⟩
  | 29 => ⟨S4096x8x8, .f32⟩
  | 30 => ⟨S4096x8x8, .f32⟩
  | 31 => ⟨S4096x8x8, .f32⟩
  | 32 => ⟨S4096x8x8, .f32⟩
  | 33 => ⟨S4096x8x8, .f32⟩
  | 34 => ⟨S4096x8x8, .f32⟩
  | 35 => ⟨S4096x8x8, .f32⟩
  | 36 => ⟨S4096x8x8, .f32⟩
  | 37 => ⟨S4096x8x8, .f32⟩
  | 38 => ⟨S4096x8x48, .f32⟩
  | 39 => ⟨S4096x8x64, .f32⟩
  | 40 => ⟨S4096x8x64, .f32⟩
  | 41 => ⟨S8x4096x4096, .f32⟩
  | 42 => ⟨S_, .f32⟩
  | 43 => ⟨S8x4096x4096, .f32⟩
  | 44 => ⟨S8x4096x4096, .f32⟩
  | 45 => ⟨S4096x4096, .i32⟩
  | 46 => ⟨S4096x4096, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i1⟩
  | 58 => ⟨S4096x4096, .i1⟩
  | 59 => ⟨S_, .i32⟩
  | 60 => ⟨S4096x4096, .i32⟩
  | 61 => ⟨S4096x4096, .i1⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i1⟩
  | 68 => ⟨S4096x4096, .i1⟩
  | 69 => ⟨S_, .i32⟩
  | 70 => ⟨S4096x4096, .i32⟩
  | 71 => ⟨S4096x4096, .i1⟩
  | 72 => ⟨S_, .i32⟩
  | 73 => ⟨S4096x4096, .i32⟩
  | 74 => ⟨S4096x4096, .i32⟩
  | 75 => ⟨S_, .i32⟩
  | 76 => ⟨S4096x4096, .i32⟩
  | 77 => ⟨S4096x4096, .i1⟩
  | 78 => ⟨S4096x4096, .i1⟩
  | 79 => ⟨S1x4096x4096, .i1⟩
  | 80 => ⟨S1x4096x4096, .i1⟩
  | 81 => ⟨S1x4096x4096, .i1⟩
  | 82 => ⟨S3x4096x4096, .i1⟩
  | 83 => ⟨S3x1x4096x4096, .i1⟩
  | 84 => ⟨S3x8x4096x4096, .i1⟩
  | 85 => ⟨S1x8x4096x4096, .f32⟩
  | 86 => ⟨S3x8x4096x4096, .f32⟩
  | 87 => ⟨S_, .f32⟩
  | 88 => ⟨S3x8x4096x4096, .f32⟩
  | 89 => ⟨S3x8x4096x4096, .f32⟩
  | 90 => ⟨S_, .f32⟩
  | 91 => ⟨S3x8x4096x4096, .f32⟩
  | 92 => ⟨S3x8x4096x4096, .f32⟩
  | 93 => ⟨S_, .f32⟩
  | 94 => ⟨S3x8x4096, .f32⟩
  | 95 => ⟨S3x8x4096, .f32⟩
  | 96 => ⟨S3x8x4096x1, .f32⟩
  | 97 => ⟨S3x8x4096x4096, .f32⟩
  | 98 => ⟨S3x8x4096x4096, .f32⟩
  | 99 => ⟨S3x8x4096x4096, .f32⟩
  | 100 => ⟨S8x64x3x4096, .f32⟩
  | 101 => ⟨S3x8x4096x64, .f32⟩
  | 102 => ⟨S3x8x4096, .f32⟩
  | 103 => ⟨S_, .f32⟩
  | 104 => ⟨S8x4096, .f32⟩
  | 105 => ⟨S8x4096, .f32⟩
  | 106 => ⟨S1x8x4096, .f32⟩
  | 107 => ⟨S3x8x4096, .f32⟩
  | 108 => ⟨S3x8x4096, .f32⟩
  | 109 => ⟨S3x8x4096, .f32⟩
  | 110 => ⟨S3x8x4096x1, .f32⟩
  | 111 => ⟨S3x8x4096x64, .f32⟩
  | 112 => ⟨S3x8x4096x64, .f32⟩
  | 113 => ⟨S_, .f32⟩
  | 114 => ⟨S8x4096x64, .f32⟩
  | 115 => ⟨S4096x8x64, .f32⟩
  | 116 => ⟨S4096x512, .f32⟩
  | 117 => ⟨S4096x8x64, .f32⟩
  | 118 => ⟨S8x4096x64, .f32⟩
  | 119 => ⟨S3x8x4096x64, .f32⟩
  | 120 => ⟨S3x8x4096x64, .f32⟩
  | 121 => ⟨S3x8x4096x64, .f32⟩
  | 122 => ⟨S3x8x4096x64, .f32⟩
  | 123 => ⟨S_, .f32⟩
  | 124 => ⟨S3x8x4096, .f32⟩
  | 125 => ⟨S3x8x4096x1, .f32⟩
  | 126 => ⟨S_, .f32⟩
  | 127 => ⟨S3x8x4096, .f32⟩
  | _ => ⟨S4096x512, .f32⟩

abbrev hbmTy0_1 (i : Nat) : BufTy := match i % 128 with
  | 0 => ⟨S3x8x4096, .f32⟩
  | 1 => ⟨S3x8x4096, .f32⟩
  | 2 => ⟨S_, .f32⟩
  | 3 => ⟨S8x4096, .f32⟩
  | 4 => ⟨S1x8x4096, .f32⟩
  | 5 => ⟨S_, .f32⟩
  | 6 => ⟨S8x4096, .f32⟩
  | 7 => ⟨S8x4096, .f32⟩
  | 8 => ⟨S3x8x4096, .f32⟩
  | 9 => ⟨S3x8x4096, .f32⟩
  | 10 => ⟨S3x8x4096, .f32⟩
  | 11 => ⟨S8x64x3x4096, .f32⟩
  | 12 => ⟨S8x3x4096x4096, .f32⟩
  | 13 => ⟨S3x8x4096x4096, .f32⟩
  | 14 => ⟨S8x64x4096, .f32⟩
  | 15 => ⟨S4096x8x64, .f32⟩
  | 16 => ⟨S3x8x4096x4096, .f32⟩
  | 17 => ⟨S3x8x4096x4096, .f32⟩
  | 18 => ⟨S_, .f32⟩
  | 19 => ⟨S3x8x4096, .f32⟩
  | 20 => ⟨S3x8x4096x1, .f32⟩
  | 21 => ⟨S_, .f32⟩
  | 22 => ⟨S3x8x4096, .f32⟩
  | 23 => ⟨S3x8x4096, .f32⟩
  | 24 => ⟨S3x8x4096, .f32⟩
  | 25 => ⟨S3x8x4096x4096, .f32⟩
  | 26 => ⟨S3x8x4096x4096, .f32⟩
  | 27 => ⟨S3x8x4096x4096, .f32⟩
  | 28 => ⟨S_, .f32⟩
  | 29 => ⟨S3x8x4096x4096, .f32⟩
  | 30 => ⟨S3x8x4096x4096, .f32⟩
  | 31 => ⟨S_, .f32⟩
  | 32 => ⟨S8x4096x4096, .f32⟩
  | 33 => ⟨S1x8x4096x4096, .f32⟩
  | 34 => ⟨S_, .f32⟩
  | 35 => ⟨S8x4096x4096, .f32⟩
  | 36 => ⟨S_, .f32⟩
  | 37 => ⟨S8x4096x4096, .f32⟩
  | 38 => ⟨S8x4096x4096, .f32⟩
  | 39 => ⟨S8x4096x64, .f32⟩
  | 40 => ⟨S4096x8x64, .f32⟩
  | 41 => ⟨S8x4096x64, .f32⟩
  | 42 => ⟨S4096x8x64, .f32⟩
  | 43 => ⟨S4096x512, .f32⟩
  | 44 => ⟨S4096x8x8, .f32⟩
  | 45 => ⟨S4096x8x8, .f32⟩
  | 46 => ⟨S4096x8x48, .f32⟩
  | 47 => ⟨S_, .f32⟩
  | 48 => ⟨S4096x8x64, .f32⟩
  | 49 => ⟨S4096x8x8, .f32⟩
  | 50 => ⟨S4096x8x8, .f32⟩
  | 51 => ⟨S4096x8x8, .f32⟩
  | 52 => ⟨S4096x8x8, .f32⟩
  | 53 => ⟨S4096x8x8, .f32⟩
  | 54 => ⟨S4096x8x8, .f32⟩
  | 55 => ⟨S4096x8x8, .f32⟩
  | 56 => ⟨S4096x8x8, .f32⟩
  | 57 => ⟨S4096x8x8, .f32⟩
  | 58 => ⟨S4096x8x8, .f32⟩
  | 59 => ⟨S4096x8x8, .f32⟩
  | 60 => ⟨S_, .f32⟩
  | 61 => ⟨S4096x8x64, .f32⟩
  | 62 => ⟨S4096x8x64, .f32⟩
  | 63 => ⟨S_, .f32⟩
  | 64 => ⟨S4096x8x64, .f32⟩
  | 65 => ⟨S4096x8x64, .f32⟩
  | 66 => ⟨S4096x512, .f32⟩
  | 67 => ⟨S4096x8x8, .f32⟩
  | 68 => ⟨S4096x8x8, .f32⟩
  | 69 => ⟨S4096x8x48, .f32⟩
  | 70 => ⟨S_, .f32⟩
  | 71 => ⟨S4096x8x64, .f32⟩
  | 72 => ⟨S4096x8x8, .f32⟩
  | 73 => ⟨S4096x8x8, .f32⟩
  | 74 => ⟨S4096x8x8, .f32⟩
  | 75 => ⟨S4096x8x8, .f32⟩
  | 76 => ⟨S4096x8x8, .f32⟩
  | 77 => ⟨S4096x8x8, .f32⟩
  | 78 => ⟨S4096x8x8, .f32⟩
  | 79 => ⟨S4096x8x8, .f32⟩
  | 80 => ⟨S4096x8x8, .f32⟩
  | 81 => ⟨S4096x8x8, .f32⟩
  | 82 => ⟨S4096x8x8, .f32⟩
  | 83 => ⟨S_, .f32⟩
  | 84 => ⟨S4096x8x64, .f32⟩
  | 85 => ⟨S4096x8x64, .f32⟩
  | 86 => ⟨S_, .f32⟩
  | 87 => ⟨S4096x8x64, .f32⟩
  | 88 => ⟨S4096x8x64, .f32⟩
  | 89 => ⟨S4096x512, .f32⟩
  | 90 => ⟨S1x4096x512, .f32⟩
  | 91 => ⟨S1x4096x512, .f32⟩
  | 92 => ⟨S1x4096x512, .f32⟩
  | 93 => ⟨S3x4096x512, .f32⟩
  | 94 => ⟨S3x4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c : Ref sig .tc := ⟨.hbm, 49, rfl⟩
abbrev main_v42 : Ref sig .tc := ⟨.hbm, 50, rfl⟩
abbrev main_v43 : Ref sig .tc := ⟨.hbm, 51, rfl⟩
abbrev main_c_0 : Ref sig .tc := ⟨.hbm, 52, rfl⟩
abbrev main_v44 : Ref sig .tc := ⟨.hbm, 53, rfl⟩
abbrev main_v45 : Ref sig .tc := ⟨.hbm, 54, rfl⟩
abbrev main_c_1 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_2 : Ref sig .tc := ⟨.hbm, 59, rfl⟩
abbrev main_v49 : Ref sig .tc := ⟨.hbm, 60, rfl⟩
abbrev main_v50 : Ref sig .tc := ⟨.hbm, 61, rfl⟩
abbrev main_c_3 : Ref sig .tc := ⟨.hbm, 62, rfl⟩
abbrev main_v51 : Ref sig .tc := ⟨.hbm, 63, rfl⟩
abbrev main_v52 : Ref sig .tc := ⟨.hbm, 64, rfl⟩
abbrev main_c_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_5 : Ref sig .tc := ⟨.hbm, 69, rfl⟩
abbrev main_v56 : Ref sig .tc := ⟨.hbm, 70, rfl⟩
abbrev main_v57 : Ref sig .tc := ⟨.hbm, 71, rfl⟩
abbrev main_c_6 : Ref sig .tc := ⟨.hbm, 72, rfl⟩
abbrev main_v58 : Ref sig .tc := ⟨.hbm, 73, rfl⟩
abbrev main_v59 : Ref sig .tc := ⟨.hbm, 74, rfl⟩
abbrev main_c_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_12 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_13 : Ref sig .tc := ⟨.hbm, 123, rfl⟩
abbrev main_v102 : Ref sig .tc := ⟨.hbm, 124, rfl⟩
abbrev main_v103 : Ref sig .tc := ⟨.hbm, 125, rfl⟩
abbrev main_cst_14 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_cst_16 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_17 : Ref sig .tc := ⟨.hbm, 146, rfl⟩
abbrev main_v121 : Ref sig .tc := ⟨.hbm, 147, rfl⟩
abbrev main_v122 : Ref sig .tc := ⟨.hbm, 148, rfl⟩
abbrev main_cst_18 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_19 : Ref sig .tc := ⟨.hbm, 156, rfl⟩
abbrev main_v129 : Ref sig .tc := ⟨.hbm, 157, rfl⟩
abbrev main_v130 : Ref sig .tc := ⟨.hbm, 158, rfl⟩
abbrev main_cst_20 : Ref sig .tc := ⟨.hbm, 159, rfl⟩
abbrev main_v131 : Ref sig .tc := ⟨.hbm, 160, rfl⟩
abbrev main_v132 : Ref sig .tc := ⟨.hbm, 161, rfl⟩
abbrev main_cst_21 : Ref sig .tc := ⟨.hbm, 162, rfl⟩
abbrev main_v133 : Ref sig .tc := ⟨.hbm, 163, rfl⟩
abbrev main_cst_22 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_23 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_24 : Ref sig .tc := ⟨.hbm, 188, rfl⟩
abbrev main_v156 : Ref sig .tc := ⟨.hbm, 189, rfl⟩
abbrev main_v157 : Ref sig .tc := ⟨.hbm, 190, rfl⟩
abbrev main_cst_25 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_26 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_27 : Ref sig .tc := ⟨.hbm, 211, rfl⟩
abbrev main_v176 : Ref sig .tc := ⟨.hbm, 212, rfl⟩
abbrev main_v177 : Ref sig .tc := ⟨.hbm, 213, rfl⟩
abbrev main_cst_28 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1x2816x1024 : Shape := ⟨3, ![1, 2816, 1024]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2816x1024, .bf16⟩
  | .hbm, ⟨6, _⟩ => ⟨S1x2816x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Weights.lean ====
abbrev S4096x1024 : Shape := ⟨2, ![4096, 1024]⟩
abbrev S1024x5632 : Shape := ⟨2, ![1024, 5632]⟩
abbrev S4096x2816 : Shape := ⟨2, ![4096, 2816]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4x1024x1408, .f32⟩
  | .hbm, ⟨5, _⟩ => ⟨S4096x1024, .bf16⟩
  | .hbm, ⟨6, _⟩ => ⟨S4096x2816, .bf16⟩
  | .hbm, ⟨7, _⟩ => ⟨S4096x2816, .bf16⟩
  | .hbm, ⟨8, _⟩ => ⟨S4x1024x1408, .f32⟩
  | .hbm, ⟨9, _⟩ => ⟨S4x1024x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | .local _ .vmem, ⟨6, _⟩ => ⟨S4096x512, .bf16⟩
  | .local _ .vmem, ⟨7, _⟩ => ⟨S4096x512, .bf16⟩
  | .local _ .vmem, ⟨8, _⟩ => ⟨S4096x1408, .bf16⟩
  | .local _ .vmem, ⟨9, _⟩ => ⟨S4096x1408, .bf16⟩
  | .local _ .vmem, ⟨10, _⟩ => ⟨S1x512x1408, .f32⟩
  | .local _ .vmem, ⟨11, _⟩ => ⟨S1x512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== WeightsReferenceIdeal.lean ====
abbrev S4096x1024 : Shape := ⟨2, ![4096, 1024]⟩
abbrev S1024x5632 : Shape := ⟨2, ![1024, 5632]⟩
abbrev S4096x2816 : Shape := ⟨2, ![4096, 2816]⟩
abbrev S4x1024x1408 : Shape := ⟨3, ![4, 1024, 1408]⟩
abbrev S4096x5632 : Shape := ⟨2, ![4096, 5632]⟩
abbrev S5632x1024 : Shape := ⟨2, ![5632, 1024]⟩
abbrev S1024x4x1408 : Shape := ⟨3, ![1024, 4, 1408]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4x1024x1408, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DownWeights.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1x2816x1024 : Shape := ⟨3, ![1, 2816, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 17
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | .hbm, ⟨15, _⟩ => ⟨S4096x1024, .bf16⟩
  | .hbm, ⟨16, _⟩ => ⟨S1x2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .f32⟩
  | .local _ .vmem, ⟨4, _⟩ => ⟨S1x256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWeightsReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩
abbrev S1x2816x1024 : Shape := ⟨3, ![1, 2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x1024, .f32⟩
  | .hbm, ⟨15, _⟩ => ⟨S1024x2816, .f32⟩
  | .hbm, ⟨16, _⟩ => ⟨S2816x1024, .f32⟩
  | .hbm, ⟨17, _⟩ => ⟨S1x2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== InWeights.lean ====
abbrev S4096x1024 : Shape := ⟨2, ![4096, 1024]⟩
abbrev S1024x3072 : Shape := ⟨2, ![1024, 3072]⟩
abbrev S3x4096x512 : Shape := ⟨3, ![3, 4096, 512]⟩
abbrev S2x2x1024x768 : Shape := ⟨4, ![2, 2, 1024, 768]⟩
abbrev S4096x512 : Shape := ⟨2, ![4096, 512]⟩
abbrev S1x4096x256 : Shape := ⟨3, ![1, 4096, 256]⟩
abbrev S2x1x512x768 : Shape := ⟨4, ![2, 1, 512, 768]⟩
abbrev S4096x256 : Shape := ⟨2, ![4096, 256]⟩
abbrev S512x256 : Shape := ⟨2, ![512, 256]⟩
abbrev S1x1x512x256 : Shape := ⟨4, ![1, 1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S3x4096x512, .f32⟩
  | .hbm, ⟨3, _⟩ => ⟨S3x4096x512, .f32⟩
  | .hbm, ⟨4, _⟩ => ⟨S4096x1024, .bf16⟩
  | .hbm, ⟨5, _⟩ => ⟨S3x4096x512, .bf16⟩
  | .hbm, ⟨6, _⟩ => ⟨S3x4096x512, .bf16⟩
  | .hbm, ⟨7, _⟩ => ⟨S2x2x1024x768, .f32⟩
  | .local _ .vmem, ⟨0, _⟩ => ⟨S4096x512, .bf16⟩
  | .local _ .vmem, ⟨1, _⟩ => ⟨S4096x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S2x1x512x768, .f32⟩
  | .local _ .vmem, ⟨15, _⟩ => ⟨S2x1x512x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg1
  let c0_i32_6 : BitVec 32 := 0#32
  let v20 : BitVec 32 := Scalar.addi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32_5 : BitVec 32 := 3#32
  let v19 : BitVec 32 := Scalar.muli c3_i32_5 arg1
  let c1_i32_6 : BitVec 32 := 1#32
  let v20 : BitVec 32 := Scalar.addi v19 c1_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg1
  let c2_i32_6 : BitVec 32 := 2#32
  let v20 : BitVec 32 := Scalar.addi v19 c2_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg1
  let c0_i32_6 : BitVec 32 := 0#32
  let v20 : BitVec 32 := Scalar.addi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32_5 : BitVec 32 := 3#32
  let v19 : BitVec 32 := Scalar.muli c3_i32_5 arg1
  let c1_i32_6 : BitVec 32 := 1#32
  let v20 : BitVec 32 := Scalar.addi v19 c1_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg1
  let c2_i32_6 : BitVec 32 := 2#32
  let v20 : BitVec 32 := Scalar.addi v19 c2_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InWeightsReferenceIdeal.lean ====
abbrev S4096x1024 : Shape := ⟨2, ![4096, 1024]⟩
abbrev S1024x3072 : Shape := ⟨2, ![1024, 3072]⟩
abbrev S3x4096x512 : Shape := ⟨3, ![3, 4096, 512]⟩
abbrev S4096x3072 : Shape := ⟨2, ![4096, 3072]⟩
abbrev S4096x512 : Shape := ⟨2, ![4096, 512]⟩
abbrev S1x4096x512 : Shape := ⟨3, ![1, 4096, 512]⟩
abbrev S3072x1024 : Shape := ⟨2, ![3072, 1024]⟩
abbrev S1024x4x768 : Shape := ⟨3, ![1024, 4, 768]⟩
abbrev S4x1024x768 : Shape := ⟨3, ![4, 1024, 768]⟩
abbrev S2x2x1024x768 : Shape := ⟨4, ![2, 2, 1024, 768]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S3x4096x512, .f32⟩
  | .hbm, ⟨3, _⟩ => ⟨S3x4096x512, .f32⟩
  | .hbm, ⟨4, _⟩ => ⟨S4096x3072, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S1x4096x512, .f32⟩
  | .hbm, ⟨12, _⟩ => ⟨S4096x512, .f32⟩
  | .hbm, ⟨13, _⟩ => ⟨S1x4096x512, .f32⟩
  | .hbm, ⟨14, _⟩ => ⟨S4096x512, .f32⟩
  | .hbm, ⟨15, _⟩ => ⟨S1x4096x512, .f32⟩
  | .hbm, ⟨16, _⟩ => ⟨S4096x512, .f32⟩
  | .hbm, ⟨17, _⟩ => ⟨S1x4096x512, .f32⟩
  | .hbm, ⟨18, _⟩ => ⟨S4096x512, .f32⟩
  | .hbm, ⟨19, _⟩ => ⟨S1x4096x512, .f32⟩
  | .hbm, ⟨20, _⟩ => ⟨S4096x512, .f32⟩
  | .hbm, ⟨21, _⟩ => ⟨S1x4096x512, .f32⟩
  | .hbm, ⟨22, _⟩ => ⟨S4096x512, .f32⟩
  | .hbm, ⟨23, _⟩ => ⟨S4096x3072, .f32⟩
  | .hbm, ⟨24, _⟩ => ⟨S3072x1024, .f32⟩
  | .hbm, ⟨25, _⟩ => ⟨S1024x3072, .f32⟩
  | .hbm, ⟨26, _⟩ => ⟨S1024x4x768, .f32⟩
  | .hbm, ⟨27, _⟩ => ⟨S4x1024x768, .f32⟩
  | .hbm, ⟨28, _⟩ => ⟨S2x2x1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== OutWeights.lean ====
abbrev S4096x1024 : Shape := ⟨2, ![4096, 1024]⟩
abbrev S1024x1024 : Shape := ⟨2, ![1024, 1024]⟩
abbrev S1x1024x1024 : Shape := ⟨3, ![1, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWeightsReferenceIdeal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gates.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatesReferenceIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== DownForward.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x2816x1024 : Shape := ⟨3, ![1, 2816, 1024]⟩
abbrev S1x1x1024 : Shape := ⟨3, ![1, 1, 1024]⟩
abbrev S512x2816 : Shape := ⟨2, ![512, 2816]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x2816x1024, .bf16⟩
  | .hbm, ⟨8, _⟩ => ⟨S1x1x1024, .f32⟩
  | .hbm, ⟨9, _⟩ => ⟨S1x1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownForwardReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== GateUp.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1408 : Shape := ⟨3, ![1024, 4, 1408]⟩
abbrev S4x1024x1408 : Shape := ⟨3, ![4, 1024, 1408]⟩
abbrev S1x1x1024 : Shape := ⟨3, ![1, 1, 1024]⟩
abbrev S512x2816 : Shape := ⟨2, ![512, 2816]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 36
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .bf16⟩
  | .hbm, ⟨26, _⟩ => ⟨S4096x2816, .bf16⟩
  | .hbm, ⟨27, _⟩ => ⟨S1024x4x1408, .f32⟩
  | .hbm, ⟨28, _⟩ => ⟨S4x1024x1408, .f32⟩
  | .hbm, ⟨29, _⟩ => ⟨S4x1024x1408, .bf16⟩
  | .hbm, ⟨30, _⟩ => ⟨S1x1x1024, .f32⟩
  | .hbm, ⟨31, _⟩ => ⟨S1x1x1024, .f32⟩
  | .hbm, ⟨32, _⟩ => ⟨S4096x1024, .f32⟩
  | .hbm, ⟨33, _⟩ => ⟨S1x1024, .f32⟩
  | .hbm, ⟨34, _⟩ => ⟨S4096x1024, .bf16⟩
  | .hbm, ⟨35, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v58 : BitVec 32 := Scalar.extui v0
  let c0_i32_34 : BitVec 32 := 0#32
  let v59 : BitVec 1 := Scalar.cmpi .ne v58 c0_i32_34
  v59

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v60 : BitVec 1 := Scalar.xori v0 v_true
  let v61 : BitVec 32 := Scalar.extui v60
  let c0_i32_35 : BitVec 32 := 0#32
  let v62 : BitVec 1 := Scalar.cmpi .ne v61 c0_i32_35
  v62

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v93 : BitVec 32 := Scalar.extui v0
  let c0_i32_49 : BitVec 32 := 0#32
  let v94 : BitVec 1 := Scalar.cmpi .ne v93 c0_i32_49
  v94

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_50 : BitVec 1 := 1#1
  let v95 : BitVec 1 := Scalar.xori v0 true_50
  let v96 : BitVec 32 := Scalar.extui v95
  let c0_i32_51 : BitVec 32 := 0#32
  let v97 : BitVec 1 := Scalar.cmpi .ne v96 c0_i32_51
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateUpReferenceIdeal.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .bf16⟩
  | .hbm, ⟨107, _⟩ => ⟨S1x1024, .f32⟩
  | .hbm, ⟨108, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Proof.Loops.lean ====
/- The three loops of the attention's gradient, each gone through one tile at a time: what a tile leaves
   in the three accumulators, and the accumulators after the first `k` tiles. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-! ### The tiles of dilation one -/

/-- What one tile of dilation one holds: the seven memrefs it reads, at `X·`, and the three
    accumulators (`arg10` the queries' gradient, `arg11` the keys', `arg12` the values'), at `f·`. -/
abbrev held1 (c : Dev nD) (arg1 : Memref sig .tc .vmem S4096x128 .f32) (arg2 : Memref sig .tc .vmem S4096x128 .f32) (arg3 : Memref sig .tc .vmem S4096x128 .f32) (arg6 : Memref sig .tc .vmem S4096x128 .f32) (arg7 : Memref sig .tc .vmem S4096x128 .f32) (arg8 : Memref sig .tc .vmem S4096x128 .f32) (arg13 : Memref sig .tc .vmem S3x256x256 .f32) (arg10 : Memref sig .tc .vmem S4096x128 .f32) (arg11 : Memref sig .tc .vmem S4096x128 .f32) (arg12 : Memref sig .tc .vmem S4096x128 .f32) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (f10 : BufTy.Contents (Elt F) arg10.view.ty) (f11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- One tile of dilation one: the pieces it stores into the three accumulators, from what they held before. -/
@[irreducible] def tile1 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (k : Fin k0_t1_loop.trips) :
    Σ' (L10 : BufTy.Contents (Elt F) arg10.view.ty → BufTy.Contents (Elt F) arg11.view.ty → BufTy.Contents (Elt F) arg12.view.ty → List (View.Piece (Elt F) S4096x128 .f32)) (L11 : BufTy.Contents (Elt F) arg10.view.ty → BufTy.Contents (Elt F) arg11.view.ty → BufTy.Contents (Elt F) arg12.view.ty → List (View.Piece (Elt F) S4096x128 .f32)),
      { L12 : BufTy.Contents (Elt F) arg10.view.ty → BufTy.Contents (Elt F) arg11.view.ty → BufTy.Contents (Elt F) arg12.view.ty → List (View.Piece (Elt F) S4096x128 .f32) // ∀ (E : Set ℕ) (f10 : BufTy.Contents (Elt F) arg10.view.ty) (f11 : BufTy.Contents (Elt F) arg11.view.ty) (f12 : BufTy.Contents (Elt F) arg12.view.ty),
        held1 c arg1 arg2 arg3 arg6 arg7 arg8 arg13 arg10 arg11 arg12 X1 X2 X3 X6 X7 X8 X13 f10 f11 f12
        ⊢ wp frame (wpE (defs₀ (F := F)) 𝒱₀ (c : Thread nD τ) none) E (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v76 v78 k PUnit.unit)
            (fun _ => held1 c arg1 arg2 arg3 arg6 arg7 arg8 arg13 arg10 arg11 arg12 X1 X2 X3 X6 X7 X8 X13 (arg10.view.writes (Elt F) f10 (L10 f10 f11 f12)) (arg11.view.writes (Elt F) f11 (L11 f10 f11 f12)) (arg12.view.writes (Elt F) f12 (L12 f10 f11 f12))) } := by
  have hk : k.val < 32 := Nat.lt_of_lt_of_le k.isLt Gen.k0_t1_abs.2.1
  refine ⟨?_, ?_, ?_, fun E f10 f11 f12 => ?run⟩
  case run =>
    unfold Gen.k0_t1_body
    iintro ⟨H1, H2, H3, H6, H7, H8, H13, H10, H11, H12⟩
    sl_exec
    sl_step
    sl_close

/-- The pieces the first `k` tiles of dilation one store into the three accumulators, the latest first. -/
def after1 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (G10 : BufTy.Contents (Elt F) arg10.view.ty) (G11 : BufTy.Contents (Elt F) arg11.view.ty) (G12 : BufTy.Contents (Elt F) arg12.view.ty) : ℕ → List (View.Piece (Elt F) S4096x128 .f32) × List (View.Piece (Elt F) S4096x128 .f32) × List (View.Piece (Elt F) S4096x128 .f32)
  | 0 => ([], [], [])
  | k + 1 =>
    let P := after1 c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k
    if h : k < k0_t1_loop.trips then
      let T := tile1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 ⟨k, h⟩
      (T.1 (arg10.view.writes (Elt F) G10 P.1) (arg11.view.writes (Elt F) G11 P.2.1) (arg12.view.writes (Elt F) G12 P.2.2) ++ P.1, T.2.1 (arg10.view.writes (Elt F) G10 P.1) (arg11.view.writes (Elt F) G11 P.2.1) (arg12.view.writes (Elt F) G12 P.2.2) ++ P.2.1, T.2.2.1 (arg10.view.writes (Elt F) G10 P.1) (arg11.view.writes (Elt F) G11 P.2.1) (arg12.view.writes (Elt F) G12 P.2.2) ++ P.2.2)
    else P

theorem after1_succ (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (G10 : BufTy.Contents (Elt F) arg10.view.ty) (G11 : BufTy.Contents (Elt F) arg11.view.ty) (G12 : BufTy.Contents (Elt F) arg12.view.ty) (k : Fin k0_t1_loop.trips) :
    after1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (k.val + 1)
      = (let P := after1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val
         let T := tile1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k
         (T.1 (arg10.view.writes (Elt F) G10 P.1) (arg11.view.writes (Elt F) G11 P.2.1) (arg12.view.writes (Elt F) G12 P.2.2) ++ P.1, T.2.1 (arg10.view.writes (Elt F) G10 P.1) (arg11.view.writes (Elt F) G11 P.2.1) (arg12.view.writes (Elt F) G12 P.2.2) ++ P.2.1, T.2.2.1 (arg10.view.writes (Elt F) G10 P.1) (arg11.view.writes (Elt F) G11 P.2.1) (arg12.view.writes (Elt F) G12 P.2.2) ++ P.2.2)) := by
  rw [after1]; exact dif_pos k.isLt

set_option warn.classDefReducibility false in
/-- The loop over the tiles of dilation one: before tile `k` the accumulators hold what they held before the loop,
    with the first `k` tiles' pieces written over it. -/
@[sl_loop] def loopInv_k0_t1 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (G10 : BufTy.Contents (Elt F) arg10.view.ty) (G11 : BufTy.Contents (Elt F) arg11.view.ty) (G12 : BufTy.Contents (Elt F) arg12.view.ty) :
    Gen.LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v76 v78 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13) ∗ (∃ f, (arg10.view.loc (c : Thread nD τ) ↦[arg10.view.set]{fullShare} f) ∗ ⌜f = arg10.view.writes (Elt F) G10 (after1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).1⌝) ∗ (∃ f, (arg11.view.loc (c : Thread nD τ) ↦[arg11.view.set]{fullShare} f) ∗ ⌜f = arg11.view.writes (Elt F) G11 (after1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.1⌝) ∗ (∃ f, (arg12.view.loc (c : Thread nD τ) ↦[arg12.view.set]{fullShare} f) ∗ ⌜f = arg12.view.writes (Elt F) G12 (after1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.2⌝))
  step k acc := by
    iintro ⟨H1, H2, H3, H6, H7, H8, H13, ⟨%f10, H10, %e10⟩, ⟨%f11, H11, %e11⟩, ⟨%f12, H12, %e12⟩⟩
    iapply (wp_wand_r Idealize.ShloMosaic.frame (wpE (defs₀ (F := F)) 𝒱₀ (c : Thread nD τ) none) Set.univ)
    isplitl [H1 H2 H3 H6 H7 H8 H13 H10 H11 H12]
    · iapply ((tile1 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.2.2 Set.univ f10 f11 f12)
      isplitl [H1]; · iexact H1
      isplitl [H2]; · iexact H2
      isplitl [H3]; · iexact H3
      isplitl [H6]; · iexact H6
      isplitl [H7]; · iexact H7
      isplitl [H8]; · iexact H8
      isplitl [H13]; · iexact H13
      isplitl [H10]; · iexact H10
      isplitl [H11]; · iexact H11
      iexact H12
    · iintro %_ ⟨H1, H2, H3, H6, H7, H8, H13, H10, H11, H12⟩
      isplitl [H1]; · iexact H1
      isplitl [H2]; · iexact H2
      isplitl [H3]; · iexact H3
      isplitl [H6]; · iexact H6
      isplitl [H7]; · iexact H7
      isplitl [H8]; · iexact H8
      isplitl [H13]; · iexact H13
      rw [after1_succ]
      isplitl [H10]
      · iexists _; isplitl [H10]; · iexact H10
        ipureintro; simp only [View.writes_append, ← e10, ← e11, ← e12]
      isplitl [H11]
      · iexists _; isplitl [H11]; · iexact H11
        ipureintro; simp only [View.writes_append, ← e10, ← e11, ← e12]
      iexists _; isplitl [H12]; · iexact H12
      ipureintro; simp only [View.writes_append, ← e10, ← e11, ← e12]

/-! ### The tiles of dilation four -/

/-- What one tile of dilation four holds: the seven memrefs it reads, at `X·`, and the three
    accumulators (`arg10` the queries' gradient, `arg11` the keys', `arg12` the values'), at `f·`. -/
abbrev held2 (c : Dev nD) (arg1 : Memref sig .tc .vmem S4096x128 .f32) (arg2 : Memref sig .tc .vmem S4096x128 .f32) (arg3 : Memref sig .tc .vmem S4096x128 .f32) (arg6 : Memref sig .tc .vmem S4096x128 .f32) (arg7 : Memref sig .tc .vmem S4096x128 .f32) (arg8 : Memref sig .tc .vmem S4096x128 .f32) (arg13 : Memref sig .tc .vmem S3x256x256 .f32) (arg10 : Memref sig .tc .vmem S4096x128 .f32) (arg11 : Memref sig .tc .vmem S4096x128 .f32) (arg12 : Memref sig .tc .vmem S4096x128 .f32) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (f10 : BufTy.Contents (Elt F) arg10.view.ty) (f11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- One tile of dilation four: the pieces it stores into the three accumulators, from what they held before. -/
@[irreducible] def tile2 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (k : Fin k0_t2_loop.trips) :
    Σ' (L10 : BufTy.Contents (Elt F) arg10.view.ty → BufTy.Contents (Elt F) arg11.view.ty → BufTy.Contents (Elt F) arg12.view.ty → List (View.Piece (Elt F) S4096x128 .f32)) (L11 : BufTy.Contents (Elt F) arg10.view.ty → BufTy.Contents (Elt F) arg11.view.ty → BufTy.Contents (Elt F) arg12.view.ty → List (View.Piece (Elt F) S4096x128 .f32)),
      { L12 : BufTy.Contents (Elt F) arg10.view.ty → BufTy.Contents (Elt F) arg11.view.ty → BufTy.Contents (Elt F) arg12.view.ty → List (View.Piece (Elt F) S4096x128 .f32) // ∀ (E : Set ℕ) (f10 : BufTy.Contents (Elt F) arg10.view.ty) (f11 : BufTy.Contents (Elt F) arg11.view.ty) (f12 : BufTy.Contents (Elt F) arg12.view.ty),
        held2 c arg1 arg2 arg3 arg6 arg7 arg8 arg13 arg10 arg11 arg12 X1 X2 X3 X6 X7 X8 X13 f10 f11 f12
        ⊢ wp frame (wpE (defs₀ (F := F)) 𝒱₀ (c : Thread nD τ) none) E (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v76 v78 k PUnit.unit)
            (fun _ => held2 c arg1 arg2 arg3 arg6 arg7 arg8 arg13 arg10 arg11 arg12 X1 X2 X3 X6 X7 X8 X13 (arg10.view.writes (Elt F) f10 (L10 f10 f11 f12)) (arg11.view.writes (Elt F) f11 (L11 f10 f11 f12)) (arg12.view.writes (Elt F) f12 (L12 f10 f11 f12))) } := by
  have hk : k.val < 32 := Nat.lt_of_lt_of_le k.isLt Gen.k0_t2_abs.2.1
  refine ⟨?_, ?_, ?_, fun E f10 f11 f12 => ?run⟩
  case run =>
    unfold Gen.k0_t2_body
    iintro ⟨H1, H2, H3, H6, H7, H8, H13, H10, H11, H12⟩
    sl_exec
    sl_step
    sl_close

/-- The pieces the first `k` tiles of dilation four store into the three accumulators, the latest first. -/
def after2 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (G10 : BufTy.Contents (Elt F) arg10.view.ty) (G11 : BufTy.Contents (Elt F) arg11.view.ty) (G12 : BufTy.Contents (Elt F) arg12.view.ty) : ℕ → List (View.Piece (Elt F) S4096x128 .f32) × List (View.Piece (Elt F) S4096x128 .f32) × List (View.Piece (Elt F) S4096x128 .f32)
  | 0 => ([], [], [])
  | k + 1 =>
    let P := after2 c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k
    if h : k < k0_t2_loop.trips then
      let T := tile2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 ⟨k, h⟩
      (T.1 (arg10.view.writes (Elt F) G10 P.1) (arg11.view.writes (Elt F) G11 P.2.1) (arg12.view.writes (Elt F) G12 P.2.2) ++ P.1, T.2.1 (arg10.view.writes (Elt F) G10 P.1) (arg11.view.writes (Elt F) G11 P.2.1) (arg12.view.writes (Elt F) G12 P.2.2) ++ P.2.1, T.2.2.1 (arg10.view.writes (Elt F) G10 P.1) (arg11.view.writes (Elt F) G11 P.2.1) (arg12.view.writes (Elt F) G12 P.2.2) ++ P.2.2)
    else P

theorem after2_succ (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (G10 : BufTy.Contents (Elt F) arg10.view.ty) (G11 : BufTy.Contents (Elt F) arg11.view.ty) (G12 : BufTy.Contents (Elt F) arg12.view.ty) (k : Fin k0_t2_loop.trips) :
    after2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (k.val + 1)
      = (let P := after2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val
         let T := tile2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k
         (T.1 (arg10.view.writes (Elt F) G10 P.1) (arg11.view.writes (Elt F) G11 P.2.1) (arg12.view.writes (Elt F) G12 P.2.2) ++ P.1, T.2.1 (arg10.view.writes (Elt F) G10 P.1) (arg11.view.writes (Elt F) G11 P.2.1) (arg12.view.writes (Elt F) G12 P.2.2) ++ P.2.1, T.2.2.1 (arg10.view.writes (Elt F) G10 P.1) (arg11.view.writes (Elt F) G11 P.2.1) (arg12.view.writes (Elt F) G12 P.2.2) ++ P.2.2)) := by
  rw [after2]; exact dif_pos k.isLt

set_option warn.classDefReducibility false in
/-- The loop over the tiles of dilation four: before tile `k` the accumulators hold what they held before the loop,
    with the first `k` tiles' pieces written over it. -/
@[sl_loop] def loopInv_k0_t2 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X13 : BufTy.Contents (Elt F) arg13.view.ty) (G10 : BufTy.Contents (Elt F) arg10.view.ty) (G11 : BufTy.Contents (Elt F) arg11.view.ty) (G12 : BufTy.Contents (Elt F) arg12.view.ty) :
    Gen.LoopInvTy_k0_t2 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v76 v78 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13) ∗ (∃ f, (arg10.view.loc (c : Thread nD τ) ↦[arg10.view.set]{fullShare} f) ∗ ⌜f = arg10.view.writes (Elt F) G10 (after2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).1⌝) ∗ (∃ f, (arg11.view.loc (c : Thread nD τ) ↦[arg11.view.set]{fullShare} f) ∗ ⌜f = arg11.view.writes (Elt F) G11 (after2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.1⌝) ∗ (∃ f, (arg12.view.loc (c : Thread nD τ) ↦[arg12.view.set]{fullShare} f) ∗ ⌜f = arg12.view.writes (Elt F) G12 (after2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.2⌝))
  step k acc := by
    iintro ⟨H1, H2, H3, H6, H7, H8, H13, ⟨%f10, H10, %e10⟩, ⟨%f11, H11, %e11⟩, ⟨%f12, H12, %e12⟩⟩
    iapply (wp_wand_r Idealize.ShloMosaic.frame (wpE (defs₀ (F := F)) 𝒱₀ (c : Thread nD τ) none) Set.univ)
    isplitl [H1 H2 H3 H6 H7 H8 H13 H10 H11 H12]
    · iapply ((tile2 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.2.2 Set.univ f10 f11 f12)
      isplitl [H1]; · iexact H1
      isplitl [H2]; · iexact H2
      isplitl [H3]; · iexact H3
      isplitl [H6]; · iexact H6
      isplitl [H7]; · iexact H7
      isplitl [H8]; · iexact H8
      isplitl [H13]; · iexact H13
      isplitl [H10]; · iexact H10
      isplitl [H11]; · iexact H11
      iexact H12
    · iintro %_ ⟨H1, H2, H3, H6, H7, H8, H13, H10, H11, H12⟩
      isplitl [H1]; · iexact H1
      isplitl [H2]; · iexact H2
      isplitl [H3]; · iexact H3
      isplitl [H6]; · iexact H6
      isplitl [H7]; · iexact H7
      isplitl [H8]; · iexact H8
      isplitl [H13]; · iexact H13
      rw [after2_succ]
      isplitl [H10]
      · iexists _; isplitl [H10]; · iexact H10
        ipureintro; simp only [View.writes_append, ← e10, ← e11, ← e12]
      isplitl [H11]
      · iexists _; isplitl [H11]; · iexact H11
        ipureintro; simp only [View.writes_append, ← e10, ← e11, ← e12]
      iexists _; isplitl [H12]; · iexact H12
      ipureintro; simp only [View.writes_append, ← e10, ← e11, ← e12]

/-! ### The tiles of dilation sixteen -/

/-- What one tile of dilation sixteen holds: the seven memrefs it reads, at `X·`, and the three
    accumulators (`arg10` the queries' gradient, `arg11` the keys', `arg12` the values'), at `f·`. -/
abbrev held3 (c : Dev nD) (arg1 : Memref sig .tc .vmem S4096x128 .f32) (arg2 : Memref sig .tc .vmem S4096x128 .f32) (arg3 : Memref sig .tc .vmem S4096x128 .f32) (arg6 : Memref sig .tc .vmem S4096x128 .f32) (arg7 : Memref sig .tc .vmem S4096x128 .f32) (arg8 : Memref sig .tc .vmem S4096x128 .f32) (arg14 : Memref sig .tc .vmem S512x256 .f32) (arg10 : Memref sig .tc .vmem S4096x128 .f32) (arg11 : Memref sig .tc .vmem S4096x128 .f32) (arg12 : Memref sig .tc .vmem S4096x128 .f32) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X14 : BufTy.Contents (Elt F) arg14.view.ty) (f10 : BufTy.Contents (Elt F) arg10.view.ty) (f11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg14.view.loc (c : Thread nD τ) ↦[arg14.view.set]{fullShare} X14) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- One tile of dilation sixteen: the pieces it stores into the three accumulators, from what they held before. -/
@[irreducible] def tile3 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X14 : BufTy.Contents (Elt F) arg14.view.ty) (k : Fin k0_t3_loop.trips) :
    Σ' (L10 : BufTy.Contents (Elt F) arg10.view.ty → BufTy.Contents (Elt F) arg11.view.ty → BufTy.Contents (Elt F) arg12.view.ty → List (View.Piece (Elt F) S4096x128 .f32)) (L11 : BufTy.Contents (Elt F) arg10.view.ty → BufTy.Contents (Elt F) arg11.view.ty → BufTy.Contents (Elt F) arg12.view.ty → List (View.Piece (Elt F) S4096x128 .f32)),
      { L12 : BufTy.Contents (Elt F) arg10.view.ty → BufTy.Contents (Elt F) arg11.view.ty → BufTy.Contents (Elt F) arg12.view.ty → List (View.Piece (Elt F) S4096x128 .f32) // ∀ (E : Set ℕ) (f10 : BufTy.Contents (Elt F) arg10.view.ty) (f11 : BufTy.Contents (Elt F) arg11.view.ty) (f12 : BufTy.Contents (Elt F) arg12.view.ty),
        held3 c arg1 arg2 arg3 arg6 arg7 arg8 arg14 arg10 arg11 arg12 X1 X2 X3 X6 X7 X8 X14 f10 f11 f12
        ⊢ wp frame (wpE (defs₀ (F := F)) 𝒱₀ (c : Thread nD τ) none) E (Gen.k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v76 v78 k PUnit.unit)
            (fun _ => held3 c arg1 arg2 arg3 arg6 arg7 arg8 arg14 arg10 arg11 arg12 X1 X2 X3 X6 X7 X8 X14 (arg10.view.writes (Elt F) f10 (L10 f10 f11 f12)) (arg11.view.writes (Elt F) f11 (L11 f10 f11 f12)) (arg12.view.writes (Elt F) f12 (L12 f10 f11 f12))) } := by
  have hk : k.val < 16 := Nat.lt_of_lt_of_le k.isLt Gen.k0_t3_abs.2.1
  refine ⟨?_, ?_, ?_, fun E f10 f11 f12 => ?run⟩
  case run =>
    unfold Gen.k0_t3_body
    iintro ⟨H1, H2, H3, H6, H7, H8, H14, H10, H11, H12⟩
    sl_exec
    sl_step
    sl_close

/-- The pieces the first `k` tiles of dilation sixteen store into the three accumulators, the latest first. -/
def after3 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X14 : BufTy.Contents (Elt F) arg14.view.ty) (G10 : BufTy.Contents (Elt F) arg10.view.ty) (G11 : BufTy.Contents (Elt F) arg11.view.ty) (G12 : BufTy.Contents (Elt F) arg12.view.ty) : ℕ → List (View.Piece (Elt F) S4096x128 .f32) × List (View.Piece (Elt F) S4096x128 .f32) × List (View.Piece (Elt F) S4096x128 .f32)
  | 0 => ([], [], [])
  | k + 1 =>
    let P := after3 c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k
    if h : k < k0_t3_loop.trips then
      let T := tile3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 ⟨k, h⟩
      (T.1 (arg10.view.writes (Elt F) G10 P.1) (arg11.view.writes (Elt F) G11 P.2.1) (arg12.view.writes (Elt F) G12 P.2.2) ++ P.1, T.2.1 (arg10.view.writes (Elt F) G10 P.1) (arg11.view.writes (Elt F) G11 P.2.1) (arg12.view.writes (Elt F) G12 P.2.2) ++ P.2.1, T.2.2.1 (arg10.view.writes (Elt F) G10 P.1) (arg11.view.writes (Elt F) G11 P.2.1) (arg12.view.writes (Elt F) G12 P.2.2) ++ P.2.2)
    else P

theorem after3_succ (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X14 : BufTy.Contents (Elt F) arg14.view.ty) (G10 : BufTy.Contents (Elt F) arg10.view.ty) (G11 : BufTy.Contents (Elt F) arg11.view.ty) (G12 : BufTy.Contents (Elt F) arg12.view.ty) (k : Fin k0_t3_loop.trips) :
    after3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 (k.val + 1)
      = (let P := after3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val
         let T := tile3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k
         (T.1 (arg10.view.writes (Elt F) G10 P.1) (arg11.view.writes (Elt F) G11 P.2.1) (arg12.view.writes (Elt F) G12 P.2.2) ++ P.1, T.2.1 (arg10.view.writes (Elt F) G10 P.1) (arg11.view.writes (Elt F) G11 P.2.1) (arg12.view.writes (Elt F) G12 P.2.2) ++ P.2.1, T.2.2.1 (arg10.view.writes (Elt F) G10 P.1) (arg11.view.writes (Elt F) G11 P.2.1) (arg12.view.writes (Elt F) G12 P.2.2) ++ P.2.2)) := by
  rw [after3]; exact dif_pos k.isLt

set_option warn.classDefReducibility false in
/-- The loop over the tiles of dilation sixteen: before tile `k` the accumulators hold what they held before the loop,
    with the first `k` tiles' pieces written over it. -/
@[sl_loop] def loopInv_k0_t3 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1) (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (X14 : BufTy.Contents (Elt F) arg14.view.ty) (G10 : BufTy.Contents (Elt F) arg10.view.ty) (G11 : BufTy.Contents (Elt F) arg11.view.ty) (G12 : BufTy.Contents (Elt F) arg12.view.ty) :
    Gen.LoopInvTy_k0_t3 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v76 v78 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg14.view.loc (c : Thread nD τ) ↦[arg14.view.set]{fullShare} X14) ∗ (∃ f, (arg10.view.loc (c : Thread nD τ) ↦[arg10.view.set]{fullShare} f) ∗ ⌜f = arg10.view.writes (Elt F) G10 (after3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k).1⌝) ∗ (∃ f, (arg11.view.loc (c : Thread nD τ) ↦[arg11.view.set]{fullShare} f) ∗ ⌜f = arg11.view.writes (Elt F) G11 (after3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k).2.1⌝) ∗ (∃ f, (arg12.view.loc (c : Thread nD τ) ↦[arg12.view.set]{fullShare} f) ∗ ⌜f = arg12.view.writes (Elt F) G12 (after3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k).2.2⌝))
  step k acc := by
    iintro ⟨H1, H2, H3, H6, H7, H8, H14, ⟨%f10, H10, %e10⟩, ⟨%f11, H11, %e11⟩, ⟨%f12, H12, %e12⟩⟩
    iapply (wp_wand_r Idealize.ShloMosaic.frame (wpE (defs₀ (F := F)) 𝒱₀ (c : Thread nD τ) none) Set.univ)
    isplitl [H1 H2 H3 H6 H7 H8 H14 H10 H11 H12]
    · iapply ((tile3 (F := F) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).2.2.2 Set.univ f10 f11 f12)
      isplitl [H1]; · iexact H1
      isplitl [H2]; · iexact H2
      isplitl [H3]; · iexact H3
      isplitl [H6]; · iexact H6
      isplitl [H7]; · iexact H7
      isplitl [H8]; · iexact H8
      isplitl [H14]; · iexact H14
      isplitl [H10]; · iexact H10
      isplitl [H11]; · iexact H11
      iexact H12
    · iintro %_ ⟨H1, H2, H3, H6, H7, H8, H14, H10, H11, H12⟩
      isplitl [H1]; · iexact H1
      isplitl [H2]; · iexact H2
      isplitl [H3]; · iexact H3
      isplitl [H6]; · iexact H6
      isplitl [H7]; · iexact H7
      isplitl [H8]; · iexact H8
      isplitl [H14]; · iexact H14
      rw [after3_succ]
      isplitl [H10]
      · iexists _; isplitl [H10]; · iexact H10
        ipureintro; simp only [View.writes_append, ← e10, ← e11, ← e12]
      isplitl [H11]
      · iexists _; isplitl [H11]; · iexact H11
        ipureintro; simp only [View.writes_append, ← e10, ← e11, ← e12]
      iexists _; isplitl [H12]; · iexact H12
      ipureintro; simp only [View.writes_append, ← e10, ← e11, ← e12]

end Cert.KernelIdeal.Tiles

end
-- ==== Proof.Body.lean ====
/- The body of the attention's gradient, at any grid point: given its eight input blocks it runs to the end, and
   what it leaves in the output's block are the pieces the run finds. -/
module

public import proofs.«01_k».proof.Proof.Gen.KernelIdeal.Frame
public import proofs.«01_k».proof.Proof.Gen.KernelIdeal.Points
public import proofs.«01_k».proof.Proof.Loops
public import Idealize.ShloMosaic.Lib.Pipeline.FrameBody
public import Idealize.ShloMosaic.Lib.Ring
public import Idealize.ShloMosaic.Lib.WordCmp

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F] [Named F]

local notation "𝕄" => MT nD τ sig Unit (Elt F) ℕ (UR sig nD τ) ℕ

set_option maxHeartbeats 4000000 in
/-- The pieces the body stores into the output's block, with the proof that from the eight input blocks (and anything in the output
    and the five scratch buffers) the body runs to the end, leaving the inputs as they were and those pieces in the output. -/
noncomputable def bodyRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole)
    (x0 : Vec F S4096x128 .f32) (x1 : Vec F S4096x128 .f32) (x2 : Vec F S4096x128 .f32) (x3 : Vec F S4096x128 .f32) (x4 : Vec F S4096x128 .f32) (x5 : Vec F S4096x128 .f32) (x6 : Vec F S4096x128 .f32) (x7 : Vec F S4096x128 .f32) :
    { L : List (View.Piece (Elt F) S3x4096x128 .bf16) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) 𝒱₀ c none) Set.univ (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Tiles

end
-- ==== Proof.Run.lean ====
/- The frame: the attention's gradient runs to the end from any memory, leaves its arguments as they were, and the
   output array holds, block by block, what the body leaves. -/
module

public import proofs.«01_k».proof.Proof.Body
public import Idealize.ShloMosaic.Lib.Claim

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces cover the output's block: eight chunks of rows of each of the three gradients. -/
theorem covered (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole)
    (x0 : Vec F S4096x128 .f32) (x1 : Vec F S4096x128 .f32) (x2 : Vec F S4096x128 .f32) (x3 : Vec F S4096x128 .f32) (x4 : Vec F S4096x128 .f32) (x5 : Vec F S4096x128 .f32) (x6 : Vec F S4096x128 .f32) (x7 : Vec F S4096x128 .f32) (y : S3x4096x128.Idx) :
    ∃ pc ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S1x512x128.size (by sl_kernel_rfl) y

/-! ### Each window's memref is whole -/

theorem hs0 (t : Fin cfg0.N) : (st0_0 t).IsWhole := hstage0_0 ((cfg0.slots t 0).cast nbuf0_0)
theorem hs1 (t : Fin cfg0.N) : (st0_1 t).IsWhole := hstage0_1 ((cfg0.slots t 1).cast nbuf0_1)
theorem hs2 (t : Fin cfg0.N) : (st0_2 t).IsWhole := hstage0_2 ((cfg0.slots t 2).cast nbuf0_2)
theorem hs3 (t : Fin cfg0.N) : (st0_3 t).IsWhole := hstage0_3 ((cfg0.slots t 3).cast nbuf0_3)
theorem hs4 (t : Fin cfg0.N) : (st0_4 t).IsWhole := hstage0_4 ((cfg0.slots t 4).cast nbuf0_4)
theorem hs5 (t : Fin cfg0.N) : (st0_5 t).IsWhole := hstage0_5 ((cfg0.slots t 5).cast nbuf0_5)
theorem hs6 (t : Fin cfg0.N) : (st0_6 t).IsWhole := hstage0_6 ((cfg0.slots t 6).cast nbuf0_6)
theorem hs7 (t : Fin cfg0.N) : (st0_7 t).IsWhole := hstage0_7 ((cfg0.slots t 7).cast nbuf0_7)
theorem hs8 (t : Fin cfg0.N) : (st0_8 t).IsWhole := hstage0_8 ((cfg0.slots t 8).cast nbuf0_8)

/-- A view of the output's block, through which its contents are read. -/
abbrev outView : View sig .tc .vmem S3x4096x128 .bf16 := (Memref.whole cc0_stg8_0 : Memref sig .tc .vmem S3x4096x128 .bf16).view

/-- The pieces stored at grid point `t`. -/
def piecesAt (c : Dev nD) (t : Fin cfg0.N) : List (View.Piece (Elt F) S3x4096x128 .bf16) :=
  (bodyRun (F := F) c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t)).1

/-- The output's block after grid point `t`. -/
def outAt (c : Dev nD) (t : Fin cfg0.N) : Vec F S3x4096x128 .bf16 :=
  outView.read (Elt F) (outView.writes (Elt F) outView.junk (piecesAt m c t))

/-- The proof data: each array as the region finds it, each input's block left in place, the output's block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d

/-- The scratch buffers and the generator's register, as the body takes them. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at grid point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

/-- What the body leaves at grid point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

set_option maxHeartbeats 1200000 in
/-- The body at any grid point, by its run. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  unfold outAt piecesAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun (F := F) c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (covered (F := F) c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t))

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The launch: every fair execution ends with the arrays at what the proof data give, and every semaphore at zero. -/
theorem launched : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := dats_A m) (hΦ := fun _ _ => rfl)

theorem run_main : θ_run defs (onTc (τ := τ) (main (F := F))) (s₀ m ρ) (Pipeline.FramePost cfgs (dats m) 0 (V m)) :=
  (θ_run defs _ _).mono (fun _ h => h.1) (launched m ρ)

/-- The frame: the arguments end as they began and every semaphore at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (frame_of m ρ (dats m) (dats_A m) (run_main m ρ)) ((θ_run defs _ _).mono (fun _ h => h.2) (launched m ρ))

end Cert.KernelIdeal.Tiles

end
-- ==== Proof.Frames.lean ====
/- Both programs return from any memory, and the reference does: the run of the kernel is proved in `Run` for the
   program whose mask is named, and in `BitsRun` for the program as printed. -/
module

public import proofs.«01_k».proof.Defs
public import proofs.«01_k».proof.Proof.Run
public import proofs.«01_k».proof.Proof.BitsRun
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := fun m ρ _ => Cert.Kernel.Tiles.framed m ρ

theorem frame_ideal : Cert.quiescent_KernelIdeal := fun m ρ _ => Cert.KernelIdeal.Tiles.framed m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named mask is `⊥` at `Ideal`. -/
theorem preserved : Cert.preserves_Kernel_KernelIdeal :=
  IdealRules.named_const.statement Cert.KernelIdeal.κ "mask" .f32 0xF149F2CA#32 ⊥ rfl

end Cert.Proof

end
-- ==== Proof.Finite.lean ====
module
public import proofs.«01_k».proof.Defs
public import Idealize.ShloMosaic.Lib.Pointwise
@[expose] public section

/-!
  What the precondition says: every element of the six arguments is a real number.
-/

noncomputable section
namespace Cert.Attention
open Idealize.ShloMosaic

/-- The shape relations the precondition takes. -/
theorem finite_facts : Cert.Pre_finite.Facts where
  concatenates_S4096x512_S4096x512_S4096x512_S4096x8_S4096x8_S4096x512_S4096x2064_d1 := by decide
  bcast_S_S4096x2064 := by decide

theorem real_of_bit (x : EReal) (h : BitVec.ofBool (decide (max x (-x) < Ideal.ofBits .f32 2139095040#32)) = 1#1) : ∃ r : ℝ, x = (r : EReal) := by
  have ht : Ideal.ofBits .f32 2139095040#32 = ⊤ := by simp [Ideal.ofBits, Ideal.ieee]
  have hl : max x (-x) < ⊤ := by
    rw [ht] at h
    by_contra hn
    rw [decide_eq_false hn] at h
    exact absurd h (by decide)
  induction x with
  | bot => simp at hl
  | top => simp at hl
  | coe r => exact ⟨r, rfl⟩

variable [Cert.Pre_finite.Facts] (a0 a1 a2 : FVec Ideal Cert.Pre_finite.S4096x512 .f32) (a3 a4 : FVec Ideal Cert.Pre_finite.S4096x8 .f32)
  (a5 : FVec Ideal Cert.Pre_finite.S4096x512 .f32) (hf : Cert.Pre_finite.fn (F := Ideal) a0 a1 a2 a3 a4 a5 = fun _ => 1#1)

/-- The arguments side by side, at one index. -/
def joined (i : Fin 4096) (z : Fin 2064) : EReal :=
  if h : z.val < 512 then a0 (ix2 i ⟨z.val, h⟩)
  else if h : z.val - 512 < 512 then a1 (ix2 i ⟨z.val - 512, h⟩)
  else if h : z.val - 512 - 512 < 512 then a2 (ix2 i ⟨z.val - 512 - 512, h⟩)
  else if h : z.val - 512 - 512 - 512 < 8 then a3 (ix2 i ⟨z.val - 512 - 512 - 512, h⟩)
  else if h : z.val - 512 - 512 - 512 - 8 < 8 then a4 (ix2 i ⟨z.val - 512 - 512 - 512 - 8, h⟩)
  else a5 (ix2 i ⟨z.val - 512 - 512 - 512 - 8 - 8, by omega⟩)

include hf in
theorem joined_real (i : Fin 4096) (z : Fin 2064) : ∃ r : ℝ, joined a0 a1 a2 a3 a4 a5 i z = (r : EReal) := by
  refine real_of_bit _ ?_
  have h := congrFun hf (ix2 i z)
  revert h
  pointwise [Cert.Pre_finite.fn]
  exact id

include hf
theorem real_0 (i : Fin 4096) (z : Fin 512) : ∃ r : ℝ, a0 (ix2 i z) = (r : EReal) := by
  have h := joined_real a0 a1 a2 a3 a4 a5 hf i ⟨z.val, by omega⟩
  unfold joined at h
  rwa [dif_pos z.isLt] at h
theorem real_1 (i : Fin 4096) (z : Fin 512) : ∃ r : ℝ, a1 (ix2 i z) = (r : EReal) := by
  have h := joined_real a0 a1 a2 a3 a4 a5 hf i ⟨512 + z.val, by omega⟩
  unfold joined at h
  rw [dif_neg (by simp only; omega), dif_pos (by simp only; omega)] at h
  have e : (⟨512 + z.val - 512, by omega⟩ : Fin 512) = z := Fin.ext (by simp only; omega)
  rwa [e] at h
theorem real_2 (i : Fin 4096) (z : Fin 512) : ∃ r : ℝ, a2 (ix2 i z) = (r : EReal) := by
  have h := joined_real a0 a1 a2 a3 a4 a5 hf i ⟨1024 + z.val, by omega⟩
  unfold joined at h
  rw [dif_neg (by simp only; omega), dif_neg (by simp only; omega), dif_pos (by simp only; omega)] at h
  have e : (⟨1024 + z.val - 512 - 512, by omega⟩ : Fin 512) = z := Fin.ext (by simp only; omega)
  rwa [e] at h
theorem real_3 (i : Fin 4096) (z : Fin 8) : ∃ r : ℝ, a3 (ix2 i z) = (r : EReal) := by
  have h := joined_real a0 a1 a2 a3 a4 a5 hf i ⟨1536 + z.val, by omega⟩
  unfold joined at h
  rw [dif_neg (by simp only; omega), dif_neg (by simp only; omega), dif_neg (by simp only; omega), dif_pos (by simp only; omega)] at h
  have e : (⟨1536 + z.val - 512 - 512 - 512, by omega⟩ : Fin 8) = z := Fin.ext (by simp only; omega)
  rwa [e] at h
theorem real_4 (i : Fin 4096) (z : Fin 8) : ∃ r : ℝ, a4 (ix2 i z) = (r : EReal) := by
  have h := joined_real a0 a1 a2 a3 a4 a5 hf i ⟨1544 + z.val, by omega⟩
  unfold joined at h
  rw [dif_neg (by simp only; omega), dif_neg (by simp only; omega), dif_neg (by simp only; omega), dif_neg (by simp only; omega),
    dif_pos (by simp only; omega)] at h
  have e : (⟨1544 + z.val - 512 - 512 - 512 - 8, by omega⟩ : Fin 8) = z := Fin.ext (by simp only; omega)
  rwa [e] at h
theorem real_5 (i : Fin 4096) (z : Fin 512) : ∃ r : ℝ, a5 (ix2 i z) = (r : EReal) := by
  have h := joined_real a0 a1 a2 a3 a4 a5 hf i ⟨1552 + z.val, by omega⟩
  unfold joined at h
  rw [dif_neg (by simp only; omega), dif_neg (by simp only; omega), dif_neg (by simp only; omega), dif_neg (by simp only; omega),
    dif_neg (by simp only; omega)] at h
  have e : (⟨1552 + z.val - 512 - 512 - 512 - 8 - 8, by omega⟩ : Fin 512) = z := Fin.ext (by simp only; omega)
  rwa [e] at h

end Cert.Attention
-- ==== Proof.Rows.lean ====
/- The arithmetic of one pair of heads, row by row: a query's score against a key, its weight, and the gradient of
   the score. The rows are indexed by any types, so that a tile's rows and the whole block's are two readings of one
   definition. -/
module

public import Idealize.ShloMosaic.PureOps.Ideal

@[expose] public section

noncomputable section

namespace Cert.Attention

open Idealize.ShloMosaic

/-- The six arrays of a pair of heads, by rows: `α` names the queries' rows, `β` the keys'. `l` is the log of a row's
    sum and `e` the row's product of gradient and output, both repeated over the lanes of a head. -/
structure Rows (α β : Type) where
  q : α → Fin 128 → EReal
  g : α → Fin 128 → EReal
  l : α → Fin 128 → EReal
  e : α → Fin 128 → EReal
  k : β → Fin 128 → EReal
  v : β → Fin 128 → EReal

/-- The head a lane lies in. -/
def side (c : Fin 128) : Fin 2 := ⟨c.val / 64, by omega⟩

/-- The first lane of a head. -/
def first (h : Fin 2) : Fin 128 := ⟨64 * h.val, by omega⟩

/-- The scale of the scores, an eighth. -/
def eighth : EReal := Ideal.ofBits .f32 0x3E000000#32

/-- A row with the lanes of the other head at zero. -/
def only (h : Fin 2) (x : Fin 128 → EReal) (c : Fin 128) : EReal := if side c = h then x c else 0

variable {α β α' β' : Type} (R : Rows α β)

def Rows.qs (a : α) (c : Fin 128) : EReal := R.q a c * eighth

def Rows.score (h : Fin 2) (a : α) (b : β) : EReal := ∑ c, only h (R.qs a) c * R.k b c

/-- A weight, with `s` added to its score. -/
def Rows.probAt (s : EReal) (h : Fin 2) (a : α) (b : β) : EReal := Ideal.exp (R.score h a b + s - R.l a (first h))

def Rows.dprob (h : Fin 2) (a : α) (b : β) : EReal := ∑ c, only h (R.g a) c * R.v b c

def Rows.dscoreAt (s : EReal) (h : Fin 2) (a : α) (b : β) : EReal := R.probAt s h a b * (R.dprob h a b - R.e a (first h))

/-- The rows read through two maps. -/
def Rows.along (f : α' → α) (t : β' → β) : Rows α' β' :=
  ⟨fun a => R.q (f a), fun a => R.g (f a), fun a => R.l (f a), fun a => R.e (f a), fun b => R.k (t b), fun b => R.v (t b)⟩

theorem Rows.probAt_along (f : α' → α) (t : β' → β) (s : EReal) (h : Fin 2) (a : α') (b : β') :
    (R.along f t).probAt s h a b = R.probAt s h (f a) (t b) := rfl

theorem Rows.dscoreAt_along (f : α' → α) (t : β' → β) (s : EReal) (h : Fin 2) (a : α') (b : β') :
    (R.along f t).dscoreAt s h a b = R.dscoreAt s h (f a) (t b) := rfl

/-- What is masked weighs nothing, whatever the score. -/
theorem Rows.probAt_bot (h : Fin 2) (a : α) (b : β) : R.probAt ⊥ h a b = 0 := by
  rw [Rows.probAt, EReal.add_bot, sub_eq_add_neg, EReal.bot_add, Ideal.exp_bot]

theorem Rows.dscoreAt_bot (h : Fin 2) (a : α) (b : β) : R.dscoreAt ⊥ h a b = 0 := by
  rw [Rows.dscoreAt, Rows.probAt_bot, zero_mul]

/-- A sum over the lanes of one head's part is that head's term at each lane. -/
theorem mul_only (x : EReal) (h : Fin 2) (c : Fin 128) (z : Fin 128 → EReal) :
    x * only h z c = if side c = h then x * z c else 0 := by
  unfold only; split <;> simp

end Cert.Attention

end
-- ==== Proof.TileVectors.lean ====
/- One tile's three payloads at an index: the vector operations of a tile of 128 queries (dilations one and four) and
   of a tile of 256 (dilation sixteen), each read down to the arithmetic of `Rows`. -/
module

public import proofs.«01_k».proof.Proof.Gen.KernelIdeal.Skeleton
public import proofs.«01_k».proof.Proof.Rows
public import Idealize.ShloMosaic.Lib.Pointwise
public import Idealize.ShloMosaic.Lib.Tactic.CleanTypes

@[expose] public section

set_option maxRecDepth 16384

noncomputable section

namespace Cert.KernelIdeal.Tiles

open Idealize.ShloMosaic Cert.KernelIdeal.Gen Cert.Attention

theorem lane_lt (x : Fin 128) : IntOp.cmpi .slt (BitVec.ofNat 32 x.val) 64#32 = if side x = 0 then 1#1 else 0#1 := by
  revert x; decide

theorem select_lane {α : Type} (x : Fin 128) (A B : α) :
    Scalar.select (IntOp.cmpi .slt (BitVec.ofNat 32 x.val) 64#32) A B = if side x = 0 then A else B := by
  rw [lane_lt]; split <;> rfl

theorem side_ne_zero {x : Fin 128} (h : ¬side x = 0) : side x = 1 := by
  generalize side x = y at h; revert h; revert y; decide

theorem select_zero (x : Fin 128) (A : EReal) :
    Scalar.select (IntOp.cmpi .slt (BitVec.ofNat 32 x.val) 64#32) A 0 = if side x = 0 then A else 0 := select_lane x A 0

theorem select_one (x : Fin 128) (A : EReal) :
    Scalar.select (IntOp.cmpi .slt (BitVec.ofNat 32 x.val) 64#32) 0 A = if side x = 1 then A else 0 := by
  rw [select_lane]
  by_cases hx : side x = 0
  · rw [if_pos hx, if_neg (by rw [hx]; decide)]
  · rw [if_neg hx, if_pos (side_ne_zero hx)]

theorem zero_or_one (h : Fin 2) : h = 0 ∨ h = 1 := by revert h; decide

/-! ### A tile of 128 queries -/

section Tile128

variable (bias : Vec Ideal S1x256x256 .f32) (q g l e old : Vec Ideal S128x128 .f32) (k v : Vec Ideal S256x128 .f32) (oldk : Vec Ideal S256x128 .f32)

/-- The tile's rows. -/
def rows128 : Rows (Fin 128) (Fin 256) :=
  ⟨fun a c => q (ix2 a c), fun a c => g (ix2 a c), fun a c => l (ix2 a c), fun a c => e (ix2 a c), fun b c => k (ix2 b c), fun b c => v (ix2 b c)⟩

/-- Row `a` of head `h` among the stacked rows. -/
def stacked128 (h : Fin 2) (a : Fin 128) : Fin 256 := ⟨128 * h.val + a.val, by omega⟩

def weights128 : FVec Ideal S256x256 .f32 := k0_pay19 (k0_pay17 bias q k) (k0_pay18 l)

def dscores128 : FVec Ideal S256x256 .bf16 := k0_pay20 (k0_pay14 g) (k0_pay16 v) (k0_pay17 bias q k) (k0_pay18 l) e

def queries128 : FVec Ideal S128x128 .f32 := k0_pay21 k0_pay12 (k0_pay14 g) (k0_pay15 k) (k0_pay16 v) (k0_pay17 bias q k) (k0_pay18 l) e old

def keys128 : FVec Ideal S256x128 .f32 := k0_pay22 (k0_pay13 q) (k0_pay14 g) (k0_pay16 v) (k0_pay17 bias q k) (k0_pay18 l) e oldk

def values128 : FVec Ideal S256x128 .f32 := k0_pay23 (k0_pay14 g) (k0_pay17 bias q k) (k0_pay18 l) oldk

theorem lower128 (a : Fin 128) : (stacked128 0 a).val < 128 := by simp [stacked128]

theorem lower128_eq (a : Fin 128) : (⟨(stacked128 0 a).val, lower128 a⟩ : Fin 128) = a := Fin.ext (by simp [stacked128])

theorem upper128 (a : Fin 128) : ¬(stacked128 1 a).val < 128 := by simp [stacked128]

theorem upper128_eq (a : Fin 128) (h : (stacked128 1 a).val - 128 < 128) : (⟨(stacked128 1 a).val - 128, h⟩ : Fin 128) = a :=
  Fin.ext (by simp [stacked128])

theorem weights128_apply (h : Fin 2) (a : Fin 128) (b : Fin 256) :
    weights128 bias q l k (ix2 (stacked128 h a) b) = (rows128 q g l e k v).probAt (bias (ix3 0 (stacked128 h a) b)) h a b := by
  pointwise [weights128, k0_pay19, k0_pay17, k0_pay18, k0_pay13, k0_pay15, k0_pay12]
  rcases zero_or_one h with rfl | rfl
  · simp only [dif_pos (lower128 a), lower128_eq, select_zero]; rfl
  · simp only [dif_neg (upper128 a), upper128_eq, select_one]; rfl

theorem dscores128_apply (h : Fin 2) (a : Fin 128) (b : Fin 256) :
    dscores128 bias q g l e k v (ix2 (stacked128 h a) b) = (rows128 q g l e k v).dscoreAt (bias (ix3 0 (stacked128 h a) b)) h a b := by
  have w := weights128_apply bias q g l e k v h a b
  unfold Rows.dscoreAt
  rw [← w]
  pointwise [dscores128, k0_pay20, k0_pay14, k0_pay16, k0_pay12]
  rcases zero_or_one h with rfl | rfl
  · simp only [dif_pos (lower128 a), lower128_eq, select_zero]; rfl
  · simp only [dif_neg (upper128 a), upper128_eq, select_one]; rfl

theorem sum_stacked128 (z : Fin 256 → EReal) : ∑ x, z x = ∑ a, z (stacked128 0 a) + ∑ a, z (stacked128 1 a) := by
  rw [show (∑ x : Fin 256, z x) = ∑ x : Fin (128 + 128), z x from rfl, Fin.sum_univ_add]
  congr 1 <;> refine Finset.sum_congr rfl fun a _ => congrArg z (Fin.ext ?_) <;> simp [stacked128]

theorem stackedQueries128_apply (h : Fin 2) (a : Fin 128) (c : Fin 128) :
    k0_pay13 q (ix2 (stacked128 h a) c) = only h ((rows128 q g l e k v).qs a) c := by
  pointwise [k0_pay13, k0_pay12]
  rcases zero_or_one h with rfl | rfl
  · simp only [dif_pos (lower128 a), lower128_eq, select_zero]; rfl
  · simp only [dif_neg (upper128 a), upper128_eq, select_one]; rfl

theorem stackedGrads128_apply (h : Fin 2) (a : Fin 128) (c : Fin 128) :
    k0_pay14 g (ix2 (stacked128 h a) c) = only h ((rows128 q g l e k v).g a) c := by
  pointwise [k0_pay14, k0_pay12]
  rcases zero_or_one h with rfl | rfl
  · simp only [dif_pos (lower128 a), lower128_eq, select_zero]; rfl
  · simp only [dif_neg (upper128 a), upper128_eq, select_one]; rfl

/-- A term of each head, of which the lane keeps its own head's. -/
theorem sum_sides128 (z : Fin 2 → Fin 128 → EReal) (c : Fin 128) (w : Fin 128 → Fin 128 → EReal) :
    (∑ a, z 0 a * only 0 (w a) c) + ∑ a, z 1 a * only 1 (w a) c = ∑ a, z (side c) a * w a c := by
  rw [← Finset.sum_add_distrib]
  refine Finset.sum_congr rfl fun a _ => ?_
  rw [mul_only, mul_only]
  rcases zero_or_one (side c) with h | h <;> simp [h]

theorem queries128_apply (a : Fin 128) (c : Fin 128) :
    queries128 bias q g l e old k v (ix2 a c)
      = old (ix2 a c) + (∑ b, (rows128 q g l e k v).dscoreAt (bias (ix3 0 (stacked128 (side c) a) b)) (side c) a b * k (ix2 b c)) * eighth := by
  simp only [← dscores128_apply]
  pointwise [queries128, k0_pay21, k0_pay15, k0_pay12]
  refine congrArg (old (ix2 a c) + · * eighth) ((select_lane c _ _).trans ?_)
  rcases zero_or_one (side c) with h | h
  · rw [h, if_pos rfl]
    exact Finset.sum_congr rfl fun x _ => congrArg (fun y => dscores128 bias q g l e k v (ix2 y x) * k (ix2 x c)) (Fin.ext (by simp [stacked128]))
  · rw [h, if_neg (by decide)]
    exact Finset.sum_congr rfl fun x _ => congrArg (fun y => dscores128 bias q g l e k v (ix2 y x) * k (ix2 x c)) (Fin.ext (by simp [stacked128]))

theorem keys128_apply (b : Fin 256) (c : Fin 128) :
    keys128 bias q g l e k v oldk (ix2 b c)
      = oldk (ix2 b c) + ∑ a, (rows128 q g l e k v).dscoreAt (bias (ix3 0 (stacked128 (side c) a) b)) (side c) a b * (rows128 q g l e k v).qs a c := by
  pointwise [keys128, k0_pay22]
  rw [sum_stacked128, ← sum_sides128 (fun h a => (rows128 q g l e k v).dscoreAt (bias (ix3 0 (stacked128 h a) b)) h a b)]
  simp only [← dscores128_apply, ← stackedQueries128_apply]; rfl

theorem values128_apply (b : Fin 256) (c : Fin 128) :
    values128 bias q g l k oldk (ix2 b c)
      = oldk (ix2 b c) + ∑ a, (rows128 q g l e k v).probAt (bias (ix3 0 (stacked128 (side c) a) b)) (side c) a b * g (ix2 a c) := by
  pointwise [values128, k0_pay23]
  rw [sum_stacked128]
  refine Eq.trans ?_ (congrArg (oldk (ix2 b c) + ·) (sum_sides128 (fun h a => (rows128 q g l e k v).probAt (bias (ix3 0 (stacked128 h a) b)) h a b) c (fun a => (rows128 q g l e k v).g a)))
  simp only [← weights128_apply, ← stackedGrads128_apply]; rfl

end Tile128

/-! ### A tile of 256 queries -/

section Tile256

variable (bias : Vec Ideal S512x256 .f32) (q g l e old : Vec Ideal S256x128 .f32) (k v : Vec Ideal S256x128 .f32) (oldk : Vec Ideal S256x128 .f32)

/-- The tile's rows. -/
def rows256 : Rows (Fin 256) (Fin 256) :=
  ⟨fun a c => q (ix2 a c), fun a c => g (ix2 a c), fun a c => l (ix2 a c), fun a c => e (ix2 a c), fun b c => k (ix2 b c), fun b c => v (ix2 b c)⟩

/-- Row `a` of head `h` among the stacked rows. -/
def stacked256 (h : Fin 2) (a : Fin 256) : Fin 512 := ⟨256 * h.val + a.val, by omega⟩

def weights256 : FVec Ideal S512x256 .f32 := k0_pay28 bias q k l

def dscores256 : FVec Ideal S512x256 .bf16 := k0_pay53 (k0_pay28 bias q k l) (k0_pay29 g v) e

def queries256 : FVec Ideal S256x128 .f32 := k0_pay54 k0_pay24 (k0_pay27 k) (k0_pay28 bias q k l) (k0_pay29 g v) e old

def keys256 : FVec Ideal S256x128 .f32 := k0_pay55 (k0_pay25 q) (k0_pay28 bias q k l) (k0_pay29 g v) e oldk

def values256 : FVec Ideal S256x128 .f32 := k0_pay56 (k0_pay26 g) (k0_pay28 bias q k l) oldk

theorem lower256 (a : Fin 256) : (stacked256 0 a).val < 256 := by simp [stacked256]

theorem lower256_eq (a : Fin 256) : (⟨(stacked256 0 a).val, lower256 a⟩ : Fin 256) = a := Fin.ext (by simp [stacked256])

theorem upper256 (a : Fin 256) : ¬(stacked256 1 a).val < 256 := by simp [stacked256]

theorem upper256_eq (a : Fin 256) (h : (stacked256 1 a).val - 256 < 256) : (⟨(stacked256 1 a).val - 256, h⟩ : Fin 256) = a :=
  Fin.ext (by simp [stacked256])

theorem weights256_apply (h : Fin 2) (a : Fin 256) (b : Fin 256) :
    weights256 bias q l k (ix2 (stacked256 h a) b) = (rows256 q g l e k v).probAt (bias (ix2 (stacked256 h a) b)) h a b := by
  pointwise [weights256, k0_pay28, k0_pay25, k0_pay27, k0_pay24]
  rcases zero_or_one h with rfl | rfl
  · simp only [dif_pos (lower256 a), lower256_eq, select_zero]; rfl
  · simp only [dif_neg (upper256 a), upper256_eq, select_one]; rfl

theorem dscores256_apply (h : Fin 2) (a : Fin 256) (b : Fin 256) :
    dscores256 bias q g l e k v (ix2 (stacked256 h a) b) = (rows256 q g l e k v).dscoreAt (bias (ix2 (stacked256 h a) b)) h a b := by
  have w := weights256_apply bias q g l e k v h a b
  unfold Rows.dscoreAt
  rw [← w]
  pointwise [dscores256, k0_pay53, k0_pay29, k0_pay26, k0_pay24]
  rcases zero_or_one h with rfl | rfl
  · simp only [dif_pos (lower256 a), lower256_eq, select_zero]; rfl
  · simp only [dif_neg (upper256 a), upper256_eq, select_one]; rfl

theorem sum_stacked256 (z : Fin 512 → EReal) : ∑ x, z x = ∑ a, z (stacked256 0 a) + ∑ a, z (stacked256 1 a) := by
  rw [show (∑ x : Fin 512, z x) = ∑ x : Fin (256 + 256), z x from rfl, Fin.sum_univ_add]
  congr 1 <;> refine Finset.sum_congr rfl fun a _ => congrArg z (Fin.ext ?_) <;> simp [stacked256]

theorem stackedQueries256_apply (h : Fin 2) (a : Fin 256) (c : Fin 128) :
    k0_pay25 q (ix2 (stacked256 h a) c) = only h ((rows256 q g l e k v).qs a) c := by
  pointwise [k0_pay25, k0_pay24]
  rcases zero_or_one h with rfl | rfl
  · simp only [dif_pos (lower256 a), lower256_eq, select_zero]; rfl
  · simp only [dif_neg (upper256 a), upper256_eq, select_one]; rfl

theorem stackedGrads256_apply (h : Fin 2) (a : Fin 256) (c : Fin 128) :
    k0_pay26 g (ix2 (stacked256 h a) c) = only h ((rows256 q g l e k v).g a) c := by
  pointwise [k0_pay26, k0_pay24]
  rcases zero_or_one h with rfl | rfl
  · simp only [dif_pos (lower256 a), lower256_eq, select_zero]; rfl
  · simp only [dif_neg (upper256 a), upper256_eq, select_one]; rfl

/-- A term of each head, of which the lane keeps its own head's. -/
theorem sum_sides256 (z : Fin 2 → Fin 256 → EReal) (c : Fin 128) (w : Fin 256 → Fin 128 → EReal) :
    (∑ a, z 0 a * only 0 (w a) c) + ∑ a, z 1 a * only 1 (w a) c = ∑ a, z (side c) a * w a c := by
  rw [← Finset.sum_add_distrib]
  refine Finset.sum_congr rfl fun a _ => ?_
  rw [mul_only, mul_only]
  rcases zero_or_one (side c) with h | h <;> simp [h]

theorem queries256_apply (a : Fin 256) (c : Fin 128) :
    queries256 bias q g l e old k v (ix2 a c)
      = old (ix2 a c) + (∑ b, (rows256 q g l e k v).dscoreAt (bias (ix2 (stacked256 (side c) a) b)) (side c) a b * k (ix2 b c)) * eighth := by
  simp only [← dscores256_apply]
  pointwise [queries256, k0_pay54, k0_pay27, k0_pay24]
  refine congrArg (old (ix2 a c) + · * eighth) ((select_lane c _ _).trans ?_)
  rcases zero_or_one (side c) with h | h
  · rw [h, if_pos rfl]
    exact Finset.sum_congr rfl fun x _ => congrArg (fun y => dscores256 bias q g l e k v (ix2 y x) * k (ix2 x c)) (Fin.ext (by simp [stacked256]))
  · rw [h, if_neg (by decide)]
    exact Finset.sum_congr rfl fun x _ => congrArg (fun y => dscores256 bias q g l e k v (ix2 y x) * k (ix2 x c)) (Fin.ext (by simp [stacked256]))

theorem keys256_apply (b : Fin 256) (c : Fin 128) :
    keys256 bias q g l e k v oldk (ix2 b c)
      = oldk (ix2 b c) + ∑ a, (rows256 q g l e k v).dscoreAt (bias (ix2 (stacked256 (side c) a) b)) (side c) a b * (rows256 q g l e k v).qs a c := by
  pointwise [keys256, k0_pay55]
  rw [sum_stacked256, ← sum_sides256 (fun h a => (rows256 q g l e k v).dscoreAt (bias (ix2 (stacked256 h a) b)) h a b)]
  simp only [← dscores256_apply, ← stackedQueries256_apply]; rfl

theorem values256_apply (b : Fin 256) (c : Fin 128) :
    values256 bias q g l k oldk (ix2 b c)
      = oldk (ix2 b c) + ∑ a, (rows256 q g l e k v).probAt (bias (ix2 (stacked256 (side c) a) b)) (side c) a b * g (ix2 a c) := by
  pointwise [values256, k0_pay56]
  rw [sum_stacked256]
  refine Eq.trans ?_ (congrArg (oldk (ix2 b c) + ·) (sum_sides256 (fun h a => (rows256 q g l e k v).probAt (bias (ix2 (stacked256 h a) b)) h a b) c (fun a => (rows256 q g l e k v).g a)))
  simp only [← weights256_apply, ← stackedGrads256_apply]; rfl

end Tile256

end Cert.KernelIdeal.Tiles

end
-- ==== Proof.Systems.lean ====
/- How the tiles cut the band: each branch's tiles take every query once, with all the keys its band holds. Summed over
   the tiles, the terms are the sums over the whole sequence of what the band leaves. -/
module

public import proofs.«01_k».proof.Proof.Rows

@[expose] public section

noncomputable section

namespace Cert.Attention

open Idealize.ShloMosaic

/-- The keys of query `i` in the branch of dilation `d`: those at a multiple of `d`, at most `64 d` away. -/
def band (d : ℕ) (i j : Fin 4096) : Prop :=
  j.val ≤ i.val + 64 * d ∧ i.val ≤ j.val + 64 * d ∧ i.val % d = j.val % d

instance (d : ℕ) (i j : Fin 4096) : Decidable (band d i j) := by unfold band; infer_instance

/-- What is added to a score: nothing in the band, minus infinity outside. -/
def mask (d : ℕ) (i j : Fin 4096) : EReal := if band d i j then 0 else ⊥

/-- A branch's tiles: `N` of `n` queries each, against 256 keys. -/
structure Tiling (d N n : ℕ) where
  query : Fin N → Fin n → Fin 4096
  key : Fin N → Fin 256 → Fin 4096
  tileOf : Fin 4096 → Fin N
  placeOf : Fin 4096 → Fin n
  query_of : ∀ i, query (tileOf i) (placeOf i) = i
  of_query : ∀ t a, tileOf (query t a) = t ∧ placeOf (query t a) = a
  key_inj : ∀ t, Function.Injective (key t)
  has_key : ∀ t a j, band d (query t a) j → ∃ b, key t b = j

namespace Tiling

variable {d N n : ℕ} (S : Tiling d N n) {α : Type} [AddCommMonoid α]

/-- The queries of all the tiles are the sequence. -/
theorem sum_queries (z : Fin 4096 → α) : ∑ t, ∑ a, z (S.query t a) = ∑ i, z i := by
  rw [← Fintype.sum_prod_type' (f := fun t a => z (S.query t a))]
  exact Fintype.sum_equiv (⟨fun p => S.query p.1 p.2, fun i => (S.tileOf i, S.placeOf i),
    fun p => Prod.ext (S.of_query p.1 p.2).1 (S.of_query p.1 p.2).2, fun i => S.query_of i⟩ : Fin N × Fin n ≃ Fin 4096) _ _ fun _ => rfl

/-- What lies in the band of a tile's query is among the tile's keys. -/
theorem sum_keys (t : Fin N) (a : Fin n) (z : Fin 4096 → α) (hz : ∀ j, ¬band d (S.query t a) j → z j = 0) :
    ∑ b, z (S.key t b) = ∑ j, z j := by
  classical
  rw [← Finset.sum_image (s := Finset.univ) (g := S.key t) (f := z) (fun x _ y _ h => S.key_inj t h)]
  refine Finset.sum_subset (Finset.subset_univ _) fun j _ hj => hz j fun hb => hj ?_
  obtain ⟨b, rfl⟩ := S.has_key t a j hb
  exact Finset.mem_image_of_mem _ (Finset.mem_univ _)

/-- A term added at the query's own row: at row `y`, that of the tile holding it. -/
theorem sum_at_query (y : Fin 4096) (z : Fin N → Fin n → α) :
    ∑ t, ∑ a, (if S.query t a = y then z t a else 0) = z (S.tileOf y) (S.placeOf y) := by
  rw [Finset.sum_eq_single (S.tileOf y), Finset.sum_eq_single (S.placeOf y)]
  · rw [if_pos (S.query_of y)]
  · exact fun a _ h => if_neg fun e => h (by rw [← (S.of_query (S.tileOf y) a).2, e])
  · exact fun h => absurd (Finset.mem_univ _) h
  · exact fun t _ h => Finset.sum_eq_zero fun a _ => if_neg fun e => h (by rw [← (S.of_query t a).1, e])
  · exact fun h => absurd (Finset.mem_univ _) h

/-- A term added at a key's row, from every query of its tile: at row `j`, the sum over the sequence's queries. -/
theorem sum_at_key (j : Fin 4096) (z : Fin 4096 → Fin 4096 → α) (hz : ∀ i j, ¬band d i j → z i j = 0) :
    ∑ t, ∑ b, (if S.key t b = j then ∑ a, z (S.query t a) (S.key t b) else 0) = ∑ i, z i j := by
  classical
  rw [← S.sum_queries]
  refine Finset.sum_congr rfl fun t _ => ?_
  by_cases h : ∃ b, S.key t b = j
  · obtain ⟨b, rfl⟩ := h
    rw [Finset.sum_eq_single b (fun b' _ hb => if_neg fun e => hb (S.key_inj t e)) (fun h => absurd (Finset.mem_univ _) h), if_pos rfl]
  · rw [Finset.sum_eq_zero fun b _ => if_neg fun e => h ⟨b, e⟩]
    exact (Finset.sum_eq_zero fun a _ => hz _ _ fun hb => h (S.has_key t a j hb)).symm

end Tiling

/-- The first key of a tile: 64 before its first query, kept in the sequence. -/
def firstKey (q0 top : ℕ) : ℕ := min (q0 - 64) top

/-- Dilation one: 32 tiles of 128 queries in a row. -/
def tiling1 : Tiling 1 32 128 where
  query t a := ⟨128 * t.val + a.val, by omega⟩
  key t b := ⟨firstKey (128 * t.val) 3840 + b.val, by unfold firstKey; omega⟩
  tileOf i := ⟨i.val / 128, by omega⟩
  placeOf i := ⟨i.val % 128, by omega⟩
  query_of i := by ext; simp only; omega
  of_query t a := by constructor <;> ext <;> simp only <;> omega
  key_inj t x y h := by ext; simp only [Fin.mk.injEq] at h; omega
  has_key t a j h := by
    unfold band at h; simp only at h
    exact ⟨⟨j.val - firstKey (128 * t.val) 3840, by unfold firstKey; omega⟩, by ext; simp only [firstKey]; omega⟩

/-- Dilation four: four interleaved sequences of eight tiles. -/
def tiling4 : Tiling 4 32 128 where
  query t a := ⟨t.val / 8 + 4 * (128 * (t.val % 8) + a.val), by omega⟩
  key t b := ⟨t.val / 8 + 4 * (firstKey (128 * (t.val % 8)) 768 + b.val), by unfold firstKey; omega⟩
  tileOf i := ⟨8 * (i.val % 4) + i.val / 4 / 128, by omega⟩
  placeOf i := ⟨i.val / 4 % 128, by omega⟩
  query_of i := by ext; simp only; omega
  of_query t a := by
    have h : (t.val / 8 + 4 * (128 * (t.val % 8) + a.val)) / 4 = 128 * (t.val % 8) + a.val := by omega
    have h' : (t.val / 8 + 4 * (128 * (t.val % 8) + a.val)) % 4 = t.val / 8 := by omega
    constructor <;> ext <;> simp only [h, h'] <;> omega
  key_inj t x y h := by ext; simp only [Fin.mk.injEq] at h; omega
  has_key t a j h := by
    unfold band at h; simp only at h
    exact ⟨⟨j.val / 4 - firstKey (128 * (t.val % 8)) 768, by unfold firstKey; omega⟩, by ext; simp only [firstKey]; omega⟩

/-- Dilation sixteen: sixteen interleaved sequences, each one tile of 256. -/
def tiling16 : Tiling 16 16 256 where
  query t a := ⟨t.val + 16 * a.val, by omega⟩
  key t b := ⟨t.val + 16 * b.val, by omega⟩
  tileOf i := ⟨i.val % 16, by omega⟩
  placeOf i := ⟨i.val / 16, by omega⟩
  query_of i := by ext; simp only; omega
  of_query t a := by constructor <;> ext <;> simp only <;> omega
  key_inj t x y h := by ext; simp only [Fin.mk.injEq] at h; omega
  has_key t a j h := by
    unfold band at h; simp only at h
    exact ⟨⟨j.val / 16, by omega⟩, by ext; simp only; omega⟩

/-! ### The three gradients of a branch -/

variable (R : Rows (Fin 4096) (Fin 4096)) (d : ℕ)

/-- The gradient of a score, nothing outside the band. -/
def Rows.dscore (h : Fin 2) (i j : Fin 4096) : EReal := R.dscoreAt (mask d i j) h i j

/-- A weight, nothing outside the band. -/
def Rows.prob (h : Fin 2) (i j : Fin 4096) : EReal := R.probAt (mask d i j) h i j

theorem Rows.dscore_off (h : Fin 2) (i j : Fin 4096) (hb : ¬band d i j) : R.dscore d h i j = 0 := by
  rw [Rows.dscore, mask, if_neg hb, Rows.dscoreAt_bot]

theorem Rows.prob_off (h : Fin 2) (i j : Fin 4096) (hb : ¬band d i j) : R.prob d h i j = 0 := by
  rw [Rows.prob, mask, if_neg hb, Rows.probAt_bot]

def Rows.dq (i : Fin 4096) (c : Fin 128) : EReal := (∑ j, R.dscore d (side c) i j * R.k j c) * eighth

def Rows.dk (j : Fin 4096) (c : Fin 128) : EReal := ∑ i, R.dscore d (side c) i j * R.qs i c

def Rows.dv (j : Fin 4096) (c : Fin 128) : EReal := ∑ i, R.prob d (side c) i j * R.g i c

end Cert.Attention

end
-- ==== Proof.Accumulate.lean ====
/- Reading and adding rows through a strided window: a load of rows reads them, and a store of what the rows held plus
   a term adds the term at each row. Then the windows of the tiles, in closed form. -/
module

public import proofs.«01_k».proof.Proof.Gen.KernelIdeal.Skeleton
public import proofs.«01_k».proof.Proof.Systems
public import Idealize.ShloMosaic.Lib.Pointwise

@[expose] public section

set_option maxRecDepth 100000

noncomputable section

namespace Cert.KernelIdeal.Tiles

open Idealize.ShloMosaic Cert.KernelIdeal.Gen Cert.Attention

variable {n : ℕ} (v : View sig .tc .vmem S4096x128 .f32) (f : v.ty.Contents (Elt Ideal)) (off stride : Fin 2 → ℕ)
  (inb : ∀ a, (![n, 128] : Fin 2 → ℕ) a = 0 ∨ off a + stride a * ((![n, 128] : Fin 2 → ℕ) a - 1) < S4096x128.size a) (pos : ∀ a, 0 < stride a)
  (row : Fin n → Fin 4096)

/-- The window of rows `off 0 + stride 0 * a`. -/
abbrev rowWindow : Rect S4096x128 := ⟨⟨off, ![n, 128], stride, inb⟩, pos⟩

theorem rowWindow_idx (h0 : ∀ a : Fin n, off 0 + stride 0 * a.val = (row a).val) (h1 : off 1 = 0) (h2 : stride 1 = 1) (a : Fin n) (c : Fin 128) :
    (rowWindow off stride inb pos).idx (ix2 a c) = ix2 (row a) c := by
  funext x
  refine Fin.ext ?_
  rw [LoadRect.idx_apply]
  match x with
  | ⟨0, _⟩ => exact h0 a
  | ⟨1, _⟩ =>
    show off 1 + stride 1 * c.val = c.val
    rw [h1, h2]; omega

/-- A load of rows reads them. -/
theorem readAt_rows (h0 : ∀ a : Fin n, off 0 + stride 0 * a.val = (row a).val) (h1 : off 1 = 0) (h2 : stride 1 = 1) (a : Fin n) (c : Fin 128) :
    v.readAt (Elt Ideal) (rowWindow off stride inb pos).toLoadRect f (ix2 a c) = v.read (Elt Ideal) f (ix2 (row a) c) := by
  rw [View.readAt_apply, rowWindow_idx off stride inb pos row h0 h1 h2]

/-- A store of what the rows held plus a term adds the term at each row. -/
theorem read_add_rows (h0 : ∀ a : Fin n, off 0 + stride 0 * a.val = (row a).val) (h1 : off 1 = 0) (h2 : stride 1 = 1)
    (hrow : Function.Injective row) (w : (⟨2, ![n, 128]⟩ : Shape).Idx → EReal) (V : Fin n → Fin 128 → EReal)
    (hw : ∀ a c, w (ix2 a c) = v.read (Elt Ideal) f (ix2 (row a) c) + V a c) (y : Fin 4096) (c : Fin 128) :
    v.read (Elt Ideal) (v.writes (Elt Ideal) f [⟨rowWindow off stride inb pos, w⟩]) (ix2 y c)
      = v.read (Elt Ideal) f (ix2 y c) + ∑ a, if row a = y then V a c else 0 := by
  classical
  by_cases h : ∃ a, row a = y
  · obtain ⟨a, rfl⟩ := h
    rw [Finset.sum_eq_single a (fun a' _ ha => if_neg fun e => ha (hrow e)) (fun h => absurd (Finset.mem_univ _) h), if_pos rfl, ← hw]
    rw [← rowWindow_idx off stride inb pos row h0 h1 h2]
    exact View.read_writes_cons_emb v f (rowWindow off stride inb pos) w [] (ix2 a c)
  · rw [Finset.sum_eq_zero fun a _ => if_neg fun e => h ⟨a, e⟩, add_zero]
    rw [View.writes_cons]
    refine View.read_slice_write_of_not_mem _ _ _ _ ?_
    rw [Rect.map_emb_univ]
    intro hm
    obtain ⟨j, hj⟩ := LoadRect.exists_idx_of_mem _ hm
    refine h ⟨j 0, ?_⟩
    have := congrArg (fun i : S4096x128.Idx => (i 0).val) hj
    exact Fin.ext ((h0 (j 0)).symm.trans this)

theorem off2 (k : Fin k0_t1_loop.trips) : k0_off2 k = ![128 * k.val, 0] := by revert k; decide
theorem off3 (k : Fin k0_t1_loop.trips) : k0_off3 k = ![min (128 * k.val - 64) 3840, 0] := by revert k; decide
theorem off1 (k : Fin k0_t1_loop.trips) : k0_off1 k = ![if k.val = 0 then 1 else if k.val = 31 then 2 else 0, 0, 0] := by revert k; decide
theorem off5 (k : Fin k0_t2_loop.trips) : k0_off5 k = ![k.val / 8 + 4 * (128 * (k.val % 8)), 0] := by revert k; decide
theorem off6 (k : Fin k0_t2_loop.trips) : k0_off6 k = ![k.val / 8 + 4 * (min (128 * (k.val % 8) - 64) 768), 0] := by revert k; decide
theorem off4 (k : Fin k0_t2_loop.trips) : k0_off4 k = ![if k.val % 8 = 0 then 1 else if k.val % 8 = 7 then 2 else 0, 0, 0] := by revert k; decide
theorem off7 (k : Fin k0_t3_loop.trips) : k0_off7 k = ![k.val, 0] := by revert k; decide
theorem off8 (k : Fin k0_t4_loop.trips) : k0_off8 k = ![512 * k.val, 0] := by revert k; decide
theorem off9 (k : Fin k0_t4_loop.trips) : k0_off9 k = ![0, 512 * k.val, 0] := by revert k; decide
theorem off10 (k : Fin k0_t4_loop.trips) : k0_off10 k = ![1, 512 * k.val, 0] := by revert k; decide
theorem off11 (k : Fin k0_t4_loop.trips) : k0_off11 k = ![2, 512 * k.val, 0] := by revert k; decide

end Cert.KernelIdeal.Tiles

end
-- ==== Proof.Steps.lean ====
/- What one tile adds to the three accumulators, at each row: the terms of its own queries and keys. -/
module

public import proofs.«01_k».proof.Proof.TileVectors
public import proofs.«01_k».proof.Proof.Accumulate
public import proofs.«01_k».proof.Proof.Loops

@[expose] public section

set_option maxRecDepth 16384

noncomputable section

namespace Cert.KernelIdeal.Tiles

open Idealize.ShloMosaic Cert.KernelIdeal.Gen Cert.Attention

/-! ### The bias tables -/

/-- How far a table's window starts before its tile's first query. -/
def lag (j : Fin 3) : ℕ := if j.val = 0 then 64 else if j.val = 1 then 0 else 128

/-- A table of the band: nothing where key `b` is at most 64 from query `r`, minus infinity elsewhere. -/
def slab (j : Fin 3) (r b : Fin 256) : EReal := if r.val % 128 + lag j ≤ b.val + 64 ∧ b.val ≤ r.val % 128 + lag j + 64 then 0 else ⊥

/-- The same of a whole sequence of 256. -/
def wholeSlab (r : Fin 512) (b : Fin 256) : EReal := if r.val % 256 ≤ b.val + 64 ∧ b.val ≤ r.val % 256 + 64 then 0 else ⊥

/-- The table of a tile. -/
def slabOf (u last : ℕ) : Fin 3 := if u = 0 then 1 else if u = last then 2 else 0

theorem lag_slabOf (u last : ℕ) : lag (slabOf u last) = if u = 0 then 0 else if u = last then 128 else 64 := by
  unfold slabOf; split; · rfl
  split <;> rfl

theorem slab_one (h : Fin 2) (t : Fin 32) (a : Fin 128) (b : Fin 256) :
    slab (slabOf t.val 31) (stacked128 h a) b = mask 1 (tiling1.query t a) (tiling1.key t b) := by
  unfold slab mask
  rw [lag_slabOf]
  have hr : (stacked128 h a).val % 128 = a.val := by simp only [stacked128]; omega
  rw [hr]
  refine if_congr ?_ rfl rfl
  unfold band tiling1 firstKey
  simp only
  split_ifs <;> omega

theorem slab_four (h : Fin 2) (t : Fin 32) (a : Fin 128) (b : Fin 256) :
    slab (slabOf (t.val % 8) 7) (stacked128 h a) b = mask 4 (tiling4.query t a) (tiling4.key t b) := by
  unfold slab mask
  rw [lag_slabOf]
  have hr : (stacked128 h a).val % 128 = a.val := by simp only [stacked128]; omega
  rw [hr]
  refine if_congr ?_ rfl rfl
  unfold band tiling4 firstKey
  simp only
  split_ifs <;> omega

theorem slab_sixteen (h : Fin 2) (t : Fin 16) (a : Fin 256) (b : Fin 256) :
    wholeSlab (stacked256 h a) b = mask 16 (tiling16.query t a) (tiling16.key t b) := by
  unfold wholeSlab mask
  have hr : (stacked256 h a).val % 256 = a.val := by simp only [stacked256]; omega
  rw [hr]
  refine if_congr ?_ rfl rfl
  unfold band tiling16
  simp only
  omega

theorem off1' (k : Fin k0_t1_loop.trips) : k0_off1 k = ![(slabOf k.val 31).val, 0, 0] := by revert k; decide

theorem off4' (k : Fin k0_t2_loop.trips) : k0_off4 k = ![(slabOf (k.val % 8) 7).val, 0, 0] := by revert k; decide

/-- A load of one table. -/
theorem readAt_slab (v : View sig .tc .vmem S3x256x256 .f32) (f : v.ty.Contents (Elt Ideal)) (off : Fin 3 → ℕ) (inb) (j : Fin 3)
    (h : off = ![j.val, 0, 0]) (r b : Fin 256) :
    v.readAt (Elt Ideal) (Rect.unit (s := S3x256x256) off S1x256x256.size inb).toLoadRect f (ix3 (0 : Fin 1) r b) = v.read (Elt Ideal) f (ix3 j r b) := by
  subst h
  rw [View.readAt_apply]
  congr 1
  funext x
  refine Fin.ext ?_
  rw [LoadRect.idx_apply]
  match x with
  | ⟨0, _⟩ => show j.val + 1 * 0 = j.val; omega
  | ⟨1, _⟩ => show 0 + 1 * r.val = r.val; omega
  | ⟨2, _⟩ => show 0 + 1 * b.val = b.val; omega

theorem readAt_wholeSlab (v : View sig .tc .vmem S512x256 .f32) (f : v.ty.Contents (Elt Ideal)) (inb) (r : Fin 512) (b : Fin 256) :
    v.readAt (Elt Ideal) (Rect.unit (s := S512x256) ![0, 0] S512x256.size inb).toLoadRect f (ix2 r b) = v.read (Elt Ideal) f (ix2 r b) := by
  rw [View.readAt_apply]
  congr 1
  funext x
  refine Fin.ext ?_
  rw [LoadRect.idx_apply]
  match x with
  | ⟨0, _⟩ => show 0 + 1 * r.val = r.val; omega
  | ⟨1, _⟩ => show 0 + 1 * b.val = b.val; omega

/-- The block's rows, as its six memrefs hold them. -/
def blockRows (arg1 arg2 arg3 arg6 arg7 arg8 : Memref sig .tc .vmem S4096x128 .f32) (X1 : BufTy.Contents (Elt Ideal) arg1.view.ty)
    (X2 : BufTy.Contents (Elt Ideal) arg2.view.ty) (X3 : BufTy.Contents (Elt Ideal) arg3.view.ty) (X6 : BufTy.Contents (Elt Ideal) arg6.view.ty)
    (X7 : BufTy.Contents (Elt Ideal) arg7.view.ty) (X8 : BufTy.Contents (Elt Ideal) arg8.view.ty) : Rows (Fin 4096) (Fin 4096) where
  q y x := arg1.view.read (Elt Ideal) X1 (ix2 y x)
  k y x := arg2.view.read (Elt Ideal) X2 (ix2 y x)
  v y x := arg3.view.read (Elt Ideal) X3 (ix2 y x)
  g y x := arg6.view.read (Elt Ideal) X6 (ix2 y x)
  l y x := arg7.view.read (Elt Ideal) X7 (ix2 y x)
  e y x := arg8.view.read (Elt Ideal) X8 (ix2 y x)

theorem query_injective {d N n : ℕ} (S : Tiling d N n) (t : Fin N) : Function.Injective (S.query t) := fun a b h => by
  rw [← (S.of_query t a).2, h, (S.of_query t b).2]

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1)

/-! ### The tiles of dilation 1 -/

theorem trips1 : k0_t1_loop.trips = 32 := by decide

theorem rowsQ1 (k : Fin k0_t1_loop.trips) (a : Fin 128) : k0_off2 k 0 + 1 * a.val = (tiling1.query (Fin.cast trips1 k) a).val := by
  rw [off2]; simp only [tiling1, Fin.val_cast, Matrix.cons_val_zero]; omega

theorem rowsK1 (k : Fin k0_t1_loop.trips) (b : Fin 256) : k0_off3 k 0 + 1 * b.val = (tiling1.key (Fin.cast trips1 k) b).val := by
  rw [off3]; simp only [tiling1, firstKey, Fin.val_cast, Matrix.cons_val_zero]; omega

theorem lanesQ1 (k : Fin k0_t1_loop.trips) : k0_off2 k 1 = 0 := by rw [off2]; rfl

theorem lanesK1 (k : Fin k0_t1_loop.trips) : k0_off3 k 1 = 0 := by rw [off3]; rfl

section Dilation1

variable (X1 : BufTy.Contents (Elt Ideal) arg1.view.ty) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X13 : BufTy.Contents (Elt Ideal) arg13.view.ty) (k : Fin k0_t1_loop.trips)
variable (f10 : BufTy.Contents (Elt Ideal) arg10.view.ty) (f11 : BufTy.Contents (Elt Ideal) arg11.view.ty) (f12 : BufTy.Contents (Elt Ideal) arg12.view.ty)

/-- The bias the tile adds. -/
abbrev bias1 := (View.readAt (Elt Ideal) arg13.view (Rect.unit (s := S3x256x256) (k0_off1 k) S1x256x256.size (k0_off1_inb k)).toLoadRect X13)

theorem tile1_queries : (tile1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).1 f10 f11 f12
      = [⟨(Rect.unit (s := S4096x128) (k0_off2 k) S128x128.size (k0_off2_inb k)), queries128 (View.readAt (Elt Ideal) arg13.view (Rect.unit (s := S3x256x256) (k0_off1 k) S1x256x256.size (k0_off1_inb k)).toLoadRect X13) (View.readAt (Elt Ideal) arg1.view (Rect.unit (s := S4096x128) (k0_off2 k) S128x128.size (k0_off2_inb k)).toLoadRect X1) (View.readAt (Elt Ideal) arg6.view (Rect.unit (s := S4096x128) (k0_off2 k) S128x128.size (k0_off2_inb k)).toLoadRect X6) (View.readAt (Elt Ideal) arg7.view (Rect.unit (s := S4096x128) (k0_off2 k) S128x128.size (k0_off2_inb k)).toLoadRect X7) (View.readAt (Elt Ideal) arg8.view (Rect.unit (s := S4096x128) (k0_off2 k) S128x128.size (k0_off2_inb k)).toLoadRect X8) (View.readAt (Elt Ideal) arg10.view (Rect.unit (s := S4096x128) (k0_off2 k) S128x128.size (k0_off2_inb k)).toLoadRect f10) (View.readAt (Elt Ideal) arg2.view (Rect.unit (s := S4096x128) (k0_off3 k) S256x128.size (k0_off3_inb k)).toLoadRect X2) (View.readAt (Elt Ideal) arg3.view (Rect.unit (s := S4096x128) (k0_off3 k) S256x128.size (k0_off3_inb k)).toLoadRect X3)⟩] := by
  unfold tile1; rfl

theorem tile1_keys : (tile1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.1 f10 f11 f12
      = [⟨(Rect.unit (s := S4096x128) (k0_off3 k) S256x128.size (k0_off3_inb k)), keys128 (View.readAt (Elt Ideal) arg13.view (Rect.unit (s := S3x256x256) (k0_off1 k) S1x256x256.size (k0_off1_inb k)).toLoadRect X13) (View.readAt (Elt Ideal) arg1.view (Rect.unit (s := S4096x128) (k0_off2 k) S128x128.size (k0_off2_inb k)).toLoadRect X1) (View.readAt (Elt Ideal) arg6.view (Rect.unit (s := S4096x128) (k0_off2 k) S128x128.size (k0_off2_inb k)).toLoadRect X6) (View.readAt (Elt Ideal) arg7.view (Rect.unit (s := S4096x128) (k0_off2 k) S128x128.size (k0_off2_inb k)).toLoadRect X7) (View.readAt (Elt Ideal) arg8.view (Rect.unit (s := S4096x128) (k0_off2 k) S128x128.size (k0_off2_inb k)).toLoadRect X8) (View.readAt (Elt Ideal) arg2.view (Rect.unit (s := S4096x128) (k0_off3 k) S256x128.size (k0_off3_inb k)).toLoadRect X2) (View.readAt (Elt Ideal) arg3.view (Rect.unit (s := S4096x128) (k0_off3 k) S256x128.size (k0_off3_inb k)).toLoadRect X3) (View.readAt (Elt Ideal) arg11.view (Rect.unit (s := S4096x128) (k0_off3 k) S256x128.size (k0_off3_inb k)).toLoadRect f11)⟩] := by
  unfold tile1; rfl

theorem tile1_values : (tile1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.2.1 f10 f11 f12
      = [⟨(Rect.unit (s := S4096x128) (k0_off3 k) S256x128.size (k0_off3_inb k)), values128 (View.readAt (Elt Ideal) arg13.view (Rect.unit (s := S3x256x256) (k0_off1 k) S1x256x256.size (k0_off1_inb k)).toLoadRect X13) (View.readAt (Elt Ideal) arg1.view (Rect.unit (s := S4096x128) (k0_off2 k) S128x128.size (k0_off2_inb k)).toLoadRect X1) (View.readAt (Elt Ideal) arg6.view (Rect.unit (s := S4096x128) (k0_off2 k) S128x128.size (k0_off2_inb k)).toLoadRect X6) (View.readAt (Elt Ideal) arg7.view (Rect.unit (s := S4096x128) (k0_off2 k) S128x128.size (k0_off2_inb k)).toLoadRect X7) (View.readAt (Elt Ideal) arg2.view (Rect.unit (s := S4096x128) (k0_off3 k) S256x128.size (k0_off3_inb k)).toLoadRect X2) (View.readAt (Elt Ideal) arg12.view (Rect.unit (s := S4096x128) (k0_off3 k) S256x128.size (k0_off3_inb k)).toLoadRect f12)⟩] := by
  unfold tile1; rfl

/-- The tile's rows are the block's, at its queries and keys. -/
theorem rows_at1 : rows128 (View.readAt (Elt Ideal) arg1.view (Rect.unit (s := S4096x128) (k0_off2 k) S128x128.size (k0_off2_inb k)).toLoadRect X1) (View.readAt (Elt Ideal) arg6.view (Rect.unit (s := S4096x128) (k0_off2 k) S128x128.size (k0_off2_inb k)).toLoadRect X6) (View.readAt (Elt Ideal) arg7.view (Rect.unit (s := S4096x128) (k0_off2 k) S128x128.size (k0_off2_inb k)).toLoadRect X7) (View.readAt (Elt Ideal) arg8.view (Rect.unit (s := S4096x128) (k0_off2 k) S128x128.size (k0_off2_inb k)).toLoadRect X8) (View.readAt (Elt Ideal) arg2.view (Rect.unit (s := S4096x128) (k0_off3 k) S256x128.size (k0_off3_inb k)).toLoadRect X2) (View.readAt (Elt Ideal) arg3.view (Rect.unit (s := S4096x128) (k0_off3 k) S256x128.size (k0_off3_inb k)).toLoadRect X3)
      = (blockRows arg1 arg2 arg3 arg6 arg7 arg8 X1 X2 X3 X6 X7 X8).along (tiling1.query (Fin.cast trips1 k)) (tiling1.key (Fin.cast trips1 k)) := by
  unfold rows128 Rows.along blockRows
  congr 1
  · funext a x; exact readAt_rows arg1.view X1 _ _ _ (fun _ => Nat.one_pos) (tiling1.query (Fin.cast trips1 k)) (rowsQ1 k) (lanesQ1 k) rfl a x
  · funext a x; exact readAt_rows arg6.view X6 _ _ _ (fun _ => Nat.one_pos) (tiling1.query (Fin.cast trips1 k)) (rowsQ1 k) (lanesQ1 k) rfl a x
  · funext a x; exact readAt_rows arg7.view X7 _ _ _ (fun _ => Nat.one_pos) (tiling1.query (Fin.cast trips1 k)) (rowsQ1 k) (lanesQ1 k) rfl a x
  · funext a x; exact readAt_rows arg8.view X8 _ _ _ (fun _ => Nat.one_pos) (tiling1.query (Fin.cast trips1 k)) (rowsQ1 k) (lanesQ1 k) rfl a x
  · funext a x; exact readAt_rows arg2.view X2 _ _ _ (fun _ => Nat.one_pos) (tiling1.key (Fin.cast trips1 k)) (rowsK1 k) (lanesK1 k) rfl a x
  · funext a x; exact readAt_rows arg3.view X3 _ _ _ (fun _ => Nat.one_pos) (tiling1.key (Fin.cast trips1 k)) (rowsK1 k) (lanesK1 k) rfl a x

theorem bias_at1 (hB : ∀ j r b, arg13.view.read (Elt Ideal) X13 (ix3 j r b) = slab j r b) (h : Fin 2) (a : Fin 128) (b : Fin 256) :
    (View.readAt (Elt Ideal) arg13.view (Rect.unit (s := S3x256x256) (k0_off1 k) S1x256x256.size (k0_off1_inb k)).toLoadRect X13) (ix3 0 (stacked128 h a) b) = mask 1 (tiling1.query (Fin.cast trips1 k) a) (tiling1.key (Fin.cast trips1 k) b) :=
  (readAt_slab _ _ _ _ _ (off1' k) _ _).trans ((hB _ _ _).trans (slab_one h (Fin.cast trips1 k) a b))

/-- The queries' gradient after the tile. -/
theorem step1_queries (hB : ∀ j r b, arg13.view.read (Elt Ideal) X13 (ix3 j r b) = slab j r b) (y : Fin 4096) (x : Fin 128) :
    arg10.view.read (Elt Ideal) (arg10.view.writes (Elt Ideal) f10 ((tile1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).1 f10 f11 f12)) (ix2 y x)
      = arg10.view.read (Elt Ideal) f10 (ix2 y x) + ∑ a, if tiling1.query (Fin.cast trips1 k) a = y then
          (∑ b, (blockRows arg1 arg2 arg3 arg6 arg7 arg8 X1 X2 X3 X6 X7 X8).dscore 1 (side x) (tiling1.query (Fin.cast trips1 k) a) (tiling1.key (Fin.cast trips1 k) b) * (blockRows arg1 arg2 arg3 arg6 arg7 arg8 X1 X2 X3 X6 X7 X8).k (tiling1.key (Fin.cast trips1 k) b) x) * eighth else 0 := by
  rw [tile1_queries]
  refine read_add_rows arg10.view f10 (k0_off2 k) (fun _ => 1) _ _ (tiling1.query (Fin.cast trips1 k)) (rowsQ1 k) (lanesQ1 k) rfl (query_injective _ _) _
    (fun a x => (∑ b, (blockRows arg1 arg2 arg3 arg6 arg7 arg8 X1 X2 X3 X6 X7 X8).dscore 1 (side x) (tiling1.query (Fin.cast trips1 k) a) (tiling1.key (Fin.cast trips1 k) b) * (blockRows arg1 arg2 arg3 arg6 arg7 arg8 X1 X2 X3 X6 X7 X8).k (tiling1.key (Fin.cast trips1 k) b) x) * eighth) (fun a x => ?_) y x
  rw [queries128_apply, rows_at1]
  simp only [bias_at1 arg13 X13 k hB]
  exact congrArg₂ (· + ·) (readAt_rows arg10.view f10 _ _ _ (fun _ => Nat.one_pos) (tiling1.query (Fin.cast trips1 k)) (rowsQ1 k) (lanesQ1 k) rfl a x)
    (congrArg (· * eighth) (Finset.sum_congr rfl fun b _ => congrArg (_ * ·) (readAt_rows arg2.view X2 _ _ _ (fun _ => Nat.one_pos) (tiling1.key (Fin.cast trips1 k)) (rowsK1 k) (lanesK1 k) rfl b x)))

/-- The keys' gradient after the tile. -/
theorem step1_keys (hB : ∀ j r b, arg13.view.read (Elt Ideal) X13 (ix3 j r b) = slab j r b) (y : Fin 4096) (x : Fin 128) :
    arg11.view.read (Elt Ideal) (arg11.view.writes (Elt Ideal) f11 ((tile1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.1 f10 f11 f12)) (ix2 y x)
      = arg11.view.read (Elt Ideal) f11 (ix2 y x) + ∑ b, if tiling1.key (Fin.cast trips1 k) b = y then
          ∑ a, (blockRows arg1 arg2 arg3 arg6 arg7 arg8 X1 X2 X3 X6 X7 X8).dscore 1 (side x) (tiling1.query (Fin.cast trips1 k) a) (tiling1.key (Fin.cast trips1 k) b) * (blockRows arg1 arg2 arg3 arg6 arg7 arg8 X1 X2 X3 X6 X7 X8).qs (tiling1.query (Fin.cast trips1 k) a) x else 0 := by
  rw [tile1_keys]
  refine read_add_rows arg11.view f11 (k0_off3 k) (fun _ => 1) _ _ (tiling1.key (Fin.cast trips1 k)) (rowsK1 k) (lanesK1 k) rfl (tiling1.key_inj _) _
    (fun b x => ∑ a, (blockRows arg1 arg2 arg3 arg6 arg7 arg8 X1 X2 X3 X6 X7 X8).dscore 1 (side x) (tiling1.query (Fin.cast trips1 k) a) (tiling1.key (Fin.cast trips1 k) b) * (blockRows arg1 arg2 arg3 arg6 arg7 arg8 X1 X2 X3 X6 X7 X8).qs (tiling1.query (Fin.cast trips1 k) a) x) (fun b x => ?_) y x
  rw [keys128_apply, rows_at1]
  simp only [bias_at1 arg13 X13 k hB]
  exact congrArg₂ (· + ·) (readAt_rows arg11.view f11 _ _ _ (fun _ => Nat.one_pos) (tiling1.key (Fin.cast trips1 k)) (rowsK1 k) (lanesK1 k) rfl b x) rfl

/-- The values' gradient after the tile. -/
theorem step1_values (hB : ∀ j r b, arg13.view.read (Elt Ideal) X13 (ix3 j r b) = slab j r b) (y : Fin 4096) (x : Fin 128) :
    arg12.view.read (Elt Ideal) (arg12.view.writes (Elt Ideal) f12 ((tile1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.2.1 f10 f11 f12)) (ix2 y x)
      = arg12.view.read (Elt Ideal) f12 (ix2 y x) + ∑ b, if tiling1.key (Fin.cast trips1 k) b = y then
          ∑ a, (blockRows arg1 arg2 arg3 arg6 arg7 arg8 X1 X2 X3 X6 X7 X8).prob 1 (side x) (tiling1.query (Fin.cast trips1 k) a) (tiling1.key (Fin.cast trips1 k) b) * (blockRows arg1 arg2 arg3 arg6 arg7 arg8 X1 X2 X3 X6 X7 X8).g (tiling1.query (Fin.cast trips1 k) a) x else 0 := by
  rw [tile1_values]
  refine read_add_rows arg12.view f12 (k0_off3 k) (fun _ => 1) _ _ (tiling1.key (Fin.cast trips1 k)) (rowsK1 k) (lanesK1 k) rfl (tiling1.key_inj _) _
    (fun b x => ∑ a, (blockRows arg1 arg2 arg3 arg6 arg7 arg8 X1 X2 X3 X6 X7 X8).prob 1 (side x) (tiling1.query (Fin.cast trips1 k) a) (tiling1.key (Fin.cast trips1 k) b) * (blockRows arg1 arg2 arg3 arg6 arg7 arg8 X1 X2 X3 X6 X7 X8).g (tiling1.query (Fin.cast trips1 k) a) x) (fun b x => ?_) y x
  refine (values128_apply _ _ _ _ (View.readAt (Elt Ideal) arg8.view (Rect.unit (s := S4096x128) (k0_off2 k) S128x128.size (k0_off2_inb k)).toLoadRect X8) _ (View.readAt (Elt Ideal) arg3.view (Rect.unit (s := S4096x128) (k0_off3 k) S256x128.size (k0_off3_inb k)).toLoadRect X3) _ b x).trans ?_
  rw [rows_at1]
  simp only [bias_at1 arg13 X13 k hB]
  exact congrArg₂ (· + ·) (readAt_rows arg12.view f12 _ _ _ (fun _ => Nat.one_pos) (tiling1.key (Fin.cast trips1 k)) (rowsK1 k) (lanesK1 k) rfl b x)
    (Finset.sum_congr rfl fun a _ => congrArg (_ * ·) (readAt_rows arg6.view X6 _ _ _ (fun _ => Nat.one_pos) (tiling1.query (Fin.cast trips1 k)) (rowsQ1 k) (lanesQ1 k) rfl a x))

end Dilation1

/-! ### The tiles of dilation 4 -/

theorem trips2 : k0_t2_loop.trips = 32 := by decide

theorem rowsQ4 (k : Fin k0_t2_loop.trips) (a : Fin 128) : k0_off5 k 0 + 4 * a.val = (tiling4.query (Fin.cast trips2 k) a).val := by
  rw [off5]; simp only [tiling4, Fin.val_cast, Matrix.cons_val_zero]; omega

theorem rowsK4 (k : Fin k0_t2_loop.trips) (b : Fin 256) : k0_off6 k 0 + 4 * b.val = (tiling4.key (Fin.cast trips2 k) b).val := by
  rw [off6]; simp only [tiling4, firstKey, Fin.val_cast, Matrix.cons_val_zero]; omega

theorem lanesQ4 (k : Fin k0_t2_loop.trips) : k0_off5 k 1 = 0 := by rw [off5]; rfl

theorem lanesK4 (k : Fin k0_t2_loop.trips) : k0_off6 k 1 = 0 := by rw [off6]; rfl

section Dilation4

variable (X1 : BufTy.Contents (Elt Ideal) arg1.view.ty) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X13 : BufTy.Contents (Elt Ideal) arg13.view.ty) (k : Fin k0_t2_loop.trips)
variable (f10 : BufTy.Contents (Elt Ideal) arg10.view.ty) (f11 : BufTy.Contents (Elt Ideal) arg11.view.ty) (f12 : BufTy.Contents (Elt Ideal) arg12.view.ty)

/-- The bias the tile adds. -/
abbrev bias4 := (View.readAt (Elt Ideal) arg13.view (Rect.unit (s := S3x256x256) (k0_off4 k) S1x256x256.size (k0_off4_inb k)).toLoadRect X13)

theorem tile2_queries : (tile2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).1 f10 f11 f12
      = [⟨(⟨(⟨k0_off5 k, S128x128.size, ![4, 1], k0_off5_inb k⟩ : LoadRect S4096x128), spos_4_1⟩ : Rect S4096x128), queries128 (View.readAt (Elt Ideal) arg13.view (Rect.unit (s := S3x256x256) (k0_off4 k) S1x256x256.size (k0_off4_inb k)).toLoadRect X13) (View.readAt (Elt Ideal) arg1.view (⟨(⟨k0_off5 k, S128x128.size, ![4, 1], k0_off5_inb k⟩ : LoadRect S4096x128), spos_4_1⟩ : Rect S4096x128).toLoadRect X1) (View.readAt (Elt Ideal) arg6.view (⟨(⟨k0_off5 k, S128x128.size, ![4, 1], k0_off5_inb k⟩ : LoadRect S4096x128), spos_4_1⟩ : Rect S4096x128).toLoadRect X6) (View.readAt (Elt Ideal) arg7.view (⟨(⟨k0_off5 k, S128x128.size, ![4, 1], k0_off5_inb k⟩ : LoadRect S4096x128), spos_4_1⟩ : Rect S4096x128).toLoadRect X7) (View.readAt (Elt Ideal) arg8.view (⟨(⟨k0_off5 k, S128x128.size, ![4, 1], k0_off5_inb k⟩ : LoadRect S4096x128), spos_4_1⟩ : Rect S4096x128).toLoadRect X8) (View.readAt (Elt Ideal) arg10.view (⟨(⟨k0_off5 k, S128x128.size, ![4, 1], k0_off5_inb k⟩ : LoadRect S4096x128), spos_4_1⟩ : Rect S4096x128).toLoadRect f10) (View.readAt (Elt Ideal) arg2.view (⟨(⟨k0_off6 k, S256x128.size, ![4, 1], k0_off6_inb k⟩ : LoadRect S4096x128), spos_4_1⟩ : Rect S4096x128).toLoadRect X2) (View.readAt (Elt Ideal) arg3.view (⟨(⟨k0_off6 k, S256x128.size, ![4, 1], k0_off6_inb k⟩ : LoadRect S4096x128), spos_4_1⟩ : Rect S4096x128).toLoadRect X3)⟩] := by
  unfold tile2; rfl

theorem tile2_keys : (tile2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.1 f10 f11 f12
      = [⟨(⟨(⟨k0_off6 k, S256x128.size, ![4, 1], k0_off6_inb k⟩ : LoadRect S4096x128), spos_4_1⟩ : Rect S4096x128), keys128 (View.readAt (Elt Ideal) arg13.view (Rect.unit (s := S3x256x256) (k0_off4 k) S1x256x256.size (k0_off4_inb k)).toLoadRect X13) (View.readAt (Elt Ideal) arg1.view (⟨(⟨k0_off5 k, S128x128.size, ![4, 1], k0_off5_inb k⟩ : LoadRect S4096x128), spos_4_1⟩ : Rect S4096x128).toLoadRect X1) (View.readAt (Elt Ideal) arg6.view (⟨(⟨k0_off5 k, S128x128.size, ![4, 1], k0_off5_inb k⟩ : LoadRect S4096x128), spos_4_1⟩ : Rect S4096x128).toLoadRect X6) (View.readAt (Elt Ideal) arg7.view (⟨(⟨k0_off5 k, S128x128.size, ![4, 1], k0_off5_inb k⟩ : LoadRect S4096x128), spos_4_1⟩ : Rect S4096x128).toLoadRect X7) (View.readAt (Elt Ideal) arg8.view (⟨(⟨k0_off5 k, S128x128.size, ![4, 1], k0_off5_inb k⟩ : LoadRect S4096x128), spos_4_1⟩ : Rect S4096x128).toLoadRect X8) (View.readAt (Elt Ideal) arg2.view (⟨(⟨k0_off6 k, S256x128.size, ![4, 1], k0_off6_inb k⟩ : LoadRect S4096x128), spos_4_1⟩ : Rect S4096x128).toLoadRect X2) (View.readAt (Elt Ideal) arg3.view (⟨(⟨k0_off6 k, S256x128.size, ![4, 1], k0_off6_inb k⟩ : LoadRect S4096x128), spos_4_1⟩ : Rect S4096x128).toLoadRect X3) (View.readAt (Elt Ideal) arg11.view (⟨(⟨k0_off6 k, S256x128.size, ![4, 1], k0_off6_inb k⟩ : LoadRect S4096x128), spos_4_1⟩ : Rect S4096x128).toLoadRect f11)⟩] := by
  unfold tile2; rfl

theorem tile2_values : (tile2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.2.1 f10 f11 f12
      = [⟨(⟨(⟨k0_off6 k, S256x128.size, ![4, 1], k0_off6_inb k⟩ : LoadRect S4096x128), spos_4_1⟩ : Rect S4096x128), values128 (View.readAt (Elt Ideal) arg13.view (Rect.unit (s := S3x256x256) (k0_off4 k) S1x256x256.size (k0_off4_inb k)).toLoadRect X13) (View.readAt (Elt Ideal) arg1.view (⟨(⟨k0_off5 k, S128x128.size, ![4, 1], k0_off5_inb k⟩ : LoadRect S4096x128), spos_4_1⟩ : Rect S4096x128).toLoadRect X1) (View.readAt (Elt Ideal) arg6.view (⟨(⟨k0_off5 k, S128x128.size, ![4, 1], k0_off5_inb k⟩ : LoadRect S4096x128), spos_4_1⟩ : Rect S4096x128).toLoadRect X6) (View.readAt (Elt Ideal) arg7.view (⟨(⟨k0_off5 k, S128x128.size, ![4, 1], k0_off5_inb k⟩ : LoadRect S4096x128), spos_4_1⟩ : Rect S4096x128).toLoadRect X7) (View.readAt (Elt Ideal) arg2.view (⟨(⟨k0_off6 k, S256x128.size, ![4, 1], k0_off6_inb k⟩ : LoadRect S4096x128), spos_4_1⟩ : Rect S4096x128).toLoadRect X2) (View.readAt (Elt Ideal) arg12.view (⟨(⟨k0_off6 k, S256x128.size, ![4, 1], k0_off6_inb k⟩ : LoadRect S4096x128), spos_4_1⟩ : Rect S4096x128).toLoadRect f12)⟩] := by
  unfold tile2; rfl

/-- The tile's rows are the block's, at its queries and keys. -/
theorem rows_at4 : rows128 (View.readAt (Elt Ideal) arg1.view (⟨(⟨k0_off5 k, S128x128.size, ![4, 1], k0_off5_inb k⟩ : LoadRect S4096x128), spos_4_1⟩ : Rect S4096x128).toLoadRect X1) (View.readAt (Elt Ideal) arg6.view (⟨(⟨k0_off5 k, S128x128.size, ![4, 1], k0_off5_inb k⟩ : LoadRect S4096x128), spos_4_1⟩ : Rect S4096x128).toLoadRect X6) (View.readAt (Elt Ideal) arg7.view (⟨(⟨k0_off5 k, S128x128.size, ![4, 1], k0_off5_inb k⟩ : LoadRect S4096x128), spos_4_1⟩ : Rect S4096x128).toLoadRect X7) (View.readAt (Elt Ideal) arg8.view (⟨(⟨k0_off5 k, S128x128.size, ![4, 1], k0_off5_inb k⟩ : LoadRect S4096x128), spos_4_1⟩ : Rect S4096x128).toLoadRect X8) (View.readAt (Elt Ideal) arg2.view (⟨(⟨k0_off6 k, S256x128.size, ![4, 1], k0_off6_inb k⟩ : LoadRect S4096x128), spos_4_1⟩ : Rect S4096x128).toLoadRect X2) (View.readAt (Elt Ideal) arg3.view (⟨(⟨k0_off6 k, S256x128.size, ![4, 1], k0_off6_inb k⟩ : LoadRect S4096x128), spos_4_1⟩ : Rect S4096x128).toLoadRect X3)
      = (blockRows arg1 arg2 arg3 arg6 arg7 arg8 X1 X2 X3 X6 X7 X8).along (tiling4.query (Fin.cast trips2 k)) (tiling4.key (Fin.cast trips2 k)) := by
  unfold rows128 Rows.along blockRows
  congr 1
  · funext a x; exact readAt_rows arg1.view X1 _ _ _ spos_4_1 (tiling4.query (Fin.cast trips2 k)) (rowsQ4 k) (lanesQ4 k) rfl a x
  · funext a x; exact readAt_rows arg6.view X6 _ _ _ spos_4_1 (tiling4.query (Fin.cast trips2 k)) (rowsQ4 k) (lanesQ4 k) rfl a x
  · funext a x; exact readAt_rows arg7.view X7 _ _ _ spos_4_1 (tiling4.query (Fin.cast trips2 k)) (rowsQ4 k) (lanesQ4 k) rfl a x
  · funext a x; exact readAt_rows arg8.view X8 _ _ _ spos_4_1 (tiling4.query (Fin.cast trips2 k)) (rowsQ4 k) (lanesQ4 k) rfl a x
  · funext a x; exact readAt_rows arg2.view X2 _ _ _ spos_4_1 (tiling4.key (Fin.cast trips2 k)) (rowsK4 k) (lanesK4 k) rfl a x
  · funext a x; exact readAt_rows arg3.view X3 _ _ _ spos_4_1 (tiling4.key (Fin.cast trips2 k)) (rowsK4 k) (lanesK4 k) rfl a x

theorem bias_at4 (hB : ∀ j r b, arg13.view.read (Elt Ideal) X13 (ix3 j r b) = slab j r b) (h : Fin 2) (a : Fin 128) (b : Fin 256) :
    (View.readAt (Elt Ideal) arg13.view (Rect.unit (s := S3x256x256) (k0_off4 k) S1x256x256.size (k0_off4_inb k)).toLoadRect X13) (ix3 0 (stacked128 h a) b) = mask 4 (tiling4.query (Fin.cast trips2 k) a) (tiling4.key (Fin.cast trips2 k) b) :=
  (readAt_slab _ _ _ _ _ (off4' k) _ _).trans ((hB _ _ _).trans (slab_four h (Fin.cast trips2 k) a b))

/-- The queries' gradient after the tile. -/
theorem step4_queries (hB : ∀ j r b, arg13.view.read (Elt Ideal) X13 (ix3 j r b) = slab j r b) (y : Fin 4096) (x : Fin 128) :
    arg10.view.read (Elt Ideal) (arg10.view.writes (Elt Ideal) f10 ((tile2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).1 f10 f11 f12)) (ix2 y x)
      = arg10.view.read (Elt Ideal) f10 (ix2 y x) + ∑ a, if tiling4.query (Fin.cast trips2 k) a = y then
          (∑ b, (blockRows arg1 arg2 arg3 arg6 arg7 arg8 X1 X2 X3 X6 X7 X8).dscore 4 (side x) (tiling4.query (Fin.cast trips2 k) a) (tiling4.key (Fin.cast trips2 k) b) * (blockRows arg1 arg2 arg3 arg6 arg7 arg8 X1 X2 X3 X6 X7 X8).k (tiling4.key (Fin.cast trips2 k) b) x) * eighth else 0 := by
  rw [tile2_queries]
  refine read_add_rows arg10.view f10 (k0_off5 k) ![4, 1] _ _ (tiling4.query (Fin.cast trips2 k)) (rowsQ4 k) (lanesQ4 k) rfl (query_injective _ _) _
    (fun a x => (∑ b, (blockRows arg1 arg2 arg3 arg6 arg7 arg8 X1 X2 X3 X6 X7 X8).dscore 4 (side x) (tiling4.query (Fin.cast trips2 k) a) (tiling4.key (Fin.cast trips2 k) b) * (blockRows arg1 arg2 arg3 arg6 arg7 arg8 X1 X2 X3 X6 X7 X8).k (tiling4.key (Fin.cast trips2 k) b) x) * eighth) (fun a x => ?_) y x
  rw [queries128_apply, rows_at4]
  simp only [bias_at4 arg13 X13 k hB]
  exact congrArg₂ (· + ·) (readAt_rows arg10.view f10 _ _ _ spos_4_1 (tiling4.query (Fin.cast trips2 k)) (rowsQ4 k) (lanesQ4 k) rfl a x)
    (congrArg (· * eighth) (Finset.sum_congr rfl fun b _ => congrArg (_ * ·) (readAt_rows arg2.view X2 _ _ _ spos_4_1 (tiling4.key (Fin.cast trips2 k)) (rowsK4 k) (lanesK4 k) rfl b x)))

/-- The keys' gradient after the tile. -/
theorem step4_keys (hB : ∀ j r b, arg13.view.read (Elt Ideal) X13 (ix3 j r b) = slab j r b) (y : Fin 4096) (x : Fin 128) :
    arg11.view.read (Elt Ideal) (arg11.view.writes (Elt Ideal) f11 ((tile2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.1 f10 f11 f12)) (ix2 y x)
      = arg11.view.read (Elt Ideal) f11 (ix2 y x) + ∑ b, if tiling4.key (Fin.cast trips2 k) b = y then
          ∑ a, (blockRows arg1 arg2 arg3 arg6 arg7 arg8 X1 X2 X3 X6 X7 X8).dscore 4 (side x) (tiling4.query (Fin.cast trips2 k) a) (tiling4.key (Fin.cast trips2 k) b) * (blockRows arg1 arg2 arg3 arg6 arg7 arg8 X1 X2 X3 X6 X7 X8).qs (tiling4.query (Fin.cast trips2 k) a) x else 0 := by
  rw [tile2_keys]
  refine read_add_rows arg11.view f11 (k0_off6 k) ![4, 1] _ _ (tiling4.key (Fin.cast trips2 k)) (rowsK4 k) (lanesK4 k) rfl (tiling4.key_inj _) _
    (fun b x => ∑ a, (blockRows arg1 arg2 arg3 arg6 arg7 arg8 X1 X2 X3 X6 X7 X8).dscore 4 (side x) (tiling4.query (Fin.cast trips2 k) a) (tiling4.key (Fin.cast trips2 k) b) * (blockRows arg1 arg2 arg3 arg6 arg7 arg8 X1 X2 X3 X6 X7 X8).qs (tiling4.query (Fin.cast trips2 k) a) x) (fun b x => ?_) y x
  rw [keys128_apply, rows_at4]
  simp only [bias_at4 arg13 X13 k hB]
  exact congrArg₂ (· + ·) (readAt_rows arg11.view f11 _ _ _ spos_4_1 (tiling4.key (Fin.cast trips2 k)) (rowsK4 k) (lanesK4 k) rfl b x) rfl

/-- The values' gradient after the tile. -/
theorem step4_values (hB : ∀ j r b, arg13.view.read (Elt Ideal) X13 (ix3 j r b) = slab j r b) (y : Fin 4096) (x : Fin 128) :
    arg12.view.read (Elt Ideal) (arg12.view.writes (Elt Ideal) f12 ((tile2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 k).2.2.1 f10 f11 f12)) (ix2 y x)
      = arg12.view.read (Elt Ideal) f12 (ix2 y x) + ∑ b, if tiling4.key (Fin.cast trips2 k) b = y then
          ∑ a, (blockRows arg1 arg2 arg3 arg6 arg7 arg8 X1 X2 X3 X6 X7 X8).prob 4 (side x) (tiling4.query (Fin.cast trips2 k) a) (tiling4.key (Fin.cast trips2 k) b) * (blockRows arg1 arg2 arg3 arg6 arg7 arg8 X1 X2 X3 X6 X7 X8).g (tiling4.query (Fin.cast trips2 k) a) x else 0 := by
  rw [tile2_values]
  refine read_add_rows arg12.view f12 (k0_off6 k) ![4, 1] _ _ (tiling4.key (Fin.cast trips2 k)) (rowsK4 k) (lanesK4 k) rfl (tiling4.key_inj _) _
    (fun b x => ∑ a, (blockRows arg1 arg2 arg3 arg6 arg7 arg8 X1 X2 X3 X6 X7 X8).prob 4 (side x) (tiling4.query (Fin.cast trips2 k) a) (tiling4.key (Fin.cast trips2 k) b) * (blockRows arg1 arg2 arg3 arg6 arg7 arg8 X1 X2 X3 X6 X7 X8).g (tiling4.query (Fin.cast trips2 k) a) x) (fun b x => ?_) y x
  refine (values128_apply _ _ _ _ (View.readAt (Elt Ideal) arg8.view (⟨(⟨k0_off5 k, S128x128.size, ![4, 1], k0_off5_inb k⟩ : LoadRect S4096x128), spos_4_1⟩ : Rect S4096x128).toLoadRect X8) _ (View.readAt (Elt Ideal) arg3.view (⟨(⟨k0_off6 k, S256x128.size, ![4, 1], k0_off6_inb k⟩ : LoadRect S4096x128), spos_4_1⟩ : Rect S4096x128).toLoadRect X3) _ b x).trans ?_
  rw [rows_at4]
  simp only [bias_at4 arg13 X13 k hB]
  exact congrArg₂ (· + ·) (readAt_rows arg12.view f12 _ _ _ spos_4_1 (tiling4.key (Fin.cast trips2 k)) (rowsK4 k) (lanesK4 k) rfl b x)
    (Finset.sum_congr rfl fun a _ => congrArg (_ * ·) (readAt_rows arg6.view X6 _ _ _ spos_4_1 (tiling4.query (Fin.cast trips2 k)) (rowsQ4 k) (lanesQ4 k) rfl a x))

end Dilation4

/-! ### The tiles of dilation 16 -/

theorem trips3 : k0_t3_loop.trips = 16 := by decide

theorem rowsQ16 (k : Fin k0_t3_loop.trips) (a : Fin 256) : k0_off7 k 0 + 16 * a.val = (tiling16.query (Fin.cast trips3 k) a).val := by
  rw [off7]; simp only [tiling16, Fin.val_cast, Matrix.cons_val_zero]

theorem rowsK16 (k : Fin k0_t3_loop.trips) (b : Fin 256) : k0_off7 k 0 + 16 * b.val = (tiling16.key (Fin.cast trips3 k) b).val := by
  rw [off7]; simp only [tiling16, firstKey, Fin.val_cast, Matrix.cons_val_zero]

theorem lanesQ16 (k : Fin k0_t3_loop.trips) : k0_off7 k 1 = 0 := by rw [off7]; rfl

theorem lanesK16 (k : Fin k0_t3_loop.trips) : k0_off7 k 1 = 0 := by rw [off7]; rfl

section Dilation16

variable (X1 : BufTy.Contents (Elt Ideal) arg1.view.ty) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X14 : BufTy.Contents (Elt Ideal) arg14.view.ty) (k : Fin k0_t3_loop.trips)
variable (f10 : BufTy.Contents (Elt Ideal) arg10.view.ty) (f11 : BufTy.Contents (Elt Ideal) arg11.view.ty) (f12 : BufTy.Contents (Elt Ideal) arg12.view.ty)

/-- The bias the tile adds. -/
abbrev bias16 := (View.readAt (Elt Ideal) arg14.view (Rect.unit (s := S512x256) ![0, 0] S512x256.size inb_S512x256_S512x256_0_0).toLoadRect X14)

theorem tile3_queries : (tile3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).1 f10 f11 f12
      = [⟨(⟨(⟨k0_off7 k, S256x128.size, ![16, 1], k0_off7_inb k⟩ : LoadRect S4096x128), spos_16_1⟩ : Rect S4096x128), queries256 (View.readAt (Elt Ideal) arg14.view (Rect.unit (s := S512x256) ![0, 0] S512x256.size inb_S512x256_S512x256_0_0).toLoadRect X14) (View.readAt (Elt Ideal) arg1.view (⟨(⟨k0_off7 k, S256x128.size, ![16, 1], k0_off7_inb k⟩ : LoadRect S4096x128), spos_16_1⟩ : Rect S4096x128).toLoadRect X1) (View.readAt (Elt Ideal) arg6.view (⟨(⟨k0_off7 k, S256x128.size, ![16, 1], k0_off7_inb k⟩ : LoadRect S4096x128), spos_16_1⟩ : Rect S4096x128).toLoadRect X6) (View.readAt (Elt Ideal) arg7.view (⟨(⟨k0_off7 k, S256x128.size, ![16, 1], k0_off7_inb k⟩ : LoadRect S4096x128), spos_16_1⟩ : Rect S4096x128).toLoadRect X7) (View.readAt (Elt Ideal) arg8.view (⟨(⟨k0_off7 k, S256x128.size, ![16, 1], k0_off7_inb k⟩ : LoadRect S4096x128), spos_16_1⟩ : Rect S4096x128).toLoadRect X8) (View.readAt (Elt Ideal) arg10.view (⟨(⟨k0_off7 k, S256x128.size, ![16, 1], k0_off7_inb k⟩ : LoadRect S4096x128), spos_16_1⟩ : Rect S4096x128).toLoadRect f10) (View.readAt (Elt Ideal) arg2.view (⟨(⟨k0_off7 k, S256x128.size, ![16, 1], k0_off7_inb k⟩ : LoadRect S4096x128), spos_16_1⟩ : Rect S4096x128).toLoadRect X2) (View.readAt (Elt Ideal) arg3.view (⟨(⟨k0_off7 k, S256x128.size, ![16, 1], k0_off7_inb k⟩ : LoadRect S4096x128), spos_16_1⟩ : Rect S4096x128).toLoadRect X3)⟩] := by
  unfold tile3; rfl

theorem tile3_keys : (tile3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).2.1 f10 f11 f12
      = [⟨(⟨(⟨k0_off7 k, S256x128.size, ![16, 1], k0_off7_inb k⟩ : LoadRect S4096x128), spos_16_1⟩ : Rect S4096x128), keys256 (View.readAt (Elt Ideal) arg14.view (Rect.unit (s := S512x256) ![0, 0] S512x256.size inb_S512x256_S512x256_0_0).toLoadRect X14) (View.readAt (Elt Ideal) arg1.view (⟨(⟨k0_off7 k, S256x128.size, ![16, 1], k0_off7_inb k⟩ : LoadRect S4096x128), spos_16_1⟩ : Rect S4096x128).toLoadRect X1) (View.readAt (Elt Ideal) arg6.view (⟨(⟨k0_off7 k, S256x128.size, ![16, 1], k0_off7_inb k⟩ : LoadRect S4096x128), spos_16_1⟩ : Rect S4096x128).toLoadRect X6) (View.readAt (Elt Ideal) arg7.view (⟨(⟨k0_off7 k, S256x128.size, ![16, 1], k0_off7_inb k⟩ : LoadRect S4096x128), spos_16_1⟩ : Rect S4096x128).toLoadRect X7) (View.readAt (Elt Ideal) arg8.view (⟨(⟨k0_off7 k, S256x128.size, ![16, 1], k0_off7_inb k⟩ : LoadRect S4096x128), spos_16_1⟩ : Rect S4096x128).toLoadRect X8) (View.readAt (Elt Ideal) arg2.view (⟨(⟨k0_off7 k, S256x128.size, ![16, 1], k0_off7_inb k⟩ : LoadRect S4096x128), spos_16_1⟩ : Rect S4096x128).toLoadRect X2) (View.readAt (Elt Ideal) arg3.view (⟨(⟨k0_off7 k, S256x128.size, ![16, 1], k0_off7_inb k⟩ : LoadRect S4096x128), spos_16_1⟩ : Rect S4096x128).toLoadRect X3) (View.readAt (Elt Ideal) arg11.view (⟨(⟨k0_off7 k, S256x128.size, ![16, 1], k0_off7_inb k⟩ : LoadRect S4096x128), spos_16_1⟩ : Rect S4096x128).toLoadRect f11)⟩] := by
  unfold tile3; rfl

theorem tile3_values : (tile3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).2.2.1 f10 f11 f12
      = [⟨(⟨(⟨k0_off7 k, S256x128.size, ![16, 1], k0_off7_inb k⟩ : LoadRect S4096x128), spos_16_1⟩ : Rect S4096x128), values256 (View.readAt (Elt Ideal) arg14.view (Rect.unit (s := S512x256) ![0, 0] S512x256.size inb_S512x256_S512x256_0_0).toLoadRect X14) (View.readAt (Elt Ideal) arg1.view (⟨(⟨k0_off7 k, S256x128.size, ![16, 1], k0_off7_inb k⟩ : LoadRect S4096x128), spos_16_1⟩ : Rect S4096x128).toLoadRect X1) (View.readAt (Elt Ideal) arg6.view (⟨(⟨k0_off7 k, S256x128.size, ![16, 1], k0_off7_inb k⟩ : LoadRect S4096x128), spos_16_1⟩ : Rect S4096x128).toLoadRect X6) (View.readAt (Elt Ideal) arg7.view (⟨(⟨k0_off7 k, S256x128.size, ![16, 1], k0_off7_inb k⟩ : LoadRect S4096x128), spos_16_1⟩ : Rect S4096x128).toLoadRect X7) (View.readAt (Elt Ideal) arg2.view (⟨(⟨k0_off7 k, S256x128.size, ![16, 1], k0_off7_inb k⟩ : LoadRect S4096x128), spos_16_1⟩ : Rect S4096x128).toLoadRect X2) (View.readAt (Elt Ideal) arg12.view (⟨(⟨k0_off7 k, S256x128.size, ![16, 1], k0_off7_inb k⟩ : LoadRect S4096x128), spos_16_1⟩ : Rect S4096x128).toLoadRect f12)⟩] := by
  unfold tile3; rfl

/-- The tile's rows are the block's, at its queries and keys. -/
theorem rows_at16 : rows256 (View.readAt (Elt Ideal) arg1.view (⟨(⟨k0_off7 k, S256x128.size, ![16, 1], k0_off7_inb k⟩ : LoadRect S4096x128), spos_16_1⟩ : Rect S4096x128).toLoadRect X1) (View.readAt (Elt Ideal) arg6.view (⟨(⟨k0_off7 k, S256x128.size, ![16, 1], k0_off7_inb k⟩ : LoadRect S4096x128), spos_16_1⟩ : Rect S4096x128).toLoadRect X6) (View.readAt (Elt Ideal) arg7.view (⟨(⟨k0_off7 k, S256x128.size, ![16, 1], k0_off7_inb k⟩ : LoadRect S4096x128), spos_16_1⟩ : Rect S4096x128).toLoadRect X7) (View.readAt (Elt Ideal) arg8.view (⟨(⟨k0_off7 k, S256x128.size, ![16, 1], k0_off7_inb k⟩ : LoadRect S4096x128), spos_16_1⟩ : Rect S4096x128).toLoadRect X8) (View.readAt (Elt Ideal) arg2.view (⟨(⟨k0_off7 k, S256x128.size, ![16, 1], k0_off7_inb k⟩ : LoadRect S4096x128), spos_16_1⟩ : Rect S4096x128).toLoadRect X2) (View.readAt (Elt Ideal) arg3.view (⟨(⟨k0_off7 k, S256x128.size, ![16, 1], k0_off7_inb k⟩ : LoadRect S4096x128), spos_16_1⟩ : Rect S4096x128).toLoadRect X3)
      = (blockRows arg1 arg2 arg3 arg6 arg7 arg8 X1 X2 X3 X6 X7 X8).along (tiling16.query (Fin.cast trips3 k)) (tiling16.key (Fin.cast trips3 k)) := by
  unfold rows256 Rows.along blockRows
  congr 1
  · funext a x; exact readAt_rows arg1.view X1 _ _ _ spos_16_1 (tiling16.query (Fin.cast trips3 k)) (rowsQ16 k) (lanesQ16 k) rfl a x
  · funext a x; exact readAt_rows arg6.view X6 _ _ _ spos_16_1 (tiling16.query (Fin.cast trips3 k)) (rowsQ16 k) (lanesQ16 k) rfl a x
  · funext a x; exact readAt_rows arg7.view X7 _ _ _ spos_16_1 (tiling16.query (Fin.cast trips3 k)) (rowsQ16 k) (lanesQ16 k) rfl a x
  · funext a x; exact readAt_rows arg8.view X8 _ _ _ spos_16_1 (tiling16.query (Fin.cast trips3 k)) (rowsQ16 k) (lanesQ16 k) rfl a x
  · funext a x; exact readAt_rows arg2.view X2 _ _ _ spos_16_1 (tiling16.key (Fin.cast trips3 k)) (rowsK16 k) (lanesK16 k) rfl a x
  · funext a x; exact readAt_rows arg3.view X3 _ _ _ spos_16_1 (tiling16.key (Fin.cast trips3 k)) (rowsK16 k) (lanesK16 k) rfl a x

theorem bias_at16 (hB : ∀ r b, arg14.view.read (Elt Ideal) X14 (ix2 r b) = wholeSlab r b) (h : Fin 2) (a : Fin 256) (b : Fin 256) :
    (View.readAt (Elt Ideal) arg14.view (Rect.unit (s := S512x256) ![0, 0] S512x256.size inb_S512x256_S512x256_0_0).toLoadRect X14) (ix2 (stacked256 h a) b) = mask 16 (tiling16.query (Fin.cast trips3 k) a) (tiling16.key (Fin.cast trips3 k) b) :=
  (readAt_wholeSlab _ _ _ _ _).trans ((hB _ _).trans (slab_sixteen h (Fin.cast trips3 k) a b))

/-- The queries' gradient after the tile. -/
theorem step16_queries (hB : ∀ r b, arg14.view.read (Elt Ideal) X14 (ix2 r b) = wholeSlab r b) (y : Fin 4096) (x : Fin 128) :
    arg10.view.read (Elt Ideal) (arg10.view.writes (Elt Ideal) f10 ((tile3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).1 f10 f11 f12)) (ix2 y x)
      = arg10.view.read (Elt Ideal) f10 (ix2 y x) + ∑ a, if tiling16.query (Fin.cast trips3 k) a = y then
          (∑ b, (blockRows arg1 arg2 arg3 arg6 arg7 arg8 X1 X2 X3 X6 X7 X8).dscore 16 (side x) (tiling16.query (Fin.cast trips3 k) a) (tiling16.key (Fin.cast trips3 k) b) * (blockRows arg1 arg2 arg3 arg6 arg7 arg8 X1 X2 X3 X6 X7 X8).k (tiling16.key (Fin.cast trips3 k) b) x) * eighth else 0 := by
  rw [tile3_queries]
  refine read_add_rows arg10.view f10 (k0_off7 k) ![16, 1] _ _ (tiling16.query (Fin.cast trips3 k)) (rowsQ16 k) (lanesQ16 k) rfl (query_injective _ _) _
    (fun a x => (∑ b, (blockRows arg1 arg2 arg3 arg6 arg7 arg8 X1 X2 X3 X6 X7 X8).dscore 16 (side x) (tiling16.query (Fin.cast trips3 k) a) (tiling16.key (Fin.cast trips3 k) b) * (blockRows arg1 arg2 arg3 arg6 arg7 arg8 X1 X2 X3 X6 X7 X8).k (tiling16.key (Fin.cast trips3 k) b) x) * eighth) (fun a x => ?_) y x
  rw [queries256_apply, rows_at16]
  simp only [bias_at16 arg14 X14 k hB]
  exact congrArg₂ (· + ·) (readAt_rows arg10.view f10 _ _ _ spos_16_1 (tiling16.query (Fin.cast trips3 k)) (rowsQ16 k) (lanesQ16 k) rfl a x)
    (congrArg (· * eighth) (Finset.sum_congr rfl fun b _ => congrArg (_ * ·) (readAt_rows arg2.view X2 _ _ _ spos_16_1 (tiling16.key (Fin.cast trips3 k)) (rowsK16 k) (lanesK16 k) rfl b x)))

/-- The keys' gradient after the tile. -/
theorem step16_keys (hB : ∀ r b, arg14.view.read (Elt Ideal) X14 (ix2 r b) = wholeSlab r b) (y : Fin 4096) (x : Fin 128) :
    arg11.view.read (Elt Ideal) (arg11.view.writes (Elt Ideal) f11 ((tile3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).2.1 f10 f11 f12)) (ix2 y x)
      = arg11.view.read (Elt Ideal) f11 (ix2 y x) + ∑ b, if tiling16.key (Fin.cast trips3 k) b = y then
          ∑ a, (blockRows arg1 arg2 arg3 arg6 arg7 arg8 X1 X2 X3 X6 X7 X8).dscore 16 (side x) (tiling16.query (Fin.cast trips3 k) a) (tiling16.key (Fin.cast trips3 k) b) * (blockRows arg1 arg2 arg3 arg6 arg7 arg8 X1 X2 X3 X6 X7 X8).qs (tiling16.query (Fin.cast trips3 k) a) x else 0 := by
  rw [tile3_keys]
  refine read_add_rows arg11.view f11 (k0_off7 k) ![16, 1] _ _ (tiling16.key (Fin.cast trips3 k)) (rowsK16 k) (lanesK16 k) rfl (tiling16.key_inj _) _
    (fun b x => ∑ a, (blockRows arg1 arg2 arg3 arg6 arg7 arg8 X1 X2 X3 X6 X7 X8).dscore 16 (side x) (tiling16.query (Fin.cast trips3 k) a) (tiling16.key (Fin.cast trips3 k) b) * (blockRows arg1 arg2 arg3 arg6 arg7 arg8 X1 X2 X3 X6 X7 X8).qs (tiling16.query (Fin.cast trips3 k) a) x) (fun b x => ?_) y x
  rw [keys256_apply, rows_at16]
  simp only [bias_at16 arg14 X14 k hB]
  exact congrArg₂ (· + ·) (readAt_rows arg11.view f11 _ _ _ spos_16_1 (tiling16.key (Fin.cast trips3 k)) (rowsK16 k) (lanesK16 k) rfl b x) rfl

/-- The values' gradient after the tile. -/
theorem step16_values (hB : ∀ r b, arg14.view.read (Elt Ideal) X14 (ix2 r b) = wholeSlab r b) (y : Fin 4096) (x : Fin 128) :
    arg12.view.read (Elt Ideal) (arg12.view.writes (Elt Ideal) f12 ((tile3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 k).2.2.1 f10 f11 f12)) (ix2 y x)
      = arg12.view.read (Elt Ideal) f12 (ix2 y x) + ∑ b, if tiling16.key (Fin.cast trips3 k) b = y then
          ∑ a, (blockRows arg1 arg2 arg3 arg6 arg7 arg8 X1 X2 X3 X6 X7 X8).prob 16 (side x) (tiling16.query (Fin.cast trips3 k) a) (tiling16.key (Fin.cast trips3 k) b) * (blockRows arg1 arg2 arg3 arg6 arg7 arg8 X1 X2 X3 X6 X7 X8).g (tiling16.query (Fin.cast trips3 k) a) x else 0 := by
  rw [tile3_values]
  refine read_add_rows arg12.view f12 (k0_off7 k) ![16, 1] _ _ (tiling16.key (Fin.cast trips3 k)) (rowsK16 k) (lanesK16 k) rfl (tiling16.key_inj _) _
    (fun b x => ∑ a, (blockRows arg1 arg2 arg3 arg6 arg7 arg8 X1 X2 X3 X6 X7 X8).prob 16 (side x) (tiling16.query (Fin.cast trips3 k) a) (tiling16.key (Fin.cast trips3 k) b) * (blockRows arg1 arg2 arg3 arg6 arg7 arg8 X1 X2 X3 X6 X7 X8).g (tiling16.query (Fin.cast trips3 k) a) x) (fun b x => ?_) y x
  refine (values256_apply _ _ _ _ (View.readAt (Elt Ideal) arg8.view (⟨(⟨k0_off7 k, S256x128.size, ![16, 1], k0_off7_inb k⟩ : LoadRect S4096x128), spos_16_1⟩ : Rect S4096x128).toLoadRect X8) _ (View.readAt (Elt Ideal) arg3.view (⟨(⟨k0_off7 k, S256x128.size, ![16, 1], k0_off7_inb k⟩ : LoadRect S4096x128), spos_16_1⟩ : Rect S4096x128).toLoadRect X3) _ b x).trans ?_
  rw [rows_at16]
  simp only [bias_at16 arg14 X14 k hB]
  exact congrArg₂ (· + ·) (readAt_rows arg12.view f12 _ _ _ spos_16_1 (tiling16.key (Fin.cast trips3 k)) (rowsK16 k) (lanesK16 k) rfl b x)
    (Finset.sum_congr rfl fun a _ => congrArg (_ * ·) (readAt_rows arg6.view X6 _ _ _ spos_16_1 (tiling16.query (Fin.cast trips3 k)) (rowsQ16 k) (lanesQ16 k) rfl a x))

end Dilation16

end Cert.KernelIdeal.Tiles

end
-- ==== Proof.Sums.lean ====
/- What the three loops over the tiles leave in the accumulators: what they held, with each branch's gradients added. -/
module

public import proofs.«01_k».proof.Proof.Steps

@[expose] public section

set_option maxRecDepth 16384

noncomputable section

namespace Cert.KernelIdeal.Tiles

open Idealize.ShloMosaic Cert.KernelIdeal.Gen Cert.Attention

/-- What grows by a term each time has grown by their sum. -/
theorem grown {N : ℕ} (A : ℕ → EReal) (Z : Fin N → EReal) (h : ∀ k : Fin N, A (k.val + 1) = A k.val + Z k) : A N = A 0 + ∑ t, Z t := by
  induction N with
  | zero => simp
  | succ N ih =>
    rw [Fin.sum_univ_castSucc, ← add_assoc, ← ih (fun k => Z k.castSucc) fun k => h k.castSucc]
    exact h (Fin.last N)

/-- The queries' gradient over a branch's tiles. -/
theorem sum_dq {d N n : ℕ} (S : Tiling d N n) (R : Rows (Fin 4096) (Fin 4096)) (y : Fin 4096) (x : Fin 128) :
    ∑ t, ∑ a, (if S.query t a = y then (∑ b, R.dscore d (side x) (S.query t a) (S.key t b) * R.k (S.key t b) x) * eighth else 0) = R.dq d y x := by
  rw [S.sum_at_query y fun t a => (∑ b, R.dscore d (side x) (S.query t a) (S.key t b) * R.k (S.key t b) x) * eighth]
  unfold Rows.dq
  rw [S.sum_keys (S.tileOf y) (S.placeOf y) (fun j => R.dscore d (side x) (S.query (S.tileOf y) (S.placeOf y)) j * R.k j x)
    fun j hj => by rw [R.dscore_off _ _ _ _ hj, zero_mul], S.query_of]

/-- The keys' gradient over a branch's tiles. -/
theorem sum_dk {d N n : ℕ} (S : Tiling d N n) (R : Rows (Fin 4096) (Fin 4096)) (y : Fin 4096) (x : Fin 128) :
    ∑ t, ∑ b, (if S.key t b = y then ∑ a, R.dscore d (side x) (S.query t a) (S.key t b) * R.qs (S.query t a) x else 0) = R.dk d y x :=
  S.sum_at_key y (fun i j => R.dscore d (side x) i j * R.qs i x) fun i j h => by rw [R.dscore_off _ _ _ _ h, zero_mul]

/-- The values' gradient over a branch's tiles. -/
theorem sum_dv {d N n : ℕ} (S : Tiling d N n) (R : Rows (Fin 4096) (Fin 4096)) (y : Fin 4096) (x : Fin 128) :
    ∑ t, ∑ b, (if S.key t b = y then ∑ a, R.prob d (side x) (S.query t a) (S.key t b) * R.g (S.query t a) x else 0) = R.dv d y x :=
  S.sum_at_key y (fun i j => R.prob d (side x) i j * R.g i x) fun i j h => by rw [R.prob_off _ _ _ _ h, zero_mul]

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (v76 : IVec S512x256 32) (v78 : IVec S512x256 1)

section Loop1

variable (X1 : BufTy.Contents (Elt Ideal) arg1.view.ty) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X13 : BufTy.Contents (Elt Ideal) arg13.view.ty) (G10 : BufTy.Contents (Elt Ideal) arg10.view.ty) (G11 : BufTy.Contents (Elt Ideal) arg11.view.ty) (G12 : BufTy.Contents (Elt Ideal) arg12.view.ty)

theorem loop1_queries (hB : ∀ j r b, arg13.view.read (Elt Ideal) X13 (ix3 j r b) = slab j r b) (y : Fin 4096) (x : Fin 128) :
    arg10.view.read (Elt Ideal) (arg10.view.writes (Elt Ideal) G10 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k0_t1_loop.trips).1) (ix2 y x)
      = arg10.view.read (Elt Ideal) G10 (ix2 y x) + (blockRows arg1 arg2 arg3 arg6 arg7 arg8 X1 X2 X3 X6 X7 X8).dq 1 y x := by
  rw [← sum_dq tiling1]
  refine grown (N := 32) (fun k => arg10.view.read (Elt Ideal) (arg10.view.writes (Elt Ideal) G10 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).1) (ix2 y x))
    (fun t => ∑ a, (if tiling1.query t a = y then (∑ b, (blockRows arg1 arg2 arg3 arg6 arg7 arg8 X1 X2 X3 X6 X7 X8).dscore 1 (side x) (tiling1.query t a) (tiling1.key t b) * (blockRows arg1 arg2 arg3 arg6 arg7 arg8 X1 X2 X3 X6 X7 X8).k (tiling1.key t b) x) * eighth else 0)) fun k => ?_
  have h := step1_queries c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 (Fin.cast trips1.symm k) (arg10.view.writes (Elt Ideal) G10 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).1) (arg11.view.writes (Elt Ideal) G11 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.1) (arg12.view.writes (Elt Ideal) G12 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.2) hB y x
  refine Eq.trans ?_ h
  have e := congrArg (fun P => arg10.view.read (Elt Ideal) (arg10.view.writes (Elt Ideal) G10 P.1) (ix2 y x))
    (after1_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (Fin.cast trips1.symm k))
  refine e.trans ?_
  exact congrArg (fun f => arg10.view.read (Elt Ideal) f (ix2 y x)) (View.writes_append ..)

theorem loop1_keys (hB : ∀ j r b, arg13.view.read (Elt Ideal) X13 (ix3 j r b) = slab j r b) (y : Fin 4096) (x : Fin 128) :
    arg11.view.read (Elt Ideal) (arg11.view.writes (Elt Ideal) G11 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k0_t1_loop.trips).2.1) (ix2 y x)
      = arg11.view.read (Elt Ideal) G11 (ix2 y x) + (blockRows arg1 arg2 arg3 arg6 arg7 arg8 X1 X2 X3 X6 X7 X8).dk 1 y x := by
  rw [← sum_dk tiling1]
  refine grown (N := 32) (fun k => arg11.view.read (Elt Ideal) (arg11.view.writes (Elt Ideal) G11 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.1) (ix2 y x))
    (fun t => ∑ b, (if tiling1.key t b = y then ∑ a, (blockRows arg1 arg2 arg3 arg6 arg7 arg8 X1 X2 X3 X6 X7 X8).dscore 1 (side x) (tiling1.query t a) (tiling1.key t b) * (blockRows arg1 arg2 arg3 arg6 arg7 arg8 X1 X2 X3 X6 X7 X8).qs (tiling1.query t a) x else 0)) fun k => ?_
  have h := step1_keys c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 (Fin.cast trips1.symm k) (arg10.view.writes (Elt Ideal) G10 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).1) (arg11.view.writes (Elt Ideal) G11 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.1) (arg12.view.writes (Elt Ideal) G12 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.2) hB y x
  refine Eq.trans ?_ h
  have e := congrArg (fun P => arg11.view.read (Elt Ideal) (arg11.view.writes (Elt Ideal) G11 P.2.1) (ix2 y x))
    (after1_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (Fin.cast trips1.symm k))
  refine e.trans ?_
  exact congrArg (fun f => arg11.view.read (Elt Ideal) f (ix2 y x)) (View.writes_append ..)

theorem loop1_values (hB : ∀ j r b, arg13.view.read (Elt Ideal) X13 (ix3 j r b) = slab j r b) (y : Fin 4096) (x : Fin 128) :
    arg12.view.read (Elt Ideal) (arg12.view.writes (Elt Ideal) G12 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k0_t1_loop.trips).2.2) (ix2 y x)
      = arg12.view.read (Elt Ideal) G12 (ix2 y x) + (blockRows arg1 arg2 arg3 arg6 arg7 arg8 X1 X2 X3 X6 X7 X8).dv 1 y x := by
  rw [← sum_dv tiling1]
  refine grown (N := 32) (fun k => arg12.view.read (Elt Ideal) (arg12.view.writes (Elt Ideal) G12 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.2) (ix2 y x))
    (fun t => ∑ b, (if tiling1.key t b = y then ∑ a, (blockRows arg1 arg2 arg3 arg6 arg7 arg8 X1 X2 X3 X6 X7 X8).prob 1 (side x) (tiling1.query t a) (tiling1.key t b) * (blockRows arg1 arg2 arg3 arg6 arg7 arg8 X1 X2 X3 X6 X7 X8).g (tiling1.query t a) x else 0)) fun k => ?_
  have h := step1_values c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 (Fin.cast trips1.symm k) (arg10.view.writes (Elt Ideal) G10 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).1) (arg11.view.writes (Elt Ideal) G11 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.1) (arg12.view.writes (Elt Ideal) G12 (after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.2) hB y x
  refine Eq.trans ?_ h
  have e := congrArg (fun P => arg12.view.read (Elt Ideal) (arg12.view.writes (Elt Ideal) G12 P.2.2) (ix2 y x))
    (after1_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (Fin.cast trips1.symm k))
  refine e.trans ?_
  exact congrArg (fun f => arg12.view.read (Elt Ideal) f (ix2 y x)) (View.writes_append ..)

end Loop1

section Loop4

variable (X1 : BufTy.Contents (Elt Ideal) arg1.view.ty) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X13 : BufTy.Contents (Elt Ideal) arg13.view.ty) (G10 : BufTy.Contents (Elt Ideal) arg10.view.ty) (G11 : BufTy.Contents (Elt Ideal) arg11.view.ty) (G12 : BufTy.Contents (Elt Ideal) arg12.view.ty)

theorem loop4_queries (hB : ∀ j r b, arg13.view.read (Elt Ideal) X13 (ix3 j r b) = slab j r b) (y : Fin 4096) (x : Fin 128) :
    arg10.view.read (Elt Ideal) (arg10.view.writes (Elt Ideal) G10 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k0_t2_loop.trips).1) (ix2 y x)
      = arg10.view.read (Elt Ideal) G10 (ix2 y x) + (blockRows arg1 arg2 arg3 arg6 arg7 arg8 X1 X2 X3 X6 X7 X8).dq 4 y x := by
  rw [← sum_dq tiling4]
  refine grown (N := 32) (fun k => arg10.view.read (Elt Ideal) (arg10.view.writes (Elt Ideal) G10 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).1) (ix2 y x))
    (fun t => ∑ a, (if tiling4.query t a = y then (∑ b, (blockRows arg1 arg2 arg3 arg6 arg7 arg8 X1 X2 X3 X6 X7 X8).dscore 4 (side x) (tiling4.query t a) (tiling4.key t b) * (blockRows arg1 arg2 arg3 arg6 arg7 arg8 X1 X2 X3 X6 X7 X8).k (tiling4.key t b) x) * eighth else 0)) fun k => ?_
  have h := step4_queries c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 (Fin.cast trips2.symm k) (arg10.view.writes (Elt Ideal) G10 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).1) (arg11.view.writes (Elt Ideal) G11 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.1) (arg12.view.writes (Elt Ideal) G12 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.2) hB y x
  refine Eq.trans ?_ h
  have e := congrArg (fun P => arg10.view.read (Elt Ideal) (arg10.view.writes (Elt Ideal) G10 P.1) (ix2 y x))
    (after2_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (Fin.cast trips2.symm k))
  refine e.trans ?_
  exact congrArg (fun f => arg10.view.read (Elt Ideal) f (ix2 y x)) (View.writes_append ..)

theorem loop4_keys (hB : ∀ j r b, arg13.view.read (Elt Ideal) X13 (ix3 j r b) = slab j r b) (y : Fin 4096) (x : Fin 128) :
    arg11.view.read (Elt Ideal) (arg11.view.writes (Elt Ideal) G11 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k0_t2_loop.trips).2.1) (ix2 y x)
      = arg11.view.read (Elt Ideal) G11 (ix2 y x) + (blockRows arg1 arg2 arg3 arg6 arg7 arg8 X1 X2 X3 X6 X7 X8).dk 4 y x := by
  rw [← sum_dk tiling4]
  refine grown (N := 32) (fun k => arg11.view.read (Elt Ideal) (arg11.view.writes (Elt Ideal) G11 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.1) (ix2 y x))
    (fun t => ∑ b, (if tiling4.key t b = y then ∑ a, (blockRows arg1 arg2 arg3 arg6 arg7 arg8 X1 X2 X3 X6 X7 X8).dscore 4 (side x) (tiling4.query t a) (tiling4.key t b) * (blockRows arg1 arg2 arg3 arg6 arg7 arg8 X1 X2 X3 X6 X7 X8).qs (tiling4.query t a) x else 0)) fun k => ?_
  have h := step4_keys c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 (Fin.cast trips2.symm k) (arg10.view.writes (Elt Ideal) G10 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).1) (arg11.view.writes (Elt Ideal) G11 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.1) (arg12.view.writes (Elt Ideal) G12 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.2) hB y x
  refine Eq.trans ?_ h
  have e := congrArg (fun P => arg11.view.read (Elt Ideal) (arg11.view.writes (Elt Ideal) G11 P.2.1) (ix2 y x))
    (after2_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (Fin.cast trips2.symm k))
  refine e.trans ?_
  exact congrArg (fun f => arg11.view.read (Elt Ideal) f (ix2 y x)) (View.writes_append ..)

theorem loop4_values (hB : ∀ j r b, arg13.view.read (Elt Ideal) X13 (ix3 j r b) = slab j r b) (y : Fin 4096) (x : Fin 128) :
    arg12.view.read (Elt Ideal) (arg12.view.writes (Elt Ideal) G12 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k0_t2_loop.trips).2.2) (ix2 y x)
      = arg12.view.read (Elt Ideal) G12 (ix2 y x) + (blockRows arg1 arg2 arg3 arg6 arg7 arg8 X1 X2 X3 X6 X7 X8).dv 4 y x := by
  rw [← sum_dv tiling4]
  refine grown (N := 32) (fun k => arg12.view.read (Elt Ideal) (arg12.view.writes (Elt Ideal) G12 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k).2.2) (ix2 y x))
    (fun t => ∑ b, (if tiling4.key t b = y then ∑ a, (blockRows arg1 arg2 arg3 arg6 arg7 arg8 X1 X2 X3 X6 X7 X8).prob 4 (side x) (tiling4.query t a) (tiling4.key t b) * (blockRows arg1 arg2 arg3 arg6 arg7 arg8 X1 X2 X3 X6 X7 X8).g (tiling4.query t a) x else 0)) fun k => ?_
  have h := step4_values c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 (Fin.cast trips2.symm k) (arg10.view.writes (Elt Ideal) G10 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).1) (arg11.view.writes (Elt Ideal) G11 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.1) (arg12.view.writes (Elt Ideal) G12 (after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 k.val).2.2) hB y x
  refine Eq.trans ?_ h
  have e := congrArg (fun P => arg12.view.read (Elt Ideal) (arg12.view.writes (Elt Ideal) G12 P.2.2) (ix2 y x))
    (after2_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X13 G10 G11 G12 (Fin.cast trips2.symm k))
  refine e.trans ?_
  exact congrArg (fun f => arg12.view.read (Elt Ideal) f (ix2 y x)) (View.writes_append ..)

end Loop4

section Loop16

variable (X1 : BufTy.Contents (Elt Ideal) arg1.view.ty) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (X14 : BufTy.Contents (Elt Ideal) arg14.view.ty) (G10 : BufTy.Contents (Elt Ideal) arg10.view.ty) (G11 : BufTy.Contents (Elt Ideal) arg11.view.ty) (G12 : BufTy.Contents (Elt Ideal) arg12.view.ty)

theorem loop16_queries (hB : ∀ r b, arg14.view.read (Elt Ideal) X14 (ix2 r b) = wholeSlab r b) (y : Fin 4096) (x : Fin 128) :
    arg10.view.read (Elt Ideal) (arg10.view.writes (Elt Ideal) G10 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k0_t3_loop.trips).1) (ix2 y x)
      = arg10.view.read (Elt Ideal) G10 (ix2 y x) + (blockRows arg1 arg2 arg3 arg6 arg7 arg8 X1 X2 X3 X6 X7 X8).dq 16 y x := by
  rw [← sum_dq tiling16]
  refine grown (N := 16) (fun k => arg10.view.read (Elt Ideal) (arg10.view.writes (Elt Ideal) G10 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k).1) (ix2 y x))
    (fun t => ∑ a, (if tiling16.query t a = y then (∑ b, (blockRows arg1 arg2 arg3 arg6 arg7 arg8 X1 X2 X3 X6 X7 X8).dscore 16 (side x) (tiling16.query t a) (tiling16.key t b) * (blockRows arg1 arg2 arg3 arg6 arg7 arg8 X1 X2 X3 X6 X7 X8).k (tiling16.key t b) x) * eighth else 0)) fun k => ?_
  have h := step16_queries c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 (Fin.cast trips3.symm k) (arg10.view.writes (Elt Ideal) G10 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).1) (arg11.view.writes (Elt Ideal) G11 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).2.1) (arg12.view.writes (Elt Ideal) G12 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).2.2) hB y x
  refine Eq.trans ?_ h
  have e := congrArg (fun P => arg10.view.read (Elt Ideal) (arg10.view.writes (Elt Ideal) G10 P.1) (ix2 y x))
    (after3_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 (Fin.cast trips3.symm k))
  refine e.trans ?_
  exact congrArg (fun f => arg10.view.read (Elt Ideal) f (ix2 y x)) (View.writes_append ..)

theorem loop16_keys (hB : ∀ r b, arg14.view.read (Elt Ideal) X14 (ix2 r b) = wholeSlab r b) (y : Fin 4096) (x : Fin 128) :
    arg11.view.read (Elt Ideal) (arg11.view.writes (Elt Ideal) G11 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k0_t3_loop.trips).2.1) (ix2 y x)
      = arg11.view.read (Elt Ideal) G11 (ix2 y x) + (blockRows arg1 arg2 arg3 arg6 arg7 arg8 X1 X2 X3 X6 X7 X8).dk 16 y x := by
  rw [← sum_dk tiling16]
  refine grown (N := 16) (fun k => arg11.view.read (Elt Ideal) (arg11.view.writes (Elt Ideal) G11 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k).2.1) (ix2 y x))
    (fun t => ∑ b, (if tiling16.key t b = y then ∑ a, (blockRows arg1 arg2 arg3 arg6 arg7 arg8 X1 X2 X3 X6 X7 X8).dscore 16 (side x) (tiling16.query t a) (tiling16.key t b) * (blockRows arg1 arg2 arg3 arg6 arg7 arg8 X1 X2 X3 X6 X7 X8).qs (tiling16.query t a) x else 0)) fun k => ?_
  have h := step16_keys c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 (Fin.cast trips3.symm k) (arg10.view.writes (Elt Ideal) G10 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).1) (arg11.view.writes (Elt Ideal) G11 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).2.1) (arg12.view.writes (Elt Ideal) G12 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).2.2) hB y x
  refine Eq.trans ?_ h
  have e := congrArg (fun P => arg11.view.read (Elt Ideal) (arg11.view.writes (Elt Ideal) G11 P.2.1) (ix2 y x))
    (after3_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 (Fin.cast trips3.symm k))
  refine e.trans ?_
  exact congrArg (fun f => arg11.view.read (Elt Ideal) f (ix2 y x)) (View.writes_append ..)

theorem loop16_values (hB : ∀ r b, arg14.view.read (Elt Ideal) X14 (ix2 r b) = wholeSlab r b) (y : Fin 4096) (x : Fin 128) :
    arg12.view.read (Elt Ideal) (arg12.view.writes (Elt Ideal) G12 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k0_t3_loop.trips).2.2) (ix2 y x)
      = arg12.view.read (Elt Ideal) G12 (ix2 y x) + (blockRows arg1 arg2 arg3 arg6 arg7 arg8 X1 X2 X3 X6 X7 X8).dv 16 y x := by
  rw [← sum_dv tiling16]
  refine grown (N := 16) (fun k => arg12.view.read (Elt Ideal) (arg12.view.writes (Elt Ideal) G12 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k).2.2) (ix2 y x))
    (fun t => ∑ b, (if tiling16.key t b = y then ∑ a, (blockRows arg1 arg2 arg3 arg6 arg7 arg8 X1 X2 X3 X6 X7 X8).prob 16 (side x) (tiling16.query t a) (tiling16.key t b) * (blockRows arg1 arg2 arg3 arg6 arg7 arg8 X1 X2 X3 X6 X7 X8).g (tiling16.query t a) x else 0)) fun k => ?_
  have h := step16_values c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 (Fin.cast trips3.symm k) (arg10.view.writes (Elt Ideal) G10 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).1) (arg11.view.writes (Elt Ideal) G11 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).2.1) (arg12.view.writes (Elt Ideal) G12 (after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 k.val).2.2) hB y x
  refine Eq.trans ?_ h
  have e := congrArg (fun P => arg12.view.read (Elt Ideal) (arg12.view.writes (Elt Ideal) G12 P.2.2) (ix2 y x))
    (after3_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 v76 v78 X1 X2 X3 X6 X7 X8 X14 G10 G11 G12 (Fin.cast trips3.symm k))
  refine e.trans ?_
  exact congrArg (fun f => arg12.view.read (Elt Ideal) f (ix2 y x)) (View.writes_append ..)

end Loop16

end Cert.KernelIdeal.Tiles

end
-- ==== Proof.Bias.lean ====
/- What the kernel puts in its scratch before the loops: zeros in the accumulators, and the tables of the band. -/
module

public import proofs.«01_k».proof.Proof.Steps

@[expose] public section

set_option maxRecDepth 16384

noncomputable section

namespace Cert.KernelIdeal.Tiles

open Idealize.ShloMosaic Cert.KernelIdeal.Gen Cert.Attention

/-- Whether a distance lies in the band. -/
def near (x : BitVec 32) : BitVec 1 := IntOp.andi (IntOp.cmpi .sge x 4294967232#32) (IntOp.cmpi .sle x 64#32)

/-- The remainder of `w` by `n`, of the sign of `n`, as the kernel computes it. -/
def wrapped (n w : BitVec 32) : BitVec 32 :=
  Scalar.select
    (IntOp.andi
      (IntOp.xori (IntOp.cmpi .slt (IntOp.remsi ArithUnit.vector w (Scalar.select (Scalar.cmpi .eq n 0#32) 1#32 n)) 0#32)
        (Scalar.cmpi .slt (Scalar.select (Scalar.cmpi .eq n 0#32) 1#32 n) 0#32))
      (IntOp.cmpi .ne (IntOp.remsi ArithUnit.vector w (Scalar.select (Scalar.cmpi .eq n 0#32) 1#32 n)) 0#32))
    (IntOp.addi (IntOp.remsi ArithUnit.vector w (Scalar.select (Scalar.cmpi .eq n 0#32) 1#32 n)) (Scalar.select (Scalar.cmpi .eq n 0#32) 1#32 n))
    (IntOp.remsi ArithUnit.vector w (Scalar.select (Scalar.cmpi .eq n 0#32) 1#32 n))

theorem wrapped_128 (r : Fin 256) : wrapped 128#32 (BitVec.ofNat 32 r.val) = BitVec.ofNat 32 (r.val % 128) := by revert r; decide

theorem wrapped_256 (r : Fin 512) : wrapped 256#32 (BitVec.ofNat 32 r.val) = BitVec.ofNat 32 (r.val % 256) := by revert r; decide

theorem sub_word (b m : ℕ) (hb : b < 256) (hm : m < 256) :
    IntOp.subi (BitVec.ofNat 32 b) (BitVec.ofNat 32 m) = IntOp.subi (BitVec.ofNat 32 (b + 256 - m)) 256#32 := by
  show BitVec.ofNat 32 b - BitVec.ofNat 32 m = BitVec.ofNat 32 (b + 256 - m) - 256#32
  apply BitVec.eq_of_toNat_eq
  simp only [BitVec.toNat_sub, BitVec.toNat_ofNat]
  omega

theorem near_64 (D : Fin 512) : near (IntOp.addi (IntOp.subi (BitVec.ofNat 32 D.val) 256#32) 4294967232#32) = if 256 ≤ D.val ∧ D.val ≤ 384 then 1#1 else 0#1 := by
  revert D; decide

theorem near_0 (D : Fin 512) : near (IntOp.addi (IntOp.subi (BitVec.ofNat 32 D.val) 256#32) 0#32) = if 192 ≤ D.val ∧ D.val ≤ 320 then 1#1 else 0#1 := by
  revert D; decide

theorem near_128 (D : Fin 512) : near (IntOp.addi (IntOp.subi (BitVec.ofNat 32 D.val) 256#32) 4294967168#32) = if 320 ≤ D.val ∧ D.val ≤ 448 then 1#1 else 0#1 := by
  revert D; decide

theorem near_plain (D : Fin 512) : near (IntOp.subi (BitVec.ofNat 32 D.val) 256#32) = if 192 ≤ D.val ∧ D.val ≤ 320 then 1#1 else 0#1 := by
  revert D; decide

theorem mask_value : (Named.named κ "mask" 4048155338#32 : Ideal .f32) = (⊥ : EReal) := rfl

theorem select_if {p q : Prop} [Decidable p] [Decidable q] (h : p ↔ q) (x y : EReal) :
    Scalar.select (if p then 1#1 else 0#1) x y = if q then x else y := by
  by_cases hp : p
  · rw [if_pos hp, if_pos (h.1 hp)]; rfl
  · rw [if_neg hp, if_neg fun hq => hp (h.2 hq)]; rfl

theorem table_0 (r b : Fin 256) : (k0_pay40 (F := Ideal)) (ix3 0 r b) = slab 0 r b := by
  have h : (k0_pay40 (F := Ideal)) (ix3 0 r b) = Scalar.select
      (near (IntOp.addi (IntOp.subi (BitVec.ofNat 32 b.val) (wrapped 128#32 (BitVec.ofNat 32 r.val))) 4294967232#32)) (0 : EReal) ⊥ := by
    pointwise [k0_pay40, k0_pay38, k0_pay39, k0_pay41, k0_pay37]; rfl
  rw [h, wrapped_128, sub_word _ _ b.isLt (by omega), near_64 ⟨b.val + 256 - r.val % 128, by omega⟩]
  exact select_if (by rw [show lag 0 = 64 from rfl]; simp only; omega) _ _

theorem table_1 (r b : Fin 256) :
    (k0_pay42 k0_pay41 (FloatOps.ofBits (F := Ideal) .f32 0#32) (Named.named κ "mask" 4048155338#32)) (ix3 0 r b) = slab 1 r b := by
  have h : (k0_pay42 k0_pay41 (FloatOps.ofBits (F := Ideal) .f32 0#32) (Named.named κ "mask" 4048155338#32)) (ix3 0 r b) = Scalar.select
      (near (IntOp.addi (IntOp.subi (BitVec.ofNat 32 b.val) (wrapped 128#32 (BitVec.ofNat 32 r.val))) 0#32)) (0 : EReal) ⊥ := by
    pointwise [k0_pay42, k0_pay39, k0_pay41]; rfl
  rw [h, wrapped_128, sub_word _ _ b.isLt (by omega), near_0 ⟨b.val + 256 - r.val % 128, by omega⟩]
  exact select_if (by rw [show lag 1 = 0 from rfl]; simp only; omega) _ _

theorem table_2 (r b : Fin 256) : (k0_pay43 (F := Ideal) k0_pay39) (ix3 0 r b) = slab 2 r b := by
  have h : (k0_pay43 (F := Ideal) k0_pay39) (ix3 0 r b) = Scalar.select
      (near (IntOp.addi (IntOp.subi (BitVec.ofNat 32 b.val) (wrapped 128#32 (BitVec.ofNat 32 r.val))) 4294967168#32)) (0 : EReal) ⊥ := by
    pointwise [k0_pay43, k0_pay39]; rfl
  rw [h, wrapped_128, sub_word _ _ b.isLt (by omega), near_128 ⟨b.val + 256 - r.val % 128, by omega⟩]
  exact select_if (by rw [show lag 2 = 128 from rfl]; simp only; omega) _ _

theorem table_whole (r : Fin 512) (b : Fin 256) : (k0_pay46 (F := Ideal) k0_pay44 k0_pay45) (ix2 r b) = wholeSlab r b := by
  have h : (k0_pay46 (F := Ideal) k0_pay44 k0_pay45) (ix2 r b) = Scalar.select
      (near (IntOp.subi (BitVec.ofNat 32 b.val) (wrapped 256#32 (BitVec.ofNat 32 r.val)))) (0 : EReal) ⊥ := by
    pointwise [k0_pay46, k0_pay44, k0_pay45]; rfl
  rw [h, wrapped_256, sub_word _ _ b.isLt (by omega), near_plain ⟨b.val + 256 - r.val % 256, by omega⟩]
  exact select_if (by simp only; omega) _ _

end Cert.KernelIdeal.Tiles

end
-- ==== Proof.Finish.lean ====
/- What the last loop stores: the accumulated gradients of queries and keys turned back through the rotary
   encoding, and the gradient of the values as it is. -/
module

public import proofs.«01_k».proof.Proof.Bias

@[expose] public section

set_option maxRecDepth 16384

noncomputable section

namespace Cert.Attention

/-- Eight lanes before, around the 128. -/
def back (c : Fin 128) : Fin 128 := ⟨(c.val + 128 - 8) % 128, Nat.mod_lt _ (by decide)⟩

/-- Eight lanes after, around the 128. -/
def ahead (c : Fin 128) : Fin 128 := ⟨(c.val + 128 - 120) % 128, Nat.mod_lt _ (by decide)⟩

/-- The gradient `D` turned back through the rotary encoding: of each head's 64 columns the first 16 are turned, the
    first eight with the next eight. -/
def turned {α : Type} (C S D : α → Fin 128 → EReal) (y : α) (c : Fin 128) : EReal :=
  (if c.val % 64 < 16 then C y c else 1) * D y c
    + (if (back c).val % 64 < 8 then (0 - S y (back c)) * D y (back c) else 0)
    + (if 8 ≤ (ahead c).val % 64 ∧ (ahead c).val % 64 < 16 then S y (ahead c) * D y (ahead c) else 0)

theorem turned_rows {α β : Type} {C S D : α → Fin 128 → EReal} {C1 S1 D1 : β → Fin 128 → EReal} (f : α → β) (hC : ∀ r x, C r x = C1 (f r) x)
    (hS : ∀ r x, S r x = S1 (f r) x) (hD : ∀ r x, D r x = D1 (f r) x) (r : α) (x : Fin 128) : turned C S D r x = turned C1 S1 D1 (f r) x := by
  unfold turned; simp only [hC, hS, hD]

/-- The three gradients as the kernel stores them. -/
def stored (C S Q K V : Fin 4096 → Fin 128 → EReal) (g : Fin 3) (y : Fin 4096) (c : Fin 128) : EReal :=
  if g = 0 then turned C S Q y c else if g = 1 then turned C S K y c else V y c

end Cert.Attention

namespace Cert.KernelIdeal.Tiles

open Idealize.ShloMosaic Cert.KernelIdeal.Gen Cert.Attention

theorem below_16 (n : Fin 128) : IntOp.cmpi .slt (wrapped 64#32 (BitVec.ofNat 32 n.val)) 16#32 = if n.val % 64 < 16 then 1#1 else 0#1 := by
  revert n; decide

theorem below_8 (n : Fin 128) : IntOp.cmpi .slt (wrapped 64#32 (BitVec.ofNat 32 n.val)) 8#32 = if n.val % 64 < 8 then 1#1 else 0#1 := by
  revert n; decide

theorem between_8_16 (n : Fin 128) : IntOp.andi (IntOp.cmpi .sge (wrapped 64#32 (BitVec.ofNat 32 n.val)) 8#32) (IntOp.cmpi .slt (wrapped 64#32 (BitVec.ofNat 32 n.val)) 16#32)
    = if 8 ≤ n.val % 64 ∧ n.val % 64 < 16 then 1#1 else 0#1 := by
  revert n; decide

theorem select_of (p : Prop) [Decidable p] (x y : EReal) : Scalar.select (if p then 1#1 else 0#1) x y = if p then x else y :=
  select_if Iff.rfl x y

/-- The gradient of the queries, as stored. -/
theorem turned_queries (D C S : Vec Ideal S512x128 .f32) (r : Fin 512) (c : Fin 128) :
    (k0_pay35 (F := Ideal) D (k0_pay30 S) (k0_pay32 C) (k0_pay33 S) k0_pay34) (ix3 0 r c)
      = turned (fun r c => C (ix2 r c)) (fun r c => S (ix2 r c)) (fun r c => D (ix2 r c)) r c := by
  have h : (k0_pay35 (F := Ideal) D (k0_pay30 S) (k0_pay32 C) (k0_pay33 S) k0_pay34) (ix3 0 r c)
      = Scalar.select (IntOp.cmpi .slt (wrapped 64#32 (BitVec.ofNat 32 c.val)) 16#32) (C (ix2 r c)) 1 * D (ix2 r c)
        + Scalar.select (IntOp.cmpi .slt (wrapped 64#32 (BitVec.ofNat 32 (back c).val)) 8#32) ((0 - S (ix2 r (back c))) * D (ix2 r (back c))) 0
        + Scalar.select (IntOp.andi (IntOp.cmpi .sge (wrapped 64#32 (BitVec.ofNat 32 (ahead c).val)) 8#32) (IntOp.cmpi .slt (wrapped 64#32 (BitVec.ofNat 32 (ahead c).val)) 16#32))
            (S (ix2 r (ahead c)) * D (ix2 r (ahead c))) 0 := by
    pointwise [k0_pay35, k0_pay30, k0_pay32, k0_pay33, k0_pay34, k0_pay31]; rfl
  rw [h, below_16, below_8, between_8_16, select_of, select_of, select_of]; rfl

/-- The gradient of the keys, as stored. -/
theorem turned_keys (D C S : Vec Ideal S512x128 .f32) (r : Fin 512) (c : Fin 128) :
    (k0_pay1 (F := Ideal) D (k0_pay36 S) k0_pay37 (k0_pay38 C)) (ix3 0 r c)
      = turned (fun r c => C (ix2 r c)) (fun r c => S (ix2 r c)) (fun r c => D (ix2 r c)) r c := by
  have h : (k0_pay1 (F := Ideal) D (k0_pay36 S) k0_pay37 (k0_pay38 C)) (ix3 0 r c)
      = Scalar.select (IntOp.cmpi .slt (wrapped 64#32 (BitVec.ofNat 32 c.val)) 16#32) (C (ix2 r c)) 1 * D (ix2 r c)
        + Scalar.select (IntOp.cmpi .slt (wrapped 64#32 (BitVec.ofNat 32 (back c).val)) 8#32) ((0 - S (ix2 r (back c))) * D (ix2 r (back c))) 0
        + Scalar.select (IntOp.andi (IntOp.cmpi .sge (wrapped 64#32 (BitVec.ofNat 32 (ahead c).val)) 8#32) (IntOp.cmpi .slt (wrapped 64#32 (BitVec.ofNat 32 (ahead c).val)) 16#32))
            (S (ix2 r (ahead c)) * D (ix2 r (ahead c))) 0 := by
    pointwise [k0_pay1, k0_pay36, k0_pay38, k0_pay37]; rfl
  rw [h, below_16, below_8, between_8_16, select_of, select_of, select_of]; rfl

/-- The gradient of the values, as stored. -/
theorem plain_values (D : Vec Ideal S512x128 .f32) (r : Fin 512) (c : Fin 128) : (k0_pay2 (F := Ideal) D) (ix3 0 r c) = D (ix2 r c) := by
  pointwise [k0_pay2]

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (c0 : BitVec 32) (X4 : BufTy.Contents (Elt Ideal) arg4.view.ty) (X5 : BufTy.Contents (Elt Ideal) arg5.view.ty) (X10 : BufTy.Contents (Elt Ideal) arg10.view.ty) (X11 : BufTy.Contents (Elt Ideal) arg11.view.ty) (X12 : BufTy.Contents (Elt Ideal) arg12.view.ty)

/-- Row `r` of chunk `k`. -/
def chunkRow (k : Fin k0_t4_loop.trips) (r : Fin 512) : Fin 4096 :=
  ⟨512 * k.val + r.val, by have := k.isLt; have : k0_t4_loop.trips = 8 := by decide
                           omega⟩

theorem readAt_chunk (v : View sig .tc .vmem S4096x128 .f32) (f : v.ty.Contents (Elt Ideal)) (k : Fin k0_t4_loop.trips) (r : Fin 512) (x : Fin 128) :
    v.readAt (Elt Ideal) (Rect.unit (s := S4096x128) (k0_off8 k) S512x128.size (k0_off8_inb k)).toLoadRect f (ix2 r x)
      = v.read (Elt Ideal) f (ix2 (chunkRow k r) x) :=
  readAt_rows v f (k0_off8 k) (fun _ => 1) _ (fun _ => Nat.one_pos) (chunkRow k) (fun a => by rw [off8]; show 512 * k.val + 1 * a.val = 512 * k.val + a.val; omega)
    (by rw [off8]; rfl) rfl r x

/-- The pieces a chunk stores. -/
theorem chunk_pieces (k : Fin k0_t4_loop.trips) :
    tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 c0 X4 X5 X10 X11 X12 k
      = [⟨(Rect.unit (s := S3x4096x128) (k0_off11 k) S1x512x128.size (k0_off11_inb k)), k0_pay2 (View.readAt (Elt Ideal) arg12.view (Rect.unit (s := S4096x128) (k0_off8 k) S512x128.size (k0_off8_inb k)).toLoadRect X12)⟩,
         ⟨(Rect.unit (s := S3x4096x128) (k0_off10 k) S1x512x128.size (k0_off10_inb k)), k0_pay1 (View.readAt (Elt Ideal) arg11.view (Rect.unit (s := S4096x128) (k0_off8 k) S512x128.size (k0_off8_inb k)).toLoadRect X11) (k0_pay36 (View.readAt (Elt Ideal) arg5.view (Rect.unit (s := S4096x128) (k0_off8 k) S512x128.size (k0_off8_inb k)).toLoadRect X5)) k0_pay37 (k0_pay38 (View.readAt (Elt Ideal) arg4.view (Rect.unit (s := S4096x128) (k0_off8 k) S512x128.size (k0_off8_inb k)).toLoadRect X4))⟩,
         ⟨(Rect.unit (s := S3x4096x128) (k0_off9 k) S1x512x128.size (k0_off9_inb k)), k0_pay35 (View.readAt (Elt Ideal) arg10.view (Rect.unit (s := S4096x128) (k0_off8 k) S512x128.size (k0_off8_inb k)).toLoadRect X10) (k0_pay30 (View.readAt (Elt Ideal) arg5.view (Rect.unit (s := S4096x128) (k0_off8 k) S512x128.size (k0_off8_inb k)).toLoadRect X5)) (k0_pay32 (View.readAt (Elt Ideal) arg4.view (Rect.unit (s := S4096x128) (k0_off8 k) S512x128.size (k0_off8_inb k)).toLoadRect X4)) (k0_pay33 (View.readAt (Elt Ideal) arg5.view (Rect.unit (s := S4096x128) (k0_off8 k) S512x128.size (k0_off8_inb k)).toLoadRect X5)) k0_pay34⟩] := by
  unfold tripL_k0_t4 trip_k0_t4; rfl

/-- What the stores of the loop hold at each place of the output block. -/
def finished (j : S3x4096x128.Idx) : EReal :=
  stored (fun y x => arg4.view.read (Elt Ideal) X4 (ix2 y x)) (fun y x => arg5.view.read (Elt Ideal) X5 (ix2 y x)) (fun y x => arg10.view.read (Elt Ideal) X10 (ix2 y x))
    (fun y x => arg11.view.read (Elt Ideal) X11 (ix2 y x)) (fun y x => arg12.view.read (Elt Ideal) X12 (ix2 y x)) (j 0) (j 1) (j 2)

theorem emb_chunk (off : Fin 3 → ℕ) (inb) (g : Fin 3) (k : Fin k0_t4_loop.trips) (h : off = ![g.val, 512 * k.val, 0]) (x : (Rect.unit (s := S3x4096x128) off S1x512x128.size inb).shape.Idx) :
    (Rect.unit (s := S3x4096x128) off S1x512x128.size inb).emb x = ix3 g (chunkRow k (x 1)) (x 2) := by
  subst h
  funext a
  refine Fin.ext ?_
  match a with
  | ⟨0, _⟩ => show g.val + 1 * (x 0).val = g.val; have : (x 0).val < 1 := (x 0).isLt; omega
  | ⟨1, _⟩ => show 512 * k.val + 1 * (x 1).val = 512 * k.val + (x 1).val; omega
  | ⟨2, _⟩ => show 0 + 1 * (x 2).val = (x 2).val; omega

theorem unit_row (x : S1x512x128.Idx) : x = ix3 0 (x 1) (x 2) := by
  funext a
  match a with
  | ⟨0, _⟩ => exact Fin.ext (by have : (x 0).val < 1 := (x 0).isLt; show (x 0).val = 0; omega)
  | ⟨1, _⟩ => rfl
  | ⟨2, _⟩ => rfl

theorem turned_chunk (vC vS vD : View sig .tc .vmem S4096x128 .f32) (fC : vC.ty.Contents (Elt Ideal)) (fS : vS.ty.Contents (Elt Ideal)) (fD : vD.ty.Contents (Elt Ideal))
    (k : Fin k0_t4_loop.trips) (r : Fin 512) (x : Fin 128) :
    turned (fun r x => vC.readAt (Elt Ideal) (Rect.unit (s := S4096x128) (k0_off8 k) S512x128.size (k0_off8_inb k)).toLoadRect fC (ix2 r x)) (fun r x => vS.readAt (Elt Ideal) (Rect.unit (s := S4096x128) (k0_off8 k) S512x128.size (k0_off8_inb k)).toLoadRect fS (ix2 r x))
        (fun r x => vD.readAt (Elt Ideal) (Rect.unit (s := S4096x128) (k0_off8 k) S512x128.size (k0_off8_inb k)).toLoadRect fD (ix2 r x)) r x
      = turned (fun y x => vC.read (Elt Ideal) fC (ix2 y x)) (fun y x => vS.read (Elt Ideal) fS (ix2 y x)) (fun y x => vD.read (Elt Ideal) fD (ix2 y x)) (chunkRow k r) x :=
  turned_rows (chunkRow k) (fun r x => readAt_chunk vC fC k r x) (fun r x => readAt_chunk vS fS k r x) (fun r x => readAt_chunk vD fD k r x) r x

theorem piece_queries (k : Fin k0_t4_loop.trips) (x : (Rect.unit (s := S3x4096x128) (k0_off9 k) S1x512x128.size (k0_off9_inb k)).shape.Idx) :
    k0_pay35 (F := Ideal) (View.readAt (Elt Ideal) arg10.view (Rect.unit (s := S4096x128) (k0_off8 k) S512x128.size (k0_off8_inb k)).toLoadRect X10) (k0_pay30 (View.readAt (Elt Ideal) arg5.view (Rect.unit (s := S4096x128) (k0_off8 k) S512x128.size (k0_off8_inb k)).toLoadRect X5)) (k0_pay32 (View.readAt (Elt Ideal) arg4.view (Rect.unit (s := S4096x128) (k0_off8 k) S512x128.size (k0_off8_inb k)).toLoadRect X4)) (k0_pay33 (View.readAt (Elt Ideal) arg5.view (Rect.unit (s := S4096x128) (k0_off8 k) S512x128.size (k0_off8_inb k)).toLoadRect X5)) k0_pay34 x
      = finished arg4 arg5 arg10 arg11 arg12 X4 X5 X10 X11 X12 ((Rect.unit (s := S3x4096x128) (k0_off9 k) S1x512x128.size (k0_off9_inb k)).emb x) := by
  rw [emb_chunk _ _ 0 k (off9 k)]
  exact (congrArg _ (unit_row x)).trans ((turned_queries _ _ _ (x 1) (x 2)).trans (turned_chunk _ _ _ _ _ _ k (x 1) (x 2)))

theorem piece_keys (k : Fin k0_t4_loop.trips) (x : (Rect.unit (s := S3x4096x128) (k0_off10 k) S1x512x128.size (k0_off10_inb k)).shape.Idx) :
    k0_pay1 (F := Ideal) (View.readAt (Elt Ideal) arg11.view (Rect.unit (s := S4096x128) (k0_off8 k) S512x128.size (k0_off8_inb k)).toLoadRect X11) (k0_pay36 (View.readAt (Elt Ideal) arg5.view (Rect.unit (s := S4096x128) (k0_off8 k) S512x128.size (k0_off8_inb k)).toLoadRect X5)) k0_pay37 (k0_pay38 (View.readAt (Elt Ideal) arg4.view (Rect.unit (s := S4096x128) (k0_off8 k) S512x128.size (k0_off8_inb k)).toLoadRect X4)) x
      = finished arg4 arg5 arg10 arg11 arg12 X4 X5 X10 X11 X12 ((Rect.unit (s := S3x4096x128) (k0_off10 k) S1x512x128.size (k0_off10_inb k)).emb x) := by
  rw [emb_chunk _ _ 1 k (off10 k)]
  exact (congrArg _ (unit_row x)).trans ((turned_keys _ _ _ (x 1) (x 2)).trans (turned_chunk _ _ _ _ _ _ k (x 1) (x 2)))

theorem piece_values (k : Fin k0_t4_loop.trips) (x : (Rect.unit (s := S3x4096x128) (k0_off11 k) S1x512x128.size (k0_off11_inb k)).shape.Idx) :
    k0_pay2 (F := Ideal) (View.readAt (Elt Ideal) arg12.view (Rect.unit (s := S4096x128) (k0_off8 k) S512x128.size (k0_off8_inb k)).toLoadRect X12) x
      = finished arg4 arg5 arg10 arg11 arg12 X4 X5 X10 X11 X12 ((Rect.unit (s := S3x4096x128) (k0_off11 k) S1x512x128.size (k0_off11_inb k)).emb x) := by
  rw [emb_chunk _ _ 2 k (off11 k)]
  exact (congrArg _ (unit_row x)).trans ((plain_values _ (x 1) (x 2)).trans (readAt_chunk _ _ k (x 1) (x 2)))

/-- Every piece of the loop holds what `finished` says. -/
theorem pieces_finished (n : ℕ) (hn : n ≤ k0_t4_loop.trips) : ∀ p ∈ pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 c0 X4 X5 X10 X11 X12 n,
    ∀ x : p.1.shape.Idx, p.2 x = finished arg4 arg5 arg10 arg11 arg12 X4 X5 X10 X11 X12 (p.1.emb x) := by
  induction n with
  | zero => intro p hp; rw [pb_k0_t4.eq_1] at hp; exact absurd hp List.not_mem_nil
  | succ n ih =>
    intro p hp
    rw [pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 c0 X4 X5 X10 X11 X12 ⟨n, hn⟩, chunk_pieces] at hp
    rcases List.mem_append.1 hp with hp | hp
    · rcases List.mem_cons.1 hp with rfl | hp
      · exact piece_values arg4 arg5 arg10 arg11 arg12 X4 X5 X10 X11 X12 ⟨n, hn⟩
      rcases List.mem_cons.1 hp with rfl | hp
      · exact piece_keys arg4 arg5 arg10 arg11 arg12 X4 X5 X10 X11 X12 ⟨n, hn⟩
      rcases List.mem_cons.1 hp with rfl | hp
      · exact piece_queries arg4 arg5 arg10 arg11 arg12 X4 X5 X10 X11 X12 ⟨n, hn⟩
      exact absurd hp List.not_mem_nil
    · exact ih (Nat.le_of_succ_le hn) p hp

end Cert.KernelIdeal.Tiles

end
-- ==== Proof.Block.lean ====
/- What the body leaves in its block of the output: the gradients of the three branches summed, those of queries and keys turned
   back through the rotary encoding. -/
module

public import proofs.«01_k».proof.Proof.Sums
public import proofs.«01_k».proof.Proof.Finish
public import proofs.«01_k».proof.Proof.Run
public import Idealize.ShloMosaic.Lib.WritesUnit

@[expose] public section

set_option maxRecDepth 16384

noncomputable section

namespace Cert.Attention

/-- The gradients summed over the three branches, in the order the kernel adds them. -/
def Rows.sumQueries (R : Rows (Fin 4096) (Fin 4096)) (y : Fin 4096) (x : Fin 128) : EReal := 0 + R.dq 1 y x + R.dq 4 y x + R.dq 16 y x
def Rows.sumKeys (R : Rows (Fin 4096) (Fin 4096)) (y : Fin 4096) (x : Fin 128) : EReal := 0 + R.dk 1 y x + R.dk 4 y x + R.dk 16 y x
def Rows.sumValues (R : Rows (Fin 4096) (Fin 4096)) (y : Fin 4096) (x : Fin 128) : EReal := 0 + R.dv 1 y x + R.dv 4 y x + R.dv 16 y x

end Cert.Attention

namespace Cert.KernelIdeal.Tiles

open Idealize.ShloMosaic Cert.KernelIdeal.Gen Cert.Attention

/-- The rows of one pair of heads, from the blocks of the arguments. -/
def gridRows (x0 x1 x2 x5 x6 x7 : Vec Ideal S4096x128 .f32) : Rows (Fin 4096) (Fin 4096) where
  q y x := x0 (ix2 y x)
  k y x := x1 (ix2 y x)
  v y x := x2 (ix2 y x)
  g y x := x5 (ix2 y x)
  l y x := x6 (ix2 y x)
  e y x := x7 (ix2 y x)

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S3x256x256 .f32) (harg13 : arg13.IsWhole) (arg14 : Memref sig .tc .vmem S512x256 .f32) (harg14 : arg14.IsWhole) (x0 : Vec Ideal S4096x128 .f32) (x1 : Vec Ideal S4096x128 .f32) (x2 : Vec Ideal S4096x128 .f32) (x3 : Vec Ideal S4096x128 .f32) (x4 : Vec Ideal S4096x128 .f32) (x5 : Vec Ideal S4096x128 .f32) (x6 : Vec Ideal S4096x128 .f32) (x7 : Vec Ideal S4096x128 .f32)

/-- The stores of the loop of dilation 1. -/
def stage1 : List (View.Piece (Elt Ideal) S4096x128 .f32) × List (View.Piece (Elt Ideal) S4096x128 .f32) × List (View.Piece (Elt Ideal) S4096x128 .f32) :=
  after1 (F := Ideal) c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk bodyRun.sl.HS0_1) (arg11.view.writes (Elt Ideal) arg11.view.junk bodyRun.sl.HS1_1) (arg12.view.writes (Elt Ideal) arg12.view.junk bodyRun.sl.HS2_1) k0_t1_loop.trips

/-- The stores of the loop of dilation 4. -/
def stage2 : List (View.Piece (Elt Ideal) S4096x128 .f32) × List (View.Piece (Elt Ideal) S4096x128 .f32) × List (View.Piece (Elt Ideal) S4096x128 .f32) :=
  after2 (F := Ideal) c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)) (arg11.view.writes (Elt Ideal) arg11.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)) (arg12.view.writes (Elt Ideal) arg12.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)) k0_t2_loop.trips

/-- The stores of the loop of dilation 16. -/
def stage3 : List (View.Piece (Elt Ideal) S4096x128 .f32) × List (View.Piece (Elt Ideal) S4096x128 .f32) × List (View.Piece (Elt Ideal) S4096x128 .f32) :=
  after3 (F := Ideal) c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg14.view.writes (Elt Ideal) arg14.view.junk bodyRun.sl.HS4_1) (arg10.view.writes (Elt Ideal) arg10.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1))) (arg11.view.writes (Elt Ideal) arg11.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1))) (arg12.view.writes (Elt Ideal) arg12.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1))) k0_t3_loop.trips

set_option maxHeartbeats 1000000 in
theorem bodyRun_pieces : (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1
    = pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (0#32) (harg4.unread x3) (harg5.unread x4) (arg10.view.writes (Elt Ideal) arg10.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)))) (arg11.view.writes (Elt Ideal) arg11.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)))) (arg12.view.writes (Elt Ideal) arg12.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)))) k0_t4_loop.trips := rfl

theorem rows_of : (blockRows arg1 arg2 arg3 arg6 arg7 arg8 (harg1.unread x0) (harg2.unread x1) (harg3.unread x2) (harg6.unread x5) (harg7.unread x6) (harg8.unread x7)) = (gridRows x0 x1 x2 x5 x6 x7) := by
  unfold blockRows gridRows
  simp only [Memref.IsWhole.read_unread]

theorem emb_slab (n : ℕ) (j : Fin 3) (hj : j.val = n) (inb) (x : (Rect.unit (s := S3x256x256) ![n, 0, 0] S1x256x256.size inb).shape.Idx) :
    (Rect.unit (s := S3x256x256) ![n, 0, 0] S1x256x256.size inb).emb x = ix3 j (x 1) (x 2) := by
  funext a
  refine Fin.ext ?_
  match a with
  | ⟨0, _⟩ => show n + 1 * (x 0).val = j.val; have : (x 0).val < 1 := (x 0).isLt; omega
  | ⟨1, _⟩ => show 0 + 1 * (x 1).val = (x 1).val; omega
  | ⟨2, _⟩ => show 0 + 1 * (x 2).val = (x 2).val; omega

theorem read_slab (v : View sig .tc .vmem S3x256x256 .f32) (f : v.ty.Contents (Elt Ideal)) (n : ℕ) (j : Fin 3) (hj : j.val = n) (inb)
    (w : (Rect.unit (s := S3x256x256) ![n, 0, 0] S1x256x256.size inb).shape.Idx → Elt Ideal .f32) (L : List (View.Piece (Elt Ideal) S3x256x256 .f32))
    (x : (Rect.unit (s := S3x256x256) ![n, 0, 0] S1x256x256.size inb).shape.Idx) :
    v.read (Elt Ideal) (v.writes (Elt Ideal) f (⟨Rect.unit (s := S3x256x256) ![n, 0, 0] S1x256x256.size inb, w⟩ :: L)) (ix3 j (x 1) (x 2)) = w x := by
  refine (congrArg (v.read (Elt Ideal) (v.writes (Elt Ideal) f (⟨Rect.unit (s := S3x256x256) ![n, 0, 0] S1x256x256.size inb, w⟩ :: L))) (emb_slab n j hj inb x).symm).trans ?_
  exact View.read_writes_cons_emb v f _ w L x

theorem skip_slab (v : View sig .tc .vmem S3x256x256 .f32) (f : v.ty.Contents (Elt Ideal)) (n : ℕ) (j : Fin 3) (hj : j.val < n) (inb)
    (w : (Rect.unit (s := S3x256x256) ![n, 0, 0] S1x256x256.size inb).shape.Idx → Elt Ideal .f32) (L : List (View.Piece (Elt Ideal) S3x256x256 .f32)) (r b : Fin 256) :
    v.read (Elt Ideal) (v.writes (Elt Ideal) f (⟨Rect.unit (s := S3x256x256) ![n, 0, 0] S1x256x256.size inb, w⟩ :: L)) (ix3 j r b)
      = v.read (Elt Ideal) (v.writes (Elt Ideal) f L) (ix3 j r b) :=
  View.read_writes_cons_unit_of_not_mem (s := S3x256x256) v f inb w L (ix3 j r b) rfl (0 : Fin 3) (Or.inl hj)

theorem emb_whole {n m : ℕ} (inb) (x : (Rect.unit (s := ⟨2, ![n, m]⟩) ![0, 0] ![n, m] inb).shape.Idx) :
    (Rect.unit (s := ⟨2, ![n, m]⟩) ![0, 0] ![n, m] inb).emb x = ix2 (x 0) (x 1) := by
  funext a
  refine Fin.ext ?_
  match a with
  | ⟨0, _⟩ => show 0 + 1 * (x 0).val = (x 0).val; omega
  | ⟨1, _⟩ => show 0 + 1 * (x 1).val = (x 1).val; omega

theorem read_whole {n m : ℕ} (v : View sig .tc .vmem ⟨2, ![n, m]⟩ .f32) (f : v.ty.Contents (Elt Ideal)) (inb)
    (w : (Rect.unit (s := ⟨2, ![n, m]⟩) ![0, 0] ![n, m] inb).shape.Idx → Elt Ideal .f32) (x : (Rect.unit (s := ⟨2, ![n, m]⟩) ![0, 0] ![n, m] inb).shape.Idx) :
    v.read (Elt Ideal) (v.writes (Elt Ideal) f [⟨Rect.unit (s := ⟨2, ![n, m]⟩) ![0, 0] ![n, m] inb, w⟩]) (ix2 (x 0) (x 1)) = w x := by
  refine (congrArg (v.read (Elt Ideal) (v.writes (Elt Ideal) f [⟨Rect.unit (s := ⟨2, ![n, m]⟩) ![0, 0] ![n, m] inb, w⟩])) (emb_whole inb x).symm).trans ?_
  exact View.read_writes_cons_emb v f _ w [] x

theorem tables (j : Fin 3) (r b : Fin 256) : arg13.view.read (Elt Ideal) (arg13.view.writes (Elt Ideal) arg13.view.junk bodyRun.sl.HS3_3) (ix3 j r b) = slab j r b := by
  unfold bodyRun.sl.HS3_3
  match j with
  | ⟨0, _⟩ =>
    exact (skip_slab arg13.view _ 2 0 (by decide) _ _ _ r b).trans ((skip_slab arg13.view _ 1 0 (by decide) _ _ _ r b).trans
      ((read_slab arg13.view _ 0 0 rfl _ _ _ (ix3 0 r b)).trans (table_0 r b)))
  | ⟨1, _⟩ =>
    exact (skip_slab arg13.view _ 2 1 (by decide) _ _ _ r b).trans ((read_slab arg13.view _ 1 1 rfl _ _ _ (ix3 0 r b)).trans (table_1 r b))
  | ⟨2, _⟩ => exact (read_slab arg13.view _ 2 2 rfl _ _ _ (ix3 0 r b)).trans (table_2 r b)

theorem whole_table (r : Fin 512) (b : Fin 256) : arg14.view.read (Elt Ideal) (arg14.view.writes (Elt Ideal) arg14.view.junk bodyRun.sl.HS4_1) (ix2 r b) = wholeSlab r b := by
  unfold bodyRun.sl.HS4_1
  exact (read_whole arg14.view _ _ _ (ix2 r b)).trans (table_whole r b)

theorem zero_queries (y : Fin 4096) (x : Fin 128) : arg10.view.read (Elt Ideal) (arg10.view.writes (Elt Ideal) arg10.view.junk bodyRun.sl.HS0_1) (ix2 y x) = 0 := by
  unfold bodyRun.sl.HS0_1
  exact (read_whole arg10.view _ _ _ (ix2 y x)).trans (show k0_pay47 (F := Ideal) (ix2 y x) = 0 by pointwise [k0_pay47])

theorem sum_queries (y : Fin 4096) (x : Fin 128) : arg10.view.read (Elt Ideal) (arg10.view.writes (Elt Ideal) arg10.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)))) (ix2 y x) = (gridRows x0 x1 x2 x5 x6 x7).sumQueries y x := by
  rw [← rows_of arg1 harg1 arg2 harg2 arg3 harg3 arg6 harg6 arg7 harg7 arg8 harg8]
  have h0 := zero_queries arg10 y x
  have h1 := loop1_queries c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk bodyRun.sl.HS0_1) (arg11.view.writes (Elt Ideal) arg11.view.junk bodyRun.sl.HS1_1) (arg12.view.writes (Elt Ideal) arg12.view.junk bodyRun.sl.HS2_1) (tables arg13) y x
  have h2 := loop4_queries c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)) (arg11.view.writes (Elt Ideal) arg11.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)) (arg12.view.writes (Elt Ideal) arg12.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)) (tables arg13) y x
  have h3 := loop16_queries c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg14.view.writes (Elt Ideal) arg14.view.junk bodyRun.sl.HS4_1) (arg10.view.writes (Elt Ideal) arg10.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1))) (arg11.view.writes (Elt Ideal) arg11.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1))) (arg12.view.writes (Elt Ideal) arg12.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1))) (whole_table arg14) y x
  have e (f : arg10.view.ty.Contents (Elt Ideal)) (L M : List (View.Piece (Elt Ideal) S4096x128 .f32)) :
      arg10.view.read (Elt Ideal) (arg10.view.writes (Elt Ideal) f (L ++ M)) (ix2 y x) = arg10.view.read (Elt Ideal) (arg10.view.writes (Elt Ideal) (arg10.view.writes (Elt Ideal) f M) L) (ix2 y x) :=
    congrArg (fun f => arg10.view.read (Elt Ideal) f (ix2 y x)) (View.writes_append ..)
  rw [h0] at h1
  have h11 := (e _ _ _).trans h1
  have h22 := (e _ _ _).trans (h2.trans (congrArg (· + _) h11))
  exact (e _ _ _).trans (h3.trans (congrArg (· + _) h22))

theorem zero_keys (y : Fin 4096) (x : Fin 128) : arg11.view.read (Elt Ideal) (arg11.view.writes (Elt Ideal) arg11.view.junk bodyRun.sl.HS1_1) (ix2 y x) = 0 := by
  unfold bodyRun.sl.HS1_1
  exact (read_whole arg11.view _ _ _ (ix2 y x)).trans (show k0_pay48 (F := Ideal) (ix2 y x) = 0 by pointwise [k0_pay48])

theorem sum_keys (y : Fin 4096) (x : Fin 128) : arg11.view.read (Elt Ideal) (arg11.view.writes (Elt Ideal) arg11.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)))) (ix2 y x) = (gridRows x0 x1 x2 x5 x6 x7).sumKeys y x := by
  rw [← rows_of arg1 harg1 arg2 harg2 arg3 harg3 arg6 harg6 arg7 harg7 arg8 harg8]
  have h0 := zero_keys arg11 y x
  have h1 := loop1_keys c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk bodyRun.sl.HS0_1) (arg11.view.writes (Elt Ideal) arg11.view.junk bodyRun.sl.HS1_1) (arg12.view.writes (Elt Ideal) arg12.view.junk bodyRun.sl.HS2_1) (tables arg13) y x
  have h2 := loop4_keys c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)) (arg11.view.writes (Elt Ideal) arg11.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)) (arg12.view.writes (Elt Ideal) arg12.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)) (tables arg13) y x
  have h3 := loop16_keys c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg14.view.writes (Elt Ideal) arg14.view.junk bodyRun.sl.HS4_1) (arg10.view.writes (Elt Ideal) arg10.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1))) (arg11.view.writes (Elt Ideal) arg11.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1))) (arg12.view.writes (Elt Ideal) arg12.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1))) (whole_table arg14) y x
  have e (f : arg11.view.ty.Contents (Elt Ideal)) (L M : List (View.Piece (Elt Ideal) S4096x128 .f32)) :
      arg11.view.read (Elt Ideal) (arg11.view.writes (Elt Ideal) f (L ++ M)) (ix2 y x) = arg11.view.read (Elt Ideal) (arg11.view.writes (Elt Ideal) (arg11.view.writes (Elt Ideal) f M) L) (ix2 y x) :=
    congrArg (fun f => arg11.view.read (Elt Ideal) f (ix2 y x)) (View.writes_append ..)
  rw [h0] at h1
  have h11 := (e _ _ _).trans h1
  have h22 := (e _ _ _).trans (h2.trans (congrArg (· + _) h11))
  exact (e _ _ _).trans (h3.trans (congrArg (· + _) h22))

theorem zero_values (y : Fin 4096) (x : Fin 128) : arg12.view.read (Elt Ideal) (arg12.view.writes (Elt Ideal) arg12.view.junk bodyRun.sl.HS2_1) (ix2 y x) = 0 := by
  unfold bodyRun.sl.HS2_1
  exact (read_whole arg12.view _ _ _ (ix2 y x)).trans (show k0_pay49 (F := Ideal) (ix2 y x) = 0 by pointwise [k0_pay49])

theorem sum_values (y : Fin 4096) (x : Fin 128) : arg12.view.read (Elt Ideal) (arg12.view.writes (Elt Ideal) arg12.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)))) (ix2 y x) = (gridRows x0 x1 x2 x5 x6 x7).sumValues y x := by
  rw [← rows_of arg1 harg1 arg2 harg2 arg3 harg3 arg6 harg6 arg7 harg7 arg8 harg8]
  have h0 := zero_values arg12 y x
  have h1 := loop1_values c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk bodyRun.sl.HS0_1) (arg11.view.writes (Elt Ideal) arg11.view.junk bodyRun.sl.HS1_1) (arg12.view.writes (Elt Ideal) arg12.view.junk bodyRun.sl.HS2_1) (tables arg13) y x
  have h2 := loop4_values c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg13.view.writes (Elt Ideal) arg13.view.junk bodyRun.sl.HS3_3) (arg10.view.writes (Elt Ideal) arg10.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)) (arg11.view.writes (Elt Ideal) arg11.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)) (arg12.view.writes (Elt Ideal) arg12.view.junk ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)) (tables arg13) y x
  have h3 := loop16_values c i arg1 harg1 arg2 harg2 arg3 harg3 arg4 harg4 arg5 harg5 arg6 harg6 arg7 harg7 arg8 harg8 arg9 harg9 arg10 harg10 arg11 harg11 arg12 harg12 arg13 harg13 arg14 harg14 k0_pay44 k0_pay45 (harg1.unread x0) (harg2.unread x1) (harg3.unread x2) (harg6.unread x5) (harg7.unread x6) (harg8.unread x7) (arg14.view.writes (Elt Ideal) arg14.view.junk bodyRun.sl.HS4_1) (arg10.view.writes (Elt Ideal) arg10.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1))) (arg11.view.writes (Elt Ideal) arg11.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1))) (arg12.view.writes (Elt Ideal) arg12.view.junk ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1))) (whole_table arg14) y x
  have e (f : arg12.view.ty.Contents (Elt Ideal)) (L M : List (View.Piece (Elt Ideal) S4096x128 .f32)) :
      arg12.view.read (Elt Ideal) (arg12.view.writes (Elt Ideal) f (L ++ M)) (ix2 y x) = arg12.view.read (Elt Ideal) (arg12.view.writes (Elt Ideal) (arg12.view.writes (Elt Ideal) f M) L) (ix2 y x) :=
    congrArg (fun f => arg12.view.read (Elt Ideal) f (ix2 y x)) (View.writes_append ..)
  rw [h0] at h1
  have h11 := (e _ _ _).trans h1
  have h22 := (e _ _ _).trans (h2.trans (congrArg (· + _) h11))
  exact (e _ _ _).trans (h3.trans (congrArg (· + _) h22))

/-- The block of the output the body leaves. -/
theorem block_value (v : View sig .tc .vmem S3x4096x128 .bf16) (f : v.ty.Contents (Elt Ideal)) (g : Fin 3) (y : Fin 4096) (x : Fin 128) :
    v.read (Elt Ideal) (v.writes (Elt Ideal) f (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1) (ix3 g y x)
      = stored (fun y x => x3 (ix2 y x)) (fun y x => x4 (ix2 y x)) (gridRows x0 x1 x2 x5 x6 x7).sumQueries (gridRows x0 x1 x2 x5 x6 x7).sumKeys (gridRows x0 x1 x2 x5 x6 x7).sumValues g y x := by
  have hp := pieces_finished c i arg1 harg1 arg2 harg2 arg3 harg3 arg4 harg4 arg5 harg5 arg6 harg6 arg7 harg7 arg8 harg8 arg9 harg9 arg10 harg10 arg11 harg11 arg12 harg12 arg13 harg13 arg14 harg14 (0#32) (harg4.unread x3) (harg5.unread x4) (arg10.view.writes (Elt Ideal) arg10.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).1 ++ bodyRun.sl.HS0_1)))) (arg11.view.writes (Elt Ideal) arg11.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.1 ++ bodyRun.sl.HS1_1)))) (arg12.view.writes (Elt Ideal) arg12.view.junk ((stage3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ ((stage1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x5 x6 x7).2.2 ++ bodyRun.sl.HS2_1)))) k0_t4_loop.trips le_rfl
  rw [← bodyRun_pieces] at hp
  refine (View.read_writes_apply_of_pieces v f _ _ hp (ix3 g y x) (covered c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _)).trans ?_
  unfold finished
  rw [harg4.read_unread, harg5.read_unread]
  show stored _ _ _ _ _ g y x = _
  congr 1
  · funext y x; exact sum_queries c i arg1 harg1 arg2 harg2 arg3 harg3 arg4 harg4 arg5 harg5 arg6 harg6 arg7 harg7 arg8 harg8 arg9 harg9 arg10 harg10 arg11 harg11 arg12 harg12 arg13 harg13 arg14 harg14 (x0 := x0) (x1 := x1) (x2 := x2) (x5 := x5) (x6 := x6) (x7 := x7) y x
  · funext y x; exact sum_keys c i arg1 harg1 arg2 harg2 arg3 harg3 arg4 harg4 arg5 harg5 arg6 harg6 arg7 harg7 arg8 harg8 arg9 harg9 arg10 harg10 arg11 harg11 arg12 harg12 arg13 harg13 arg14 harg14 (x0 := x0) (x1 := x1) (x2 := x2) (x5 := x5) (x6 := x6) (x7 := x7) y x
  · funext y x; exact sum_values c i arg1 harg1 arg2 harg2 arg3 harg3 arg4 harg4 arg5 harg5 arg6 harg6 arg7 harg7 arg8 harg8 arg9 harg9 arg10 harg10 arg11 harg11 arg12 harg12 arg13 harg13 arg14 harg14 (x0 := x0) (x1 := x1) (x2 := x2) (x5 := x5) (x6 := x6) (x7 := x7) y x

end Cert.KernelIdeal.Tiles

end
-- ==== Proof.Whole.lean ====
module
public import proofs.«01_k».proof.Proof.Block
public import Idealize.ShloMosaic.Lib.Pipeline.ValueKit
@[expose] public section

/-!
  From the blocks to the whole result.  Each of the four steps reads the columns of one pair of heads and writes that
  pair's 128 columns of the result, so the result array is given, column by column, by the rows of the column's pair.
-/

set_option maxRecDepth 16384
noncomputable section
namespace Cert.KernelIdeal.Tiles
open Idealize.ShloMosaic Idealize.ShloMosaic.StableHlo Idealize.ShloMosaic.TcCoe Idealize.SL.Sem Cert.KernelIdeal.Gen Cert.Attention Idealize.ShloMosaic.Pipeline
variable (m : (ℓ : Loc nD τ sig) → Buf (Elt Ideal) ℓ) (c : Dev nD)

/-- The rows of a pair of heads, read from the arrays the region starts with. -/
def pairRows (g : Fin 4) : Rows (Fin 4096) (Fin 4096) where
  q y x := V m c main_v100 (ix2 y ⟨128 * g.val + x.val, by omega⟩)
  k y x := V m c main_v100 (ix2 y ⟨512 + 128 * g.val + x.val, by omega⟩)
  v y x := V m c main_v100 (ix2 y ⟨1024 + 128 * g.val + x.val, by omega⟩)
  g y x := V m c main_arg5 (ix2 y ⟨128 * g.val + x.val, by omega⟩)
  l y x := V m c main_v108 (ix2 y ⟨128 * g.val + x.val, by omega⟩)
  e y x := V m c main_v111 (ix2 y ⟨128 * g.val + x.val, by omega⟩)

/-- The result at one index. -/
def finalAt (s : Fin 3) (y : Fin 4096) (z : Fin 512) : EReal :=
  stored (fun y x => V m c main_v102 (ix2 y x)) (fun y x => V m c main_v104 (ix2 y x))
    (pairRows m c ⟨z.val / 128, by omega⟩).sumQueries (pairRows m c ⟨z.val / 128, by omega⟩).sumKeys
    (pairRows m c ⟨z.val / 128, by omega⟩).sumValues s y ⟨z.val % 128, by omega⟩

def final : FVec Ideal S3x4096x512 .bf16 := fun i => finalAt m c (i 0) (i 1) (i 2)

/-- Where the blocks of each array lie. -/
theorem idx : ∀ t : Fin grid0.N, win0_0.index t = ![0, t.val] ∧ win0_1.index t = ![0, 4 + t.val] ∧ win0_2.index t = ![0, 8 + t.val] ∧ win0_3.index t = ![0, 0] ∧ win0_4.index t = ![0, 0] ∧ win0_5.index t = ![0, t.val] ∧ win0_6.index t = ![0, t.val] ∧ win0_7.index t = ![0, t.val] ∧ win0_8.index t = ![0, 0, t.val] := by
  decide +kernel

theorem block_0 (t : Fin cfg0.N) (y : Fin 4096) (x : Fin 128) (h) : iblk m c 0 t (ix2 y x) = V m c main_v100 (ix2 y ⟨128 * t.val + x.val, h⟩) := by
  blk_ext [iblk, V, idx t]

theorem block_1 (t : Fin cfg0.N) (y : Fin 4096) (x : Fin 128) (h) : iblk m c 1 t (ix2 y x) = V m c main_v100 (ix2 y ⟨512 + 128 * t.val + x.val, h⟩) := by
  blk_ext [iblk, V, idx t]

theorem block_2 (t : Fin cfg0.N) (y : Fin 4096) (x : Fin 128) (h) : iblk m c 2 t (ix2 y x) = V m c main_v100 (ix2 y ⟨1024 + 128 * t.val + x.val, h⟩) := by
  blk_ext [iblk, V, idx t]

theorem block_5 (t : Fin cfg0.N) (y : Fin 4096) (x : Fin 128) (h) : iblk m c 5 t (ix2 y x) = V m c main_arg5 (ix2 y ⟨128 * t.val + x.val, h⟩) := by
  blk_ext [iblk, V, idx t]

theorem block_6 (t : Fin cfg0.N) (y : Fin 4096) (x : Fin 128) (h) : iblk m c 6 t (ix2 y x) = V m c main_v108 (ix2 y ⟨128 * t.val + x.val, h⟩) := by
  blk_ext [iblk, V, idx t]

theorem block_7 (t : Fin cfg0.N) (y : Fin 4096) (x : Fin 128) (h) : iblk m c 7 t (ix2 y x) = V m c main_v111 (ix2 y ⟨128 * t.val + x.val, h⟩) := by
  blk_ext [iblk, V, idx t]

theorem block_3 (t : Fin cfg0.N) (y : Fin 4096) (x : Fin 128) : iblk m c 3 t (ix2 y x) = V m c main_v102 (ix2 y x) := by
  blk_ext [iblk, V, idx t]

theorem block_4 (t : Fin cfg0.N) (y : Fin 4096) (x : Fin 128) : iblk m c 4 t (ix2 y x) = V m c main_v104 (ix2 y x) := by
  blk_ext [iblk, V, idx t]

theorem emb_8 (t : Fin cfg0.N) (s : Fin 3) (y : Fin 4096) (x : Fin 128) (h) :
    (win0_8.blk t).view.emb (ix3 s y x) = ix3 s y ⟨128 * t.val + x.val, h⟩ := by
  blk_ext [idx t]

/-- Rows that agree everywhere are the same. -/
theorem rows_congr {α β : Type} {q q' : α → Fin 128 → EReal} {g g' : α → Fin 128 → EReal} {l l' : α → Fin 128 → EReal} {e e' : α → Fin 128 → EReal}
    {k k' : β → Fin 128 → EReal} {v v' : β → Fin 128 → EReal} (hq : ∀ y x, q y x = q' y x) (hg : ∀ y x, g y x = g' y x)
    (hl : ∀ y x, l y x = l' y x) (he : ∀ y x, e y x = e' y x) (hk : ∀ y x, k y x = k' y x) (hv : ∀ y x, v y x = v' y x) :
    ({ q := q, g := g, l := l, e := e, k := k, v := v } : Rows α β) = { q := q', g := g', l := l', e := e', k := k', v := v' } := by
  obtain rfl : q = q' := funext₂ hq
  obtain rfl : g = g' := funext₂ hg
  obtain rfl : l = l' := funext₂ hl
  obtain rfl : e = e' := funext₂ he
  obtain rfl : k = k' := funext₂ hk
  obtain rfl : v = v' := funext₂ hv
  rfl

theorem rows_eq (t : Fin cfg0.N) (h : t.val < 4) :
    gridRows (iblk m c 0 t) (iblk m c 1 t) (iblk m c 2 t) (iblk m c 5 t) (iblk m c 6 t) (iblk m c 7 t) = pairRows m c ⟨t.val, h⟩ :=
  rows_congr (fun y x => block_0 m c t y x _) (fun y x => block_5 m c t y x _) (fun y x => block_6 m c t y x _)
    (fun y x => block_7 m c t y x _) (fun y x => block_1 m c t y x _) (fun y x => block_2 m c t y x _)

theorem finalAt_pair (g : Fin 4) (s : Fin 3) (y : Fin 4096) (x : Fin 128) (h) :
    finalAt m c s y ⟨128 * g.val + x.val, h⟩ = stored (fun y x => V m c main_v102 (ix2 y x)) (fun y x => V m c main_v104 (ix2 y x))
      (pairRows m c g).sumQueries (pairRows m c g).sumKeys (pairRows m c g).sumValues s y x := by
  have e1 : (⟨(128 * g.val + x.val) / 128, by omega⟩ : Fin 4) = g := Fin.ext (by simp only; omega)
  have e2 : (⟨(128 * g.val + x.val) % 128, by omega⟩ : Fin 128) = x := Fin.ext (by simp only; omega)
  unfold finalAt
  rw [e1, e2]

set_option maxHeartbeats 1000000 in
/-- The array the region leaves. -/
theorem final_eq : (dats m 0 c).arrAt 8 (cfgs 0).N = final m c := by
  refine (dats m 0 c).arrAt_eq_of_covers 8 _ (by decide +kernel) fun t hf y => ?_
  blk_simp
  rw [after_8]
  have ht : t.val < 4 := t.isLt
  obtain ⟨s, y', x, rfl⟩ : ∃ (s : Fin 3) (y' : Fin 4096) (x : Fin 128), y = ix3 s y' x := ⟨y 0, y 1, y 2, by funext k; fin_cases k <;> rfl⟩
  refine (block_value _ _ _ _ _ _ _ _ _ _ _ _ _ _ _ _ _ _ _ _ _ _ _ _ _ _ _ _ _ _ _ _ _ _ _ _ _ _ _ _ _ _ _ ).trans ?_
  rw [rows_eq m c t ht]
  refine Eq.trans ?_ (congrArg (final m c) (emb_8 t s y' x (by omega)).symm)
  refine Eq.trans ?_ (finalAt_pair m c ⟨t.val, ht⟩ s y' x (by omega)).symm
  have e3 : (fun y x => iblk m c 3 t (ix2 y x)) = fun y x => V m c main_v102 (ix2 y x) := funext₂ (block_3 m c t)
  have e4 : (fun y x => iblk m c 4 t (ix2 y x)) = fun y x => V m c main_v104 (ix2 y x) := funext₂ (block_4 m c t)
  rw [e3, e4]
end Cert.KernelIdeal.Tiles
-- ==== Proof.Gradient.lean ====
module
public import Mathlib.Analysis.SpecialFunctions.Log.Basic
@[expose] public section

/-!
  The gradient of dilated-window attention over the reals.  Each branch `b` lets a query see some of the keys; the
  branch outputs are added with weights that share the branches' exponential sums.  Both programs compute the gradients
  of this sum with respect to queries, keys and values: the reference by the rules of differentiation, branch by branch,
  the kernel from one common normaliser.  This file proves the two equal for one head.
-/

noncomputable section

namespace Cert.Attention

/-- One head: its queries, keys, values and the gradient that reaches its output. -/
structure Head (N C : Type) where
  q : N → C → ℝ
  k : N → C → ℝ
  v : N → C → ℝ
  g : N → C → ℝ

variable {B N C : Type} [Fintype B] [Fintype N] [Fintype C] (near : B → N → N → Prop) [∀ b i j, Decidable (near b i j)]

namespace Head
variable (H : Head N C)

/-- The score of a query and a key. -/
def score (i j : N) : ℝ := (∑ x, H.q i x * H.k j x) * (1 / 8)

/-- Its exponential where the branch sees the key. -/
def expo (b : B) (i j : N) : ℝ := if near b i j then Real.exp (H.score i j) else 0

/-- A branch's exponential sum, and the sum of all branches. -/
def mass (b : B) (i : N) : ℝ := ∑ j, H.expo near b i j
def total (i : N) : ℝ := ∑ b, H.mass near b i

/-- A branch's probabilities, its share of the result, and its output. -/
def prob (b : B) (i j : N) : ℝ := H.expo near b i j / H.mass near b i
def share (b : B) (i : N) : ℝ := H.mass near b i / H.total near i
def out (b : B) (i : N) (x : C) : ℝ := ∑ j, H.v j x * H.prob near b i j

/-- What reaches the share of a branch, scaled by the share. -/
def pull (b : B) (i : N) : ℝ := (∑ x, H.g i x * H.out near b i x) * H.share near b i

/-- What reaches a probability of a branch, scaled by the probability. -/
def along (b : B) (i j : N) : ℝ := (∑ x, H.share near b i * H.g i x * H.v j x) * H.prob near b i j

/-- What reaches a score, by the rules of differentiation. -/
def dscore (i j : N) : ℝ :=
  (∑ b, if near b i j then
      H.along near b i j + (H.pull near b i + (∑ b', -H.pull near b' i) / H.total near i * H.mass near b i
        + ∑ j', -H.along near b i j') / H.mass near b i * H.expo near b i j
    else 0) * (1 / 8)

/-- The reference's three gradients. -/
def dq (i : N) (x : C) : ℝ := ∑ j, H.dscore near i j * H.k j x
def dk (j : N) (x : C) : ℝ := ∑ i, H.dscore near i j * H.q i x
def dv (j : N) (x : C) : ℝ := ∑ b, ∑ i, H.share near b i * H.g i x * H.prob near b i j

/-- The product of the result with the gradient that reaches it. -/
def delta (i : N) : ℝ := ∑ x, H.g i x * ∑ b, H.share near b i * H.out near b i x

/-- The kernel's probability of a key in a branch, against all branches together. -/
def joint (b : B) (i j : N) : ℝ := H.expo near b i j / H.total near i

/-- What the kernel sends to a score from one branch. -/
def slope (b : B) (i j : N) : ℝ := H.joint near b i j * ((∑ x, H.g i x * H.v j x) - H.delta near i)

/-- The kernel's three gradients, one branch at a time. -/
def dqOf (b : B) (i : N) (x : C) : ℝ := (∑ j, H.slope near b i j * H.k j x) * (1 / 8)
def dkOf (b : B) (j : N) (x : C) : ℝ := ∑ i, H.slope near b i j * (H.q i x * (1 / 8))
def dvOf (b : B) (j : N) (x : C) : ℝ := ∑ i, H.joint near b i j * H.g i x

variable (hn : ∀ b i, near b i i)

omit [Fintype B] in
include hn in
theorem mass_pos (b : B) (i : N) : 0 < H.mass near b i := by
  refine Finset.sum_pos' (fun j _ => ?_) ⟨i, Finset.mem_univ i, ?_⟩
  · unfold expo
    split
    · exact (Real.exp_pos _).le
    · exact le_rfl
  · unfold expo
    rw [if_pos (hn b i)]
    exact Real.exp_pos _

include hn in
theorem total_pos [Nonempty B] (i : N) : 0 < H.total near i :=
  Finset.sum_pos (fun b _ => H.mass_pos near hn b i) Finset.univ_nonempty

theorem delta_eq (i : N) : H.delta near i = ∑ b, H.pull near b i := by
  unfold delta pull
  simp only [Finset.mul_sum, Finset.sum_mul]
  rw [Finset.sum_comm]
  refine Finset.sum_congr rfl fun b _ => Finset.sum_congr rfl fun x _ => ?_
  ring

theorem along_sum (b : B) (i : N) : ∑ j, H.along near b i j = H.pull near b i := by
  unfold along pull out
  simp only [Finset.mul_sum, Finset.sum_mul]
  rw [Finset.sum_comm]
  refine Finset.sum_congr rfl fun x _ => Finset.sum_congr rfl fun j _ => ?_
  ring

include hn in
theorem share_prob [Nonempty B] (b : B) (i j : N) : H.share near b i * H.prob near b i j = H.joint near b i j := by
  have hz := (H.mass_pos near hn b i).ne'
  have hw := (H.total_pos near hn i).ne'
  unfold share prob joint
  field_simp

include hn in
theorem dscore_eq [Nonempty B] (i j : N) : H.dscore near i j = (∑ b, H.slope near b i j) * (1 / 8) := by
  unfold dscore
  congr 1
  refine Finset.sum_congr rfl fun b _ => ?_
  have hz := (H.mass_pos near hn b i).ne'
  have hw := (H.total_pos near hn i).ne'
  by_cases h : near b i j
  · rw [if_pos h, Finset.sum_neg_distrib, Finset.sum_neg_distrib, along_sum, ← delta_eq]
    have ha : H.along near b i j = H.joint near b i j * ∑ x, H.g i x * H.v j x := by
      rw [← H.share_prob near hn]
      unfold along
      rw [show (∑ x, H.share near b i * H.g i x * H.v j x) = H.share near b i * ∑ x, H.g i x * H.v j x by
        rw [Finset.mul_sum]; exact Finset.sum_congr rfl fun x _ => by ring]
      ring
    rw [ha]
    unfold slope joint
    field_simp
    ring
  · rw [if_neg h]
    unfold slope joint expo
    rw [if_neg h]
    ring

include hn in
theorem dq_eq [Nonempty B] (i : N) (x : C) : H.dq near i x = ∑ b, H.dqOf near b i x := by
  unfold dq dqOf
  simp only [H.dscore_eq near hn, Finset.sum_mul]
  rw [Finset.sum_comm]
  refine Finset.sum_congr rfl fun b _ => Finset.sum_congr rfl fun j _ => ?_
  ring

include hn in
theorem dk_eq [Nonempty B] (j : N) (x : C) : H.dk near j x = ∑ b, H.dkOf near b j x := by
  unfold dk dkOf
  simp only [H.dscore_eq near hn, Finset.sum_mul]
  rw [Finset.sum_comm]
  refine Finset.sum_congr rfl fun b _ => Finset.sum_congr rfl fun i _ => ?_
  ring

include hn in
theorem dv_eq [Nonempty B] (j : N) (x : C) : H.dv near j x = ∑ b, H.dvOf near b j x := by
  unfold dv dvOf
  refine Finset.sum_congr rfl fun b _ => Finset.sum_congr rfl fun i _ => ?_
  rw [← H.share_prob near hn]
  ring

end Head
end Cert.Attention
-- ==== Proof.BandBits.lean ====
module
public import proofs.«01_k».proof.Proof.Systems
@[expose] public section

/-!
  The reference computes which keys a branch sees on 32-bit words: the distance of the two positions is at most 64 steps
  of the dilation, and a multiple of it.  Read back as a condition on the positions this is the relation `band`.
-/

noncomputable section

namespace Cert.Attention
open Idealize.ShloMosaic

/-- The distance of two positions as a natural number. -/
def apart (i j : Fin 4096) : ℕ := if j.val ≤ i.val then i.val - j.val else j.val - i.val

theorem absi_sub (i j : Fin 4096) :
    IntOp.absi (IntOp.subi (BitVec.ofNat 32 i.val) (BitVec.ofNat 32 j.val)) = BitVec.ofNat 32 (apart i j) := by
  have hi := i.isLt
  have hj := j.isLt
  unfold IntOp.absi IntOp.subi apart
  rw [BitVec.msb_eq_decide]
  by_cases h : j.val ≤ i.val
  · rw [if_pos h, if_neg (by simp only [BitVec.toNat_sub, BitVec.toNat_ofNat]; simp; omega)]
    apply BitVec.eq_of_toNat_eq
    simp only [BitVec.toNat_sub, BitVec.toNat_ofNat]
    omega
  · rw [if_neg h, if_pos (by simp only [BitVec.toNat_sub, BitVec.toNat_ofNat]; simp; omega)]
    apply BitVec.eq_of_toNat_eq
    simp only [BitVec.toNat_neg, BitVec.toNat_sub, BitVec.toNat_ofNat]
    omega

theorem toInt_small (a : ℕ) (h : a < 4096) : (BitVec.ofNat 32 a).toInt = a := by
  rw [BitVec.toInt_eq_toNat_of_lt (by rw [BitVec.toNat_ofNat]; omega), BitVec.toNat_ofNat]
  omega

/-- The words of a branch with dilation `d` say whether it sees the key. -/
theorem band_bits (d : ℕ) (hd : d = 1 ∨ d = 4 ∨ d = 16) (i j : Fin 4096) :
    IntOp.andi (IntOp.cmpi .sle (IntOp.absi (IntOp.subi (BitVec.ofNat 32 i.val) (BitVec.ofNat 32 j.val))) (BitVec.ofNat 32 (64 * d)))
      (IntOp.cmpi .eq (IntOp.remsi .host (IntOp.absi (IntOp.subi (BitVec.ofNat 32 i.val) (BitVec.ofNat 32 j.val))) (BitVec.ofNat 32 d)) 0#32)
      = if band d i j then 1#1 else 0#1 := by
  rw [absi_sub]
  have ha : apart i j < 4096 := by unfold apart; split <;> omega
  have h1 : IntOp.cmpi .sle (BitVec.ofNat 32 (apart i j)) (BitVec.ofNat 32 (64 * d)) = BitVec.ofBool (decide (apart i j ≤ 64 * d)) := by
    unfold IntOp.cmpi
    congr 1
    rw [BitVec.sle_eq_decide, toInt_small _ ha, toInt_small _ (by omega)]
    exact decide_eq_decide.mpr (by omega)
  have h2 : IntOp.remsi .host (BitVec.ofNat 32 (apart i j)) (BitVec.ofNat 32 d) = BitVec.ofNat 32 (apart i j % d) := by
    unfold IntOp.remsi
    rw [if_neg]
    · apply BitVec.eq_of_toInt_eq
      rw [BitVec.toInt_srem, toInt_small _ ha, toInt_small _ (by omega), toInt_small _ (lt_of_le_of_lt (Nat.mod_le _ _) ha)]
      rfl
    · rintro (h | ⟨-, h⟩)
      · have := congrArg BitVec.toInt h
        rw [toInt_small _ (by omega)] at this
        simp at this <;> omega
      · have := congrArg BitVec.toInt h
        rw [toInt_small _ (by omega)] at this
        simp at this <;> omega
  have h3 : IntOp.cmpi .eq (BitVec.ofNat 32 (apart i j % d)) 0#32 = BitVec.ofBool (decide (apart i j % d = 0)) := by
    unfold IntOp.cmpi
    congr 1
    have hb : apart i j % d < 4096 := lt_of_le_of_lt (Nat.mod_le _ _) ha
    simp only [beq_eq_decide]
    apply decide_eq_decide.mpr
    constructor
    · intro h
      have := congrArg BitVec.toNat h
      rw [BitVec.toNat_ofNat] at this
      replace this : apart i j % d % 2 ^ 32 = 0 := by simpa using this
      rwa [Nat.mod_eq_of_lt (by omega)] at this
    · intro h; rw [h]
  rw [h1, h2, h3]
  have hb : band d i j ↔ apart i j ≤ 64 * d ∧ apart i j % d = 0 := by
    unfold band apart
    rcases hd with rfl | rfl | rfl <;> split <;> omega
  unfold IntOp.andi
  by_cases c1 : apart i j ≤ 64 * d <;> by_cases c2 : apart i j % d = 0
  · rw [if_pos (hb.mpr ⟨c1, c2⟩), decide_eq_true c1, decide_eq_true c2]; rfl
  · rw [if_neg (fun h => c2 (hb.mp h).2), decide_eq_true c1, decide_eq_false c2]; rfl
  · rw [if_neg (fun h => c1 (hb.mp h).1), decide_eq_false c1, decide_eq_true c2]; rfl
  · rw [if_neg (fun h => c1 (hb.mp h).1), decide_eq_false c1, decide_eq_false c2]; rfl

end Cert.Attention
-- ==== Proof.Reals.lean ====
module
public import proofs.«01_k».proof.Proof.Gradient
public import proofs.«01_k».proof.Proof.BandBits
@[expose] public section

/-!
  Real numbers inside the extended reals, and the few facts about the operations that both programs share: sums,
  logarithms of positive numbers, quotients, the scale of the scores, the branches and what they see.
-/

noncomputable section

namespace Cert.Attention

/-- The head in lane `x` of pair `g`, the channel of that lane, and its column. -/
def headOf (g : Fin 4) (x : Fin 128) : Fin 8 := ⟨2 * g.val + x.val / 64, by omega⟩
def chan (x : Fin 128) : Fin 64 := ⟨x.val % 64, by omega⟩
def column (g : Fin 4) (x : Fin 128) : Fin 512 := ⟨128 * g.val + x.val, by omega⟩

/-- A gradient turned back through the rotary encoding, for one row of one head. -/
def turn (c s : Fin 8 → ℝ) (d : Fin 64 → ℝ) (x : Fin 64) : ℝ :=
  if h : x.val < 8 then c ⟨x.val, h⟩ * d x + s ⟨x.val, h⟩ * d ⟨8 + x.val, by omega⟩
  else if h : x.val - 8 < 8 then c ⟨x.val - 8, h⟩ * d x - s ⟨x.val - 8, h⟩ * d ⟨x.val - 8, by omega⟩
  else d x

/-- The dilation of a branch, and which keys the branch sees. -/
def dilation (b : Fin 3) : ℕ := if b.val < 1 then 1 else if b.val - 1 < 1 then 4 else 16
abbrev sees (b : Fin 3) (i j : Fin 4096) : Prop := band (dilation b) i j

theorem sees_self (b : Fin 3) (i : Fin 4096) : sees b i i := ⟨by omega, by omega, rfl⟩

theorem sum_coe {ι : Type} [Fintype ι] (f : ι → ℝ) : ∑ i, ((f i : ℝ) : EReal) = ((∑ i, f i : ℝ) : EReal) := by
  classical
  refine (Finset.induction_on (motive := fun s => ∑ i ∈ s, ((f i : ℝ) : EReal) = ((∑ i ∈ s, f i : ℝ) : EReal)) Finset.univ (by simp) ?_)
  intro a s ha h
  rw [Finset.sum_insert ha, Finset.sum_insert ha, h, EReal.coe_add]

theorem log_pos {r : ℝ} (h : 0 < r) : Idealize.ShloMosaic.Ideal.log (r : EReal) = (Real.log r : EReal) := by
  rw [Idealize.ShloMosaic.Ideal.log_coe, if_neg (not_le.mpr h)]

theorem div_real (a : ℝ) {b : ℝ} (h : b ≠ 0) : Idealize.ShloMosaic.Ideal.div (a : EReal) (b : EReal) = ((a / b : ℝ) : EReal) := by
  unfold Idealize.ShloMosaic.Ideal.div
  rw [if_neg (by exact_mod_cast h), ← EReal.coe_inv, ← EReal.coe_mul, div_eq_mul_inv]

theorem select_if (p : Prop) [Decidable p] {α : Type} (a b : α) :
    Idealize.ShloMosaic.Scalar.select (if p then 1#1 else 0#1) a b = if p then a else b := by
  split <;> rfl

open Idealize.ShloMosaic in
theorem scale_eq : Ideal.ofBits .f32 0x3E000000#32 = ((1 / 8 : ℝ) : EReal) := by
  simp [Ideal.ofBits, Ideal.ieee]
  norm_num
  rw [← EReal.coe_mul]
  norm_num

end Cert.Attention
-- ==== Proof.Entry.lean ====
/- What the region's arrays hold when it starts, by the terms of the reference: the host code before the call computes
   the rotated queries and keys, the sums of the rows and the outputs with the operations of the reference. -/
module

public import proofs.«01_k».proof.Proof.Reals
public import proofs.«01_k».proof.Proof.Gen.KernelIdeal.Frame
public import proofs.«01_k».proof.Proof.Gen.ReferenceIdeal.Run
public import Idealize.ShloMosaic.Lib.StableHlo.RunRead
public import Idealize.ShloMosaic.Lib.Pointwise

@[expose] public section

set_option maxRecDepth 16384

noncomputable section

namespace Cert.KernelIdeal.Tiles

open Idealize.ShloMosaic Idealize.ShloMosaic.StableHlo Idealize.ShloMosaic.TcCoe Idealize.SL.Sem Cert.KernelIdeal.Gen Cert.Attention

/-- A concatenation of three arrays, part by part. -/
theorem concat3 {s a b d : Shape} {α : Type} (k : Fin s.rank) (x x' : a.Idx → α) (y y' : b.Idx → α) (z z' : d.Idx → α) (h)
    (hx : x = x') (hy : y = y') (hz : z = z') :
    concatenate s k [⟨a, x⟩, ⟨b, y⟩, ⟨d, z⟩] h = concatenate s k [⟨a, x'⟩, ⟨b, y'⟩, ⟨d, z'⟩] h := by
  subst hx; subst hy; subst hz; rfl

/-! The terms of the reference, at the kernel's shapes. -/

variable (V0 : Valuation Cert.ReferenceIdeal.τ Cert.ReferenceIdeal.sig (Elt Ideal))

def refA0 : FVec Ideal S4096x512 .f32 := V0 (Proc.devRef .tc Cert.ReferenceIdeal.main_arg0)
def refA1 : FVec Ideal S4096x512 .f32 := V0 (Proc.devRef .tc Cert.ReferenceIdeal.main_arg1)
def refA2 : FVec Ideal S4096x512 .f32 := V0 (Proc.devRef .tc Cert.ReferenceIdeal.main_arg2)
def refA3 : FVec Ideal S4096x8 .f32 := V0 (Proc.devRef .tc Cert.ReferenceIdeal.main_arg3)
def refA4 : FVec Ideal S4096x8 .f32 := V0 (Proc.devRef .tc Cert.ReferenceIdeal.main_arg4)
def refA5 : FVec Ideal S4096x512 .f32 := V0 (Proc.devRef .tc Cert.ReferenceIdeal.main_arg5)
def refQ : FVec Ideal S4096x8x64 .f32 := Cert.ReferenceIdeal.Value.res_main_v16 V0
def refK : FVec Ideal S4096x8x64 .f32 := Cert.ReferenceIdeal.Value.res_main_v33 V0
def refMask : IVec S3x8x4096x4096 1 := Cert.ReferenceIdeal.Value.res_main_v68 V0
def refScores : FVec Ideal S3x8x4096x4096 .f32 := Cert.ReferenceIdeal.Value.res_main_v72 V0
def refOuts : FVec Ideal S3x8x4096x64 .f32 := Cert.ReferenceIdeal.Value.res_main_v82 V0
def refTotal : FVec Ideal S8x4096 .f32 := Cert.ReferenceIdeal.Value.res_main_v84 V0
def refShares : FVec Ideal S3x8x4096 .f32 := Cert.ReferenceIdeal.Value.res_main_v89 V0

variable (m : (ℓ : Loc nD τ sig) → Buf (Elt Ideal) ℓ) (c : Dev nD)
  (h0 : m (c, (Proc.devRef .tc main_arg0 : DevRef τ sig)) = refA0 V0)
  (h1 : m (c, (Proc.devRef .tc main_arg1 : DevRef τ sig)) = refA1 V0)
  (h2 : m (c, (Proc.devRef .tc main_arg2 : DevRef τ sig)) = refA2 V0)
  (h3 : m (c, (Proc.devRef .tc main_arg3 : DevRef τ sig)) = refA3 V0)
  (h4 : m (c, (Proc.devRef .tc main_arg4 : DevRef τ sig)) = refA4 V0)
  (h5 : m (c, (Proc.devRef .tc main_arg5 : DevRef τ sig)) = refA5 V0)

set_option maxHeartbeats 4000000 in
include h0 h3 h4 in
theorem queries_35 : upto (hostOps0 (F := Ideal)) (fun b => m (c, b)) 35 (no_index (Proc.devRef .tc main_v16)) = refQ V0 := by
  after_reads_simp
  unfold refQ Cert.ReferenceIdeal.Value.res_main_v16
  refine concat3 _ _ _ _ _ _ _ _ ?_ ?_ ?_
  all_goals
    dsimp only [Matrix.cons_val]
    after_reads_simp
    simp only [h0, h3, h4]
    rfl

set_option maxHeartbeats 4000000 in
include h0 h3 h4 in
theorem queries_112 : upto (hostOps0 (F := Ideal)) (fun b => m (c, b)) 112 (no_index (Proc.devRef .tc main_v16)) = refQ V0 := by
  after_reads_simp
  unfold refQ Cert.ReferenceIdeal.Value.res_main_v16
  refine concat3 _ _ _ _ _ _ _ _ ?_ ?_ ?_
  all_goals
    dsimp only [Matrix.cons_val]
    after_reads_simp
    simp only [h0, h3, h4]
    rfl

set_option maxHeartbeats 4000000 in
include h1 h3 h4 in
theorem keys_35 : upto (hostOps0 (F := Ideal)) (fun b => m (c, b)) 35 (no_index (Proc.devRef .tc main_v33)) = refK V0 := by
  after_reads_simp
  unfold refK Cert.ReferenceIdeal.Value.res_main_v33
  refine concat3 _ _ _ _ _ _ _ _ ?_ ?_ ?_
  all_goals
    dsimp only [Matrix.cons_val]
    after_reads_simp
    simp only [h1, h3, h4]
    rfl

set_option maxHeartbeats 4000000 in
include h1 h3 h4 in
theorem keys_113 : upto (hostOps0 (F := Ideal)) (fun b => m (c, b)) 113 (no_index (Proc.devRef .tc main_v33)) = refK V0 := by
  after_reads_simp
  unfold refK Cert.ReferenceIdeal.Value.res_main_v33
  refine concat3 _ _ _ _ _ _ _ _ ?_ ?_ ?_
  all_goals
    dsimp only [Matrix.cons_val]
    after_reads_simp
    simp only [h1, h3, h4]
    rfl

set_option maxHeartbeats 4000000 in
theorem mask_83 : upto (hostOps0 (F := Ideal)) (fun b => m (c, b)) 83 (no_index (Proc.devRef .tc main_v68)) = refMask V0 := by
  after_reads_simp
  unfold refMask Cert.ReferenceIdeal.Value.res_main_v68
  refine congrArg _ (congrArg _ ?_)
  refine concat3 _ _ _ _ _ _ _ _ ?_ ?_ ?_
  all_goals
    dsimp only [Matrix.cons_val]
    after_reads_simp
    rfl

set_option maxHeartbeats 4000000 in
include h0 h1 h3 h4 in
theorem scores_84 : upto (hostOps0 (F := Ideal)) (fun b => m (c, b)) 84 (no_index (Proc.devRef .tc main_v72)) = refScores V0 := by
  after_reads_simp [queries_35 V0 m c h0 h3 h4, keys_35 V0 m c h1 h3 h4, mask_83 V0 m c]
  rfl

set_option maxHeartbeats 4000000 in
include h0 h1 h3 h4 in
theorem scores_90 : upto (hostOps0 (F := Ideal)) (fun b => m (c, b)) 90 (no_index (Proc.devRef .tc main_v72)) = refScores V0 := by
  after_reads_simp [queries_35 V0 m c h0 h3 h4, keys_35 V0 m c h1 h3 h4, mask_83 V0 m c]
  rfl

set_option maxHeartbeats 4000000 in
include h0 h1 h3 h4 in
theorem total_123 : upto (hostOps0 (F := Ideal)) (fun b => m (c, b)) 123 (no_index (Proc.devRef .tc main_v84)) = Host.log (refTotal V0) := by
  after_reads_simp [scores_84 V0 m c h0 h1 h3 h4, scores_90 V0 m c h0 h1 h3 h4]
  rfl

set_option maxHeartbeats 4000000 in
include h0 h1 h2 h3 h4 in
theorem outs_104 : upto (hostOps0 (F := Ideal)) (fun b => m (c, b)) 104 (no_index (Proc.devRef .tc main_v81)) = refOuts V0 := by
  after_reads_simp [scores_84 V0 m c h0 h1 h3 h4, scores_90 V0 m c h0 h1 h3 h4]
  simp only [h2]
  rfl

set_option maxHeartbeats 4000000 in
include h0 h1 h3 h4 in
theorem shares_102 : upto (hostOps0 (F := Ideal)) (fun b => m (c, b)) 102 (no_index (Proc.devRef .tc main_v88)) = refShares V0 := by
  after_reads_simp [scores_84 V0 m c h0 h1 h3 h4, scores_90 V0 m c h0 h1 h3 h4]
  rfl

/-- A concatenation of four arrays, part by part. -/
theorem concat4 {s a b c d : Shape} {α : Type} (k : Fin s.rank) (xa ya : a.Idx → α) (xb yb : b.Idx → α) (xc yc : c.Idx → α) (xd yd : d.Idx → α) (h)
    (ha : xa = ya) (hb : xb = yb) (hc : xc = yc) (hd : xd = yd) :
    concatenate s k [⟨a, xa⟩, ⟨b, xb⟩, ⟨c, xc⟩, ⟨d, xd⟩] h = concatenate s k [⟨a, ya⟩, ⟨b, yb⟩, ⟨c, yc⟩, ⟨d, yd⟩] h := by
  subst ha; subst hb; subst hc; subst hd; rfl

/-- A concatenation of six arrays, part by part. -/
theorem concat6 {s a b c d e f : Shape} {α : Type} (k : Fin s.rank) (xa ya : a.Idx → α) (xb yb : b.Idx → α) (xc yc : c.Idx → α) (xd yd : d.Idx → α) (xe ye : e.Idx → α) (xf yf : f.Idx → α) (h)
    (ha : xa = ya) (hb : xb = yb) (hc : xc = yc) (hd : xd = yd) (he : xe = ye) (hf : xf = yf) :
    concatenate s k [⟨a, xa⟩, ⟨b, xb⟩, ⟨c, xc⟩, ⟨d, xd⟩, ⟨e, xe⟩, ⟨f, xf⟩] h = concatenate s k [⟨a, ya⟩, ⟨b, yb⟩, ⟨c, yc⟩, ⟨d, yd⟩, ⟨e, ye⟩, ⟨f, yf⟩] h := by
  subst ha; subst hb; subst hc; subst hd; subst he; subst hf; rfl

set_option maxHeartbeats 4000000 in
include h0 h1 h2 h3 h4 in
theorem columns_100 : after (hostOps0 (F := Ideal)) (fun b => m (c, b)) (Proc.devRef .tc main_v100) = concatenate S4096x3072 1 [⟨S4096x512, shapeCast _ (refQ V0) shapeCasts_S4096x8x64_S4096x512⟩, ⟨S4096x512, shapeCast _ (refK V0) shapeCasts_S4096x8x64_S4096x512⟩, ⟨S4096x512, refA2 V0⟩, ⟨S4096x1536, broadcastInDim S4096x1536 ![] bcast_S_S4096x1536 (constant S_ .f32 0x00000000#32)⟩] concatenates_S4096x512_S4096x512_S4096x512_S4096x1536_S4096x3072_d1 := by
  refine (after_last_write (i := 116) [main_cst_14, main_v101, main_v102, main_cst_15, main_v103, main_v104, main_v105, main_v106, main_v107, main_v108, main_v109, main_v110, main_v111] rfl rfl (by decide) _).trans ?_
  refine (nary_result' _ _ _ _ _).trans ?_
  refine concat4 _ _ _ _ _ _ _ _ _ _ ?_ ?_ ?_ ?_
  · show upto (hostOps0 (F := Ideal)) (fun b => m (c, b)) 116 (Proc.devRef .tc main_v97) = _
    after_reads_simp [queries_112 V0 m c h0 h3 h4, keys_113 V0 m c h1 h3 h4]
    try simp only [h0, h1, h2, h3, h4]
    try rfl
  · show upto (hostOps0 (F := Ideal)) (fun b => m (c, b)) 116 (Proc.devRef .tc main_v98) = _
    after_reads_simp [queries_112 V0 m c h0 h3 h4, keys_113 V0 m c h1 h3 h4]
    try simp only [h0, h1, h2, h3, h4]
    try rfl
  · show upto (hostOps0 (F := Ideal)) (fun b => m (c, b)) 116 (Proc.devRef .tc main_arg2) = _
    after_reads_simp [queries_112 V0 m c h0 h3 h4, keys_113 V0 m c h1 h3 h4]
    try simp only [h0, h1, h2, h3, h4]
    try rfl
  · show upto (hostOps0 (F := Ideal)) (fun b => m (c, b)) 116 (Proc.devRef .tc main_v99) = _
    after_reads_simp [queries_112 V0 m c h0 h3 h4, keys_113 V0 m c h1 h3 h4]
    try simp only [h0, h1, h2, h3, h4]
    try rfl

set_option maxHeartbeats 4000000 in
include h3 in
theorem cosines_102 : after (hostOps0 (F := Ideal)) (fun b => m (c, b)) (Proc.devRef .tc main_v102) = concatenate S4096x128 1 [⟨S4096x8, refA3 V0⟩, ⟨S4096x8, refA3 V0⟩, ⟨S4096x48, broadcastInDim S4096x48 ![] bcast_S_S4096x48 (constant S_ .f32 0x3F800000#32)⟩, ⟨S4096x8, refA3 V0⟩, ⟨S4096x8, refA3 V0⟩, ⟨S4096x48, broadcastInDim S4096x48 ![] bcast_S_S4096x48 (constant S_ .f32 0x3F800000#32)⟩] concatenates_S4096x8_S4096x8_S4096x48_S4096x8_S4096x8_S4096x48_S4096x128_d1 := by
  refine (after_last_write (i := 119) [main_cst_15, main_v103, main_v104, main_v105, main_v106, main_v107, main_v108, main_v109, main_v110, main_v111] rfl rfl (by decide) _).trans ?_
  refine (nary_result' _ _ _ _ _).trans ?_
  refine concat6 _ _ _ _ _ _ _ _ _ _ _ _ _ _ ?_ ?_ ?_ ?_ ?_ ?_
  · show upto (hostOps0 (F := Ideal)) (fun b => m (c, b)) 119 (Proc.devRef .tc main_arg3) = _
    after_reads_simp
    try simp only [h3]
    try rfl
  · show upto (hostOps0 (F := Ideal)) (fun b => m (c, b)) 119 (Proc.devRef .tc main_arg3) = _
    after_reads_simp
    try simp only [h3]
    try rfl
  · show upto (hostOps0 (F := Ideal)) (fun b => m (c, b)) 119 (Proc.devRef .tc main_v101) = _
    after_reads_simp
    try simp only [h3]
    try rfl
  · show upto (hostOps0 (F := Ideal)) (fun b => m (c, b)) 119 (Proc.devRef .tc main_arg3) = _
    after_reads_simp
    try simp only [h3]
    try rfl
  · show upto (hostOps0 (F := Ideal)) (fun b => m (c, b)) 119 (Proc.devRef .tc main_arg3) = _
    after_reads_simp
    try simp only [h3]
    try rfl
  · show upto (hostOps0 (F := Ideal)) (fun b => m (c, b)) 119 (Proc.devRef .tc main_v101) = _
    after_reads_simp
    try simp only [h3]
    try rfl

set_option maxHeartbeats 4000000 in
include h4 in
theorem sines_104 : after (hostOps0 (F := Ideal)) (fun b => m (c, b)) (Proc.devRef .tc main_v104) = concatenate S4096x128 1 [⟨S4096x8, refA4 V0⟩, ⟨S4096x8, refA4 V0⟩, ⟨S4096x48, broadcastInDim S4096x48 ![] bcast_S_S4096x48 (constant S_ .f32 0x00000000#32)⟩, ⟨S4096x8, refA4 V0⟩, ⟨S4096x8, refA4 V0⟩, ⟨S4096x48, broadcastInDim S4096x48 ![] bcast_S_S4096x48 (constant S_ .f32 0x00000000#32)⟩] concatenates_S4096x8_S4096x8_S4096x48_S4096x8_S4096x8_S4096x48_S4096x128_d1 := by
  refine (after_last_write (i := 122) [main_v105, main_v106, main_v107, main_v108, main_v109, main_v110, main_v111] rfl rfl (by decide) _).trans ?_
  refine (nary_result' _ _ _ _ _).trans ?_
  refine concat6 _ _ _ _ _ _ _ _ _ _ _ _ _ _ ?_ ?_ ?_ ?_ ?_ ?_
  · show upto (hostOps0 (F := Ideal)) (fun b => m (c, b)) 122 (Proc.devRef .tc main_arg4) = _
    after_reads_simp
    try simp only [h4]
    try rfl
  · show upto (hostOps0 (F := Ideal)) (fun b => m (c, b)) 122 (Proc.devRef .tc main_arg4) = _
    after_reads_simp
    try simp only [h4]
    try rfl
  · show upto (hostOps0 (F := Ideal)) (fun b => m (c, b)) 122 (Proc.devRef .tc main_v103) = _
    after_reads_simp
    try simp only [h4]
    try rfl
  · show upto (hostOps0 (F := Ideal)) (fun b => m (c, b)) 122 (Proc.devRef .tc main_arg4) = _
    after_reads_simp
    try simp only [h4]
    try rfl
  · show upto (hostOps0 (F := Ideal)) (fun b => m (c, b)) 122 (Proc.devRef .tc main_arg4) = _
    after_reads_simp
    try simp only [h4]
    try rfl
  · show upto (hostOps0 (F := Ideal)) (fun b => m (c, b)) 122 (Proc.devRef .tc main_v103) = _
    after_reads_simp
    try simp only [h4]
    try rfl

/-! ### Entry by entry -/

include h0 h1 h3 h4 in
set_option maxHeartbeats 4000000 in
theorem entry_total (y : Fin 4096) (x : Fin 512) :
    V m c main_v108 (ix2 y x) = Ideal.log (refTotal V0 (ix2 ⟨x.val / 64, by omega⟩ y)) := by
  after_reads_simp [total_123 V0 m c h0 h1 h3 h4]
  pointwise

include h0 h1 h2 h3 h4 h5 in
set_option maxHeartbeats 4000000 in
theorem entry_product (y : Fin 4096) (x : Fin 512) :
    V m c main_v111 (ix2 y x) = ∑ z : Fin 64, refA5 V0 (ix2 y ⟨x.val / 64 * 64 + z.val, by omega⟩)
      * ∑ b : Fin 3, refShares V0 (ix3 b ⟨x.val / 64, by omega⟩ y) * refOuts V0 (ix4 b ⟨x.val / 64, by omega⟩ y z) := by
  after_reads_simp [outs_104 V0 m c h0 h1 h2 h3 h4, shares_102 V0 m c h0 h1 h3 h4]
  simp only [h5]
  pointwise

include h0 h1 h2 h3 h4 in
set_option maxHeartbeats 4000000 in
theorem entry_queries (g : Fin 4) (y : Fin 4096) (x : Fin 128) :
    V m c main_v100 (ix2 y ⟨128 * g.val + x.val, by omega⟩) = refQ V0 (ix3 y (headOf g x) (chan x)) := by
  refine (congrFun (columns_100 V0 m c h0 h1 h2 h3 h4) _).trans ?_
  pointwise
  refine (dif_pos (show 128 * g.val + x.val < 512 by omega)).trans ?_
  exact congrArg (refQ V0) (congrArg₂ (ix3 y) (Fin.ext (by simp only [headOf]; omega)) (Fin.ext (by simp only [chan]; omega)))

include h0 h1 h2 h3 h4 in
set_option maxHeartbeats 4000000 in
theorem entry_keys (g : Fin 4) (y : Fin 4096) (x : Fin 128) :
    V m c main_v100 (ix2 y ⟨512 + 128 * g.val + x.val, by omega⟩) = refK V0 (ix3 y (headOf g x) (chan x)) := by
  refine (congrFun (columns_100 V0 m c h0 h1 h2 h3 h4) _).trans ?_
  pointwise
  refine (dif_neg (show ¬(512 + 128 * g.val + x.val < 512) by omega)).trans ((dif_pos (show 512 + 128 * g.val + x.val - 512 < 512 by omega)).trans ?_)
  exact congrArg (refK V0) (congrArg₂ (ix3 y) (Fin.ext (by simp only [headOf]; omega)) (Fin.ext (by simp only [chan]; omega)))

include h0 h1 h2 h3 h4 in
set_option maxHeartbeats 4000000 in
theorem entry_values (g : Fin 4) (y : Fin 4096) (x : Fin 128) :
    V m c main_v100 (ix2 y ⟨1024 + 128 * g.val + x.val, by omega⟩) = refA2 V0 (ix2 y (column g x)) := by
  refine (congrFun (columns_100 V0 m c h0 h1 h2 h3 h4) _).trans ?_
  pointwise
  refine (dif_neg (show ¬(1024 + 128 * g.val + x.val < 512) by omega)).trans ((dif_neg (show ¬(1024 + 128 * g.val + x.val - 512 < 512) by omega)).trans
    ((dif_pos (show 1024 + 128 * g.val + x.val - 512 - 512 < 512 by omega)).trans ?_))
  exact congrArg (refA2 V0) (congrArg (ix2 y) (Fin.ext (by simp only [column]; omega)))

include h3 in
set_option maxHeartbeats 4000000 in
theorem entry_cosines (y : Fin 4096) (x : Fin 128) :
    V m c main_v102 (ix2 y x) = if x.val % 64 < 16 then refA3 V0 (ix2 y ⟨x.val % 8, by omega⟩) else 1 := by
  refine (congrFun (cosines_102 V0 m c h3) _).trans ?_
  pointwise
  by_cases c0 : x.val < 8
  · exact (dif_pos c0).trans (Eq.trans (congrArg (refA3 V0) (congrArg (ix2 y) (Fin.ext (by simp only; omega)))) (if_pos (by omega)).symm)
  refine (dif_neg c0).trans ?_
  by_cases c1 : x.val - 8 < 8
  · exact (dif_pos c1).trans (Eq.trans (congrArg (refA3 V0) (congrArg (ix2 y) (Fin.ext (by simp only; omega)))) (if_pos (by omega)).symm)
  refine (dif_neg c1).trans ?_
  by_cases c2 : x.val - 8 - 8 < 48
  · exact (dif_pos c2).trans (if_neg (by omega)).symm
  refine (dif_neg c2).trans ?_
  by_cases c3 : x.val - 8 - 8 - 48 < 8
  · exact (dif_pos c3).trans (Eq.trans (congrArg (refA3 V0) (congrArg (ix2 y) (Fin.ext (by simp only; omega)))) (if_pos (by omega)).symm)
  refine (dif_neg c3).trans ?_
  by_cases c4 : x.val - 8 - 8 - 48 - 8 < 8
  · exact (dif_pos c4).trans (Eq.trans (congrArg (refA3 V0) (congrArg (ix2 y) (Fin.ext (by simp only; omega)))) (if_pos (by omega)).symm)
  exact (dif_neg c4).trans (if_neg (by omega)).symm

include h4 in
set_option maxHeartbeats 4000000 in
theorem entry_sines (y : Fin 4096) (x : Fin 128) :
    V m c main_v104 (ix2 y x) = if x.val % 64 < 16 then refA4 V0 (ix2 y ⟨x.val % 8, by omega⟩) else 0 := by
  refine (congrFun (sines_104 V0 m c h4) _).trans ?_
  pointwise
  by_cases c0 : x.val < 8
  · exact (dif_pos c0).trans (Eq.trans (congrArg (refA4 V0) (congrArg (ix2 y) (Fin.ext (by simp only; omega)))) (if_pos (by omega)).symm)
  refine (dif_neg c0).trans ?_
  by_cases c1 : x.val - 8 < 8
  · exact (dif_pos c1).trans (Eq.trans (congrArg (refA4 V0) (congrArg (ix2 y) (Fin.ext (by simp only; omega)))) (if_pos (by omega)).symm)
  refine (dif_neg c1).trans ?_
  by_cases c2 : x.val - 8 - 8 < 48
  · exact (dif_pos c2).trans (if_neg (by omega)).symm
  refine (dif_neg c2).trans ?_
  by_cases c3 : x.val - 8 - 8 - 48 < 8
  · exact (dif_pos c3).trans (Eq.trans (congrArg (refA4 V0) (congrArg (ix2 y) (Fin.ext (by simp only; omega)))) (if_pos (by omega)).symm)
  refine (dif_neg c3).trans ?_
  by_cases c4 : x.val - 8 - 8 - 48 - 8 < 8
  · exact (dif_pos c4).trans (Eq.trans (congrArg (refA4 V0) (congrArg (ix2 y) (Fin.ext (by simp only; omega)))) (if_pos (by omega)).symm)
  exact (dif_neg c4).trans (if_neg (by omega)).symm

end Cert.KernelIdeal.Tiles

end
-- ==== Proof.Lanes.lean ====
module
public import proofs.«01_k».proof.Proof.Block
public import proofs.«01_k».proof.Proof.Reals
@[expose] public section

/-!
  The kernel's rows when they hold real numbers.  Two heads lie side by side in 128 lanes.  When the rows hold real
  queries, keys, values and gradients, the logarithm of each row's total and its product of result and gradient, the sums
  over the three branches are the gradients of the two heads.
-/

noncomputable section

namespace Cert.Attention
open Idealize.ShloMosaic

/-- Channel `z` of head `h` of a pair. -/
def lane (h : Fin 2) (z : Fin 64) : Fin 128 := ⟨64 * h.val + z.val, by omega⟩

theorem side_lane (h : Fin 2) (z : Fin 64) : side (lane h z) = h := Fin.ext (by simp only [side, lane]; omega)
theorem chan_lane (h : Fin 2) (z : Fin 64) : chan (lane h z) = z := Fin.ext (by simp only [chan, lane]; omega)
theorem side_first (h : Fin 2) : side (first h) = h := Fin.ext (by simp only [side, first]; omega)

theorem sum_lanes (f : Fin 128 → EReal) : ∑ c, f c = ∑ h : Fin 2, ∑ z : Fin 64, f (lane h z) := by
  rw [← Fintype.sum_prod_type']
  refine (Fintype.sum_equiv (finProdFinEquiv (m := 2) (n := 64)) _ _ fun p => congrArg f (Fin.ext ?_)).symm
  show 64 * p.1.val + p.2.val = p.2.val + 64 * p.1.val
  omega

/-- A product over all lanes, one side cut to a head, is the product over the lanes of that head. -/
theorem sum_only (h : Fin 2) (f k : Fin 128 → EReal) : ∑ c, only h f c * k c = ∑ z, f (lane h z) * k (lane h z) := by
  rw [sum_lanes, Finset.sum_eq_single h]
  · refine Finset.sum_congr rfl fun z _ => ?_
    rw [only, if_pos (side_lane h z)]
  · intro h' _ hne
    refine Finset.sum_eq_zero fun z _ => ?_
    rw [only, if_neg (by rw [side_lane]; exact hne), zero_mul]
  · exact fun hn => absurd (Finset.mem_univ h) hn

/-- The rows of a pair hold the real numbers of two heads. -/
structure Rows.Holds (R : Rows (Fin 4096) (Fin 4096)) (P : Fin 2 → Head (Fin 4096) (Fin 64)) : Prop where
  q : ∀ i x, R.q i x = ((P (side x)).q i (chan x) : EReal)
  k : ∀ i x, R.k i x = ((P (side x)).k i (chan x) : EReal)
  v : ∀ i x, R.v i x = ((P (side x)).v i (chan x) : EReal)
  g : ∀ i x, R.g i x = ((P (side x)).g i (chan x) : EReal)
  l : ∀ i x, R.l i x = (Real.log ((P (side x)).total sees i) : EReal)
  e : ∀ i x, R.e i x = ((P (side x)).delta sees i : EReal)

variable {R : Rows (Fin 4096) (Fin 4096)} {P : Fin 2 → Head (Fin 4096) (Fin 64)} (hR : R.Holds P)
include hR

theorem Rows.Holds.qs (i : Fin 4096) (x : Fin 128) : R.qs i x = (((P (side x)).q i (chan x) * (1 / 8) : ℝ) : EReal) := by
  rw [Rows.qs, hR.q, eighth, scale_eq, ← EReal.coe_mul]

theorem Rows.Holds.score (h : Fin 2) (i j : Fin 4096) : R.score h i j = (((P h).score i j : ℝ) : EReal) := by
  rw [Rows.score, sum_only]
  simp only [hR.qs, hR.k, side_lane, chan_lane, ← EReal.coe_mul, sum_coe]
  congr 1
  unfold Head.score
  rw [Finset.sum_mul]
  exact Finset.sum_congr rfl fun z _ => by ring

theorem Rows.Holds.dprob (h : Fin 2) (i j : Fin 4096) : R.dprob h i j = ((∑ x, (P h).g i x * (P h).v j x : ℝ) : EReal) := by
  rw [Rows.dprob, sum_only]
  simp only [hR.g, hR.v, side_lane, chan_lane, ← EReal.coe_mul, sum_coe]

theorem Rows.Holds.prob (b : Fin 3) (h : Fin 2) (i j : Fin 4096) :
    R.prob (dilation b) h i j = (((P h).joint sees b i j : ℝ) : EReal) := by
  unfold Rows.prob Rows.probAt mask Head.joint Head.expo
  rw [hR.score, hR.l, side_first]
  by_cases hb : band (dilation b) i j
  · rw [if_pos hb, if_pos (show sees b i j from hb), add_zero, ← EReal.coe_sub, Ideal.exp_coe, Real.exp_sub,
      Real.exp_log ((P h).total_pos sees sees_self i)]
  · rw [if_neg hb, if_neg (show ¬sees b i j from hb), EReal.add_bot, EReal.bot_sub, Ideal.exp_bot, zero_div, EReal.coe_zero]

theorem Rows.Holds.dscore (b : Fin 3) (h : Fin 2) (i j : Fin 4096) :
    R.dscore (dilation b) h i j = (((P h).slope sees b i j : ℝ) : EReal) := by
  show R.prob (dilation b) h i j * (R.dprob h i j - R.e i (first h)) = _
  rw [hR.prob, hR.dprob, hR.e, side_first, ← EReal.coe_sub, ← EReal.coe_mul]
  rfl

theorem Rows.Holds.dq (b : Fin 3) (i : Fin 4096) (x : Fin 128) :
    R.dq (dilation b) i x = (((P (side x)).dqOf sees b i (chan x) : ℝ) : EReal) := by
  unfold Rows.dq
  rw [eighth, scale_eq]
  simp only [hR.dscore, hR.k, ← EReal.coe_mul, sum_coe]
  rfl

theorem Rows.Holds.dk (b : Fin 3) (j : Fin 4096) (x : Fin 128) :
    R.dk (dilation b) j x = (((P (side x)).dkOf sees b j (chan x) : ℝ) : EReal) := by
  unfold Rows.dk
  simp only [hR.dscore, hR.qs, ← EReal.coe_mul, sum_coe]
  rfl

theorem Rows.Holds.dv (b : Fin 3) (j : Fin 4096) (x : Fin 128) :
    R.dv (dilation b) j x = (((P (side x)).dvOf sees b j (chan x) : ℝ) : EReal) := by
  unfold Rows.dv
  simp only [hR.prob, hR.g, ← EReal.coe_mul, sum_coe]
  rfl

omit hR in
theorem three (f : Fin 3 → ℝ) : (0 : EReal) + (f 0 : ℝ) + (f 1 : ℝ) + (f 2 : ℝ) = ((∑ b, f b : ℝ) : EReal) := by
  rw [Fin.sum_univ_three, zero_add, ← EReal.coe_add, ← EReal.coe_add]

theorem Rows.Holds.sumQueries (y : Fin 4096) (x : Fin 128) :
    R.sumQueries y x = (((P (side x)).dq sees y (chan x) : ℝ) : EReal) := by
  rw [(P (side x)).dq_eq sees sees_self, ← three]
  exact congrArg₂ (· + ·) (congrArg₂ (· + ·) (congrArg (0 + ·) (hR.dq 0 y x)) (hR.dq 1 y x)) (hR.dq 2 y x)

theorem Rows.Holds.sumKeys (y : Fin 4096) (x : Fin 128) :
    R.sumKeys y x = (((P (side x)).dk sees y (chan x) : ℝ) : EReal) := by
  rw [(P (side x)).dk_eq sees sees_self, ← three]
  exact congrArg₂ (· + ·) (congrArg₂ (· + ·) (congrArg (0 + ·) (hR.dk 0 y x)) (hR.dk 1 y x)) (hR.dk 2 y x)

theorem Rows.Holds.sumValues (y : Fin 4096) (x : Fin 128) :
    R.sumValues y x = (((P (side x)).dv sees y (chan x) : ℝ) : EReal) := by
  rw [(P (side x)).dv_eq sees sees_self, ← three]
  exact congrArg₂ (· + ·) (congrArg₂ (· + ·) (congrArg (0 + ·) (hR.dv 0 y x)) (hR.dv 1 y x)) (hR.dv 2 y x)

omit hR in
/-- The lanes turned back are the channels of each head turned back. -/
theorem turned_eq (C S D : Fin 4096 → Fin 128 → EReal) (cos sin : Fin 4096 → Fin 8 → ℝ) (d : Fin 2 → Fin 4096 → Fin 64 → ℝ)
    (hC : ∀ y x, C y x = if x.val % 64 < 16 then (cos y ⟨x.val % 8, by omega⟩ : EReal) else 1)
    (hS : ∀ y x, S y x = if x.val % 64 < 16 then (sin y ⟨x.val % 8, by omega⟩ : EReal) else 0)
    (hD : ∀ y x, D y x = (d (side x) y (chan x) : EReal)) (y : Fin 4096) (x : Fin 128) :
    turned C S D y x = ((turn (cos y) (sin y) (d (side x) y) (chan x) : ℝ) : EReal) := by
  have hb : (back x).val = (x.val + 128 - 8) % 128 := rfl
  have ha : (ahead x).val = (x.val + 128 - 120) % 128 := rfl
  have hx : (chan x).val = x.val % 64 := rfl
  unfold turned turn
  by_cases c0 : x.val % 64 < 8
  · rw [if_pos (show x.val % 64 < 16 by omega), if_neg (show ¬(back x).val % 64 < 8 by omega),
      if_pos (show 8 ≤ (ahead x).val % 64 ∧ (ahead x).val % 64 < 16 by omega), dif_pos (show (chan x).val < 8 from c0), hC, hS, hD, hD,
      if_pos (show x.val % 64 < 16 by omega), if_pos (show (ahead x).val % 64 < 16 by omega)]
    have e1 : (⟨x.val % 8, by omega⟩ : Fin 8) = ⟨(chan x).val, c0⟩ := Fin.ext (by simp only; omega)
    have e2 : (⟨(ahead x).val % 8, by omega⟩ : Fin 8) = ⟨(chan x).val, c0⟩ := Fin.ext (by simp only; omega)
    have e3 : side (ahead x) = side x := Fin.ext (by simp only [side]; omega)
    have e4 : chan (ahead x) = ⟨8 + (chan x).val, by omega⟩ := Fin.ext (by simp only [chan]; omega)
    rw [e1, e2, e3, e4, add_zero]
    simp only [← EReal.coe_mul, ← EReal.coe_add]
  by_cases c1 : x.val % 64 - 8 < 8
  · rw [if_pos (show x.val % 64 < 16 by omega), if_pos (show (back x).val % 64 < 8 by omega),
      if_neg (show ¬(8 ≤ (ahead x).val % 64 ∧ (ahead x).val % 64 < 16) by omega), dif_neg (show ¬(chan x).val < 8 from c0),
      dif_pos (show (chan x).val - 8 < 8 from c1), hC, hS, hD, hD,
      if_pos (show x.val % 64 < 16 by omega), if_pos (show (back x).val % 64 < 16 by omega)]
    have e1 : (⟨x.val % 8, by omega⟩ : Fin 8) = ⟨(chan x).val - 8, c1⟩ := Fin.ext (by simp only; omega)
    have e2 : (⟨(back x).val % 8, by omega⟩ : Fin 8) = ⟨(chan x).val - 8, c1⟩ := Fin.ext (by simp only; omega)
    have e3 : side (back x) = side x := Fin.ext (by simp only [side]; omega)
    have e4 : chan (back x) = ⟨(chan x).val - 8, by omega⟩ := Fin.ext (by simp only [chan]; omega)
    rw [e1, e2, e3, e4, add_zero, zero_sub]
    simp only [← EReal.coe_neg, ← EReal.coe_mul, ← EReal.coe_add]
    congr 1
    ring
  · rw [if_neg (show ¬x.val % 64 < 16 by omega), if_neg (show ¬(back x).val % 64 < 8 by omega),
      if_neg (show ¬(8 ≤ (ahead x).val % 64 ∧ (ahead x).val % 64 < 16) by omega), dif_neg (show ¬(chan x).val < 8 from c0),
      dif_neg (show ¬(chan x).val - 8 < 8 from c1), hD, add_zero, add_zero, one_mul]

end Cert.Attention
-- ==== Proof.Reference.lean ====
module
public import proofs.«01_k».proof.Proof.Gen.ReferenceIdeal.Run
public import Idealize.ShloMosaic.Lib.Pointwise
public import proofs.«01_k».proof.Proof.Reals
@[expose] public section

/-!
  The reference program over the extended reals.  When the rotated queries and keys, the values and the gradient hold
  real numbers, every array the program computes holds the real number its formula says: scores, exponentials, sums,
  probabilities, shares, outputs, and what reaches each of them on the way back.
-/

set_option maxRecDepth 16384
noncomputable section

namespace Cert.ReferenceIdeal.Value
open Idealize.ShloMosaic Idealize.ShloMosaic.StableHlo Idealize.ShloMosaic.TcCoe Idealize.SL.Sem
open Cert.ReferenceIdeal Cert.ReferenceIdeal.Gen Cert.Attention
variable (V0 : Valuation τ sig (Elt Ideal)) (H : Fin 8 → Head (Fin 4096) (Fin 64))
  (hq : ∀ i h x, (res_main_v16 V0 : FVec Ideal S4096x8x64 .f32) (ix3 i h x) = ((H h).q i x : EReal))
  (hk : ∀ i h x, (res_main_v33 V0 : FVec Ideal S4096x8x64 .f32) (ix3 i h x) = ((H h).k i x : EReal))
  (hv : ∀ i h x, (res_main_v34 V0 : FVec Ideal S4096x8x64 .f32) (ix3 i h x) = ((H h).v i x : EReal))
  (hg : ∀ b h i x, (res_main_v98 V0 : FVec Ideal S3x8x4096x64 .f32) (ix4 b h i x) = ((H h).g i x : EReal))

set_option maxHeartbeats 1000000 in
theorem mask_at (b : Fin 3) (h : Fin 8) (i j : Fin 4096) :
    (res_main_v68 V0 : IVec S3x8x4096x4096 1) (ix4 b h i j) = if sees b i j then 1#1 else 0#1 := by
  pointwise [res_main_v68, res_main_v41]
  unfold sees dilation
  by_cases h0 : b.val < 1
  · refine (dif_pos h0).trans ?_
    rw [if_pos h0]
    exact band_bits 1 (by omega) i j
  refine (dif_neg h0).trans ?_
  rw [if_neg h0]
  by_cases h1 : b.val - 1 < 1
  · refine (dif_pos h1).trans ?_
    rw [if_pos h1]
    exact band_bits 4 (by omega) i j
  refine (dif_neg h1).trans ?_
  rw [if_neg h1]
  exact band_bits 16 (by omega) i j

include hq hk in
theorem score_at (b : Fin 3) (h : Fin 8) (i j : Fin 4096) :
    (res_main_v72 V0 : FVec Ideal S3x8x4096x4096 .f32) (ix4 b h i j) = if sees b i j then (((H h).score i j : ℝ) : EReal) else ⊥ := by
  pointwise [res_main_v72]
  rw [mask_at, select_if, scale_eq]
  simp only [hq, hk, ← EReal.coe_mul, sum_coe]
  refine if_congr Iff.rfl rfl ?_
  simp [Ideal.ofBits, Ideal.ieee]

include hq hk in
theorem expo_at (b : Fin 3) (h : Fin 8) (i j : Fin 4096) :
    (res_main_v74 V0 : FVec Ideal S3x8x4096x4096 .f32) (ix4 b h i j) = (((H h).expo sees b i j : ℝ) : EReal) := by
  pointwise [res_main_v74]
  rw [score_at V0 H hq hk]
  unfold Head.expo
  split
  · exact Ideal.exp_coe _
  · exact Ideal.exp_bot

include hq hk in
theorem mass_at (b : Fin 3) (h : Fin 8) (i : Fin 4096) :
    (res_main_v75 V0 : FVec Ideal S3x8x4096 .f32) (ix3 b h i) = (((H h).mass sees b i : ℝ) : EReal) := by
  pointwise [res_main_v75]
  simp only [expo_at V0 H hq hk, sum_coe]
  rfl

include hq hk in
theorem logMass_at (b : Fin 3) (h : Fin 8) (i : Fin 4096) :
    (res_main_v76 V0 : FVec Ideal S3x8x4096 .f32) (ix3 b h i) = ((Real.log ((H h).mass sees b i) : ℝ) : EReal) := by
  pointwise [res_main_v76]
  rw [mass_at V0 H hq hk]
  exact log_pos ((H h).mass_pos sees sees_self b i)

include hq hk in
theorem prob_at (b : Fin 3) (h : Fin 8) (i j : Fin 4096) :
    (res_main_v80 V0 : FVec Ideal S3x8x4096x4096 .f32) (ix4 b h i j) = (((H h).prob sees b i j : ℝ) : EReal) := by
  pointwise [res_main_v80]
  rw [score_at V0 H hq hk, logMass_at V0 H hq hk]
  unfold Head.prob Head.expo
  split
  · rw [← EReal.coe_sub, Ideal.exp_coe, Real.exp_sub, Real.exp_log ((H h).mass_pos sees sees_self b i)]
  · rw [EReal.bot_sub, Ideal.exp_bot, zero_div, EReal.coe_zero]

include hq hk hv in
theorem out_at (b : Fin 3) (h : Fin 8) (i : Fin 4096) (x : Fin 64) :
    (res_main_v82 V0 : FVec Ideal S3x8x4096x64 .f32) (ix4 b h i x) = (((H h).out sees b i x : ℝ) : EReal) := by
  pointwise [res_main_v82]
  simp only [prob_at V0 H hq hk, hv, ← EReal.coe_mul, sum_coe]
  rfl

include hq hk in
theorem expLogMass_at (b : Fin 3) (h : Fin 8) (i : Fin 4096) :
    (res_main_v83 V0 : FVec Ideal S3x8x4096 .f32) (ix3 b h i) = (((H h).mass sees b i : ℝ) : EReal) := by
  pointwise [res_main_v83]
  rw [logMass_at V0 H hq hk, Ideal.exp_coe, Real.exp_log ((H h).mass_pos sees sees_self b i)]

include hq hk in
theorem total_at (h : Fin 8) (i : Fin 4096) :
    (res_main_v84 V0 : FVec Ideal S8x4096 .f32) (ix2 h i) = (((H h).total sees i : ℝ) : EReal) := by
  pointwise [res_main_v84]
  simp only [expLogMass_at V0 H hq hk, sum_coe]
  rfl

include hq hk in
theorem share_at (b : Fin 3) (h : Fin 8) (i : Fin 4096) :
    (res_main_v89 V0 : FVec Ideal S3x8x4096 .f32) (ix3 b h i) = (((H h).share sees b i : ℝ) : EReal) := by
  pointwise [res_main_v89]
  rw [logMass_at V0 H hq hk, total_at V0 H hq hk, log_pos ((H h).total_pos sees sees_self i), ← EReal.coe_sub, Ideal.exp_coe, Real.exp_sub,
    Real.exp_log ((H h).mass_pos sees sees_self b i), Real.exp_log ((H h).total_pos sees sees_self i)]
  rfl

include hq hk in
theorem shareColumn_at (b : Fin 3) (h : Fin 8) (i : Fin 4096) (u : Fin 1) :
    (res_main_v90 V0 : FVec Ideal S3x8x4096x1 .f32) (ix4 b h i u) = (((H h).share sees b i : ℝ) : EReal) := by
  pointwise [res_main_v90]
  exact share_at V0 H hq hk b h i

include hq hk hv hg in
theorem pull_at (b : Fin 3) (h : Fin 8) (i : Fin 4096) :
    (res_main_v105 V0 : FVec Ideal S3x8x4096 .f32) (ix3 b h i) = (((H h).pull sees b i : ℝ) : EReal) := by
  pointwise [res_main_v105]
  simp only [hg, out_at V0 H hq hk hv, share_at V0 H hq hk, ← EReal.coe_mul, sum_coe, Finset.univ_unique, Finset.sum_singleton]
  rfl

include hq hk hg in
theorem weighted_at (b : Fin 3) (h : Fin 8) (i : Fin 4096) (x : Fin 64) :
    (res_main_v114 V0 : FVec Ideal S8x64x3x4096 .f32) (ix4 h x b i) = (((H h).share sees b i * (H h).g i x : ℝ) : EReal) := by
  pointwise [res_main_v114]
  simp only [hg, shareColumn_at V0 H hq hk, ← EReal.coe_mul]

include hq hk hv hg in
theorem along_at (b : Fin 3) (h : Fin 8) (i j : Fin 4096) :
    (res_main_v119 V0 : FVec Ideal S3x8x4096x4096 .f32) (ix4 b h i j) = (((H h).along sees b i j : ℝ) : EReal) := by
  pointwise [res_main_v119]
  simp only [weighted_at V0 H hq hk hg, hv, prob_at V0 H hq hk, ← EReal.coe_mul, sum_coe]
  rfl

include hq hk hv hg in
theorem dscore_at (h : Fin 8) (i j : Fin 4096) :
    (res_main_v135 V0 : FVec Ideal S8x4096x4096 .f32) (ix3 h i j) = (((H h).dscore sees i j : ℝ) : EReal) := by
  pointwise [res_main_v135]
  have hz := fun b => ((H h).mass_pos sees sees_self b i).ne'
  have hw := ((H h).total_pos sees sees_self i).ne'
  have hc (p : Prop) [Decidable p] (a : ℝ) : (if p then (a : EReal) else 0) = ((if p then a else 0 : ℝ) : EReal) := by split <;> rfl
  rw [scale_eq]
  simp only [mask_at, select_if, along_at V0 H hq hk hv hg, pull_at V0 H hq hk hv hg, total_at V0 H hq hk, expLogMass_at V0 H hq hk,
    mass_at V0 H hq hk, expo_at V0 H hq hk, ← EReal.coe_neg, sum_coe, Finset.univ_unique, Finset.sum_singleton, div_real _ hw,
    ← EReal.coe_mul, ← EReal.coe_add, div_real _ (hz _), Ideal.ofBits_zero_f32, hc]
  rfl

include hq hk hv hg in
theorem dk_at (j : Fin 4096) (h : Fin 8) (x : Fin 64) :
    (res_main_v137 V0 : FVec Ideal S4096x8x64 .f32) (ix3 j h x) = (((H h).dk sees j x : ℝ) : EReal) := by
  pointwise [res_main_v137]
  simp only [dscore_at V0 H hq hk hv hg, hq, ← EReal.coe_mul, sum_coe]
  rfl

include hq hk hv hg in
theorem dq_at (i : Fin 4096) (h : Fin 8) (x : Fin 64) :
    (res_main_v139 V0 : FVec Ideal S4096x8x64 .f32) (ix3 i h x) = (((H h).dq sees i x : ℝ) : EReal) := by
  pointwise [res_main_v139]
  simp only [dscore_at V0 H hq hk hv hg, hk, ← EReal.coe_mul, sum_coe]
  rfl

/-- The gradient of the values, before it is laid out in columns. -/
def valueGradient : FVec Ideal S8x64x4096 .f32 := Host.dotGeneral (φ₁ := .f32) (φ₂ := .f32) dot_S8x64x3x4096_S3x8x4096x4096_S8x64x4096_23_02_1_3_0_1 none (res_main_v114 V0 : FVec Ideal S8x64x3x4096 .f32) (res_main_v80 V0 : FVec Ideal S3x8x4096x4096 .f32)

include hq hk hg in
theorem value_at (h : Fin 8) (x : Fin 64) (j : Fin 4096) :
    valueGradient V0 (ix3 h x j) = (((H h).dv sees j x : ℝ) : EReal) := by
  pointwise [valueGradient]
  simp only [weighted_at V0 H hq hk hg, prob_at V0 H hq hk, ← EReal.coe_mul, sum_coe]
  rfl

/-- The gradient of a rotated array turned back: each head's first sixteen channels are turned, eight against eight. -/
def unrotate (D : FVec Ideal S4096x8x64 .f32) (lo hi : FVec Ideal S4096x8x8 .f32) (C S : FVec Ideal S4096x1x8 .f32) :
    FVec Ideal S4096x8x64 .f32 := addf (addf (pad S4096x8x64 ![0, 0, 16] ![0, 0, 0] ![0, 0, 0] (extractStridedSlice S4096x8x48 ![0, 0, 16] D slices_S4096x8x64_S4096x8x48_0_0_16) (constant S_ .f32 0x00000000#32) pads_S4096x8x48_S4096x8x64_000_000_1600 h_S_) (pad S4096x8x64 ![0, 0, 8] ![0, 0, 48] ![0, 0, 0] (addf (mulf hi (broadcastInDim S4096x8x8 ![0, 1, 2] bcast_S4096x1x8_S4096x8x8_0_1_2 C)) (mulf (Host.negf lo) (broadcastInDim S4096x8x8 ![0, 1, 2] bcast_S4096x1x8_S4096x8x8_0_1_2 S))) (constant S_ .f32 0x00000000#32) pads_S4096x8x8_S4096x8x64_000_000_8480 h_S_)) (pad S4096x8x64 ![0, 0, 0] ![0, 0, 56] ![0, 0, 0] (addf (mulf hi (broadcastInDim S4096x8x8 ![0, 1, 2] bcast_S4096x1x8_S4096x8x8_0_1_2 S)) (mulf lo (broadcastInDim S4096x8x8 ![0, 1, 2] bcast_S4096x1x8_S4096x8x8_0_1_2 C))) (constant S_ .f32 0x00000000#32) pads_S4096x8x8_S4096x8x64_000_000_0560 h_S_)

set_option maxHeartbeats 1000000 in
theorem unrotate_at (D : FVec Ideal S4096x8x64 .f32) (lo hi : FVec Ideal S4096x8x8 .f32) (C S : FVec Ideal S4096x1x8 .f32)
    (d : Fin 4096 → Fin 8 → Fin 64 → ℝ) (c s : Fin 4096 → Fin 8 → ℝ) (hD : ∀ i h x, D (ix3 i h x) = (d i h x : EReal))
    (hlo : ∀ i h (y : Fin 8), lo (ix3 i h y) = D (ix3 i h ⟨y.val, by omega⟩)) (hhi : ∀ i h (y : Fin 8), hi (ix3 i h y) = D (ix3 i h ⟨8 + y.val, by omega⟩))
    (hC : ∀ i u y, C (ix3 i u y) = (c i y : EReal)) (hS : ∀ i u y, S (ix3 i u y) = (s i y : EReal)) (i : Fin 4096) (h : Fin 8) (x : Fin 64) :
    unrotate D lo hi C S (ix3 i h x) = ((turn (c i) (s i) (d i h) x : ℝ) : EReal) := by
  pointwise [unrotate]
  simp only [hlo, hhi, hC, hS, hD]
  unfold turn
  by_cases c0 : x.val < 8
  · rw [dif_neg (by omega), dif_neg (by omega), dif_pos c0, dif_pos c0, zero_add, zero_add]
    simp only [← EReal.coe_mul, ← EReal.coe_add]
    congr 1
    ring
  by_cases c1 : x.val - 8 < 8
  · rw [dif_neg (by omega), dif_pos ⟨by omega, c1⟩, dif_neg c0, dif_neg c0, dif_pos c1, zero_add, add_zero]
    have e : (⟨8 + (x.val - 8), by omega⟩ : Fin 64) = x := Fin.ext (by simp only; omega)
    rw [e]
    simp only [← EReal.coe_mul, ← EReal.coe_add, ← EReal.coe_neg]
    congr 1
    ring
  · rw [dif_pos ⟨by omega, by omega⟩, dif_neg (by omega), dif_neg c0, dif_neg c0, dif_neg c1, add_zero, add_zero]
    have e : (⟨16 + (x.val - 16), by omega⟩ : Fin 64) = x := Fin.ext (by simp only; omega)
    rw [e]

/-- The result array of the reference. -/
def result : FVec Ideal S3x4096x512 .bf16 := truncf .bf16 ((concatenate S3x4096x512 0 [⟨S1x4096x512, ((broadcastInDim S1x4096x512 ![1, 2] bcast_S4096x512_S1x4096x512_1_2 (shapeCast _ (unrotate (res_main_v139 V0) (res_main_v161 V0) (res_main_v162 V0) (res_main_v3 V0) (res_main_v4 V0)) shapeCasts_S4096x8x64_S4096x512)) : (⟨S1x4096x512, .f32⟩ : BufTy).Contents (Elt Ideal))⟩, ⟨S1x4096x512, ((broadcastInDim S1x4096x512 ![1, 2] bcast_S4096x512_S1x4096x512_1_2 (shapeCast _ (unrotate (res_main_v137 V0) (res_main_v141 V0) (res_main_v142 V0) (res_main_v20 V0) (res_main_v21 V0)) shapeCasts_S4096x8x64_S4096x512)) : (⟨S1x4096x512, .f32⟩ : BufTy).Contents (Elt Ideal))⟩, ⟨S1x4096x512, ((broadcastInDim S1x4096x512 ![1, 2] bcast_S4096x512_S1x4096x512_1_2 (shapeCast _ (transpose S4096x8x64 [2, 0, 1] (valueGradient V0) transposes_S8x64x4096_S4096x8x64_2_0_1) shapeCasts_S4096x8x64_S4096x512)) : (⟨S1x4096x512, .f32⟩ : BufTy).Contents (Elt Ideal))⟩] concatenates_S1x4096x512_S1x4096x512_S1x4096x512_S3x4096x512_d0 : (⟨S3x4096x512, .f32⟩ : BufTy).Contents (Elt Ideal))) bitsLt_bf16_f32

section
variable (cos sin : Fin 4096 → Fin 8 → ℝ)
  (hc : ∀ i y, (V0 (Proc.devRef .tc main_arg3) : FVec Ideal S4096x8 .f32) (ix2 i y) = (cos i y : EReal))
  (hs : ∀ i y, (V0 (Proc.devRef .tc main_arg4) : FVec Ideal S4096x8 .f32) (ix2 i y) = (sin i y : EReal))

include hq hk hv hg hc hs in
theorem result_queries (y : Fin 4096) (z : Fin 512) : result V0 (ix3 0 y z)
    = ((turn (cos y) (sin y) ((H ⟨z.val / 64, by omega⟩).dq sees y) ⟨z.val % 64, by omega⟩ : ℝ) : EReal) := by
  pointwise [result]
  refine unrotate_at _ _ _ _ _ (fun i h x => (H h).dq sees i x) cos sin (dq_at V0 H hq hk hv hg) (fun i h y => ?_) (fun i h y => ?_) (fun i u y => ?_) (fun i u y => ?_) _ _ _
  · pointwise [res_main_v161]
  · pointwise [res_main_v162]
  · pointwise [res_main_v3]; exact hc i y
  · pointwise [res_main_v4]; exact hs i y

include hq hk hv hg hc hs in
theorem result_keys (y : Fin 4096) (z : Fin 512) : result V0 (ix3 1 y z)
    = ((turn (cos y) (sin y) ((H ⟨z.val / 64, by omega⟩).dk sees y) ⟨z.val % 64, by omega⟩ : ℝ) : EReal) := by
  pointwise [result]
  refine unrotate_at _ _ _ _ _ (fun i h x => (H h).dk sees i x) cos sin (dk_at V0 H hq hk hv hg) (fun i h y => ?_) (fun i h y => ?_) (fun i u y => ?_) (fun i u y => ?_) _ _ _
  · pointwise [res_main_v141]
  · pointwise [res_main_v142]
  · pointwise [res_main_v20]; exact hc i y
  · pointwise [res_main_v21]; exact hs i y

include hq hk hg in
theorem result_values (y : Fin 4096) (z : Fin 512) : result V0 (ix3 2 y z)
    = (((H ⟨z.val / 64, by omega⟩).dv sees y ⟨z.val % 64, by omega⟩ : ℝ) : EReal) := by
  pointwise [result]
  exact value_at V0 H hq hk hg _ _ _
end

section
variable (cos sin : Fin 4096 → Fin 8 → ℝ)
  (hc : ∀ i y, (V0 (Proc.devRef .tc main_arg3) : FVec Ideal S4096x8 .f32) (ix2 i y) = (cos i y : EReal))
  (hs : ∀ i y, (V0 (Proc.devRef .tc main_arg4) : FVec Ideal S4096x8 .f32) (ix2 i y) = (sin i y : EReal))

include hc hs in
/-- Rotated real queries are real. -/
theorem queries_real (a : Fin 4096 → Fin 512 → ℝ)
    (ha : ∀ i z, (V0 (Proc.devRef .tc main_arg0) : FVec Ideal S4096x512 .f32) (ix2 i z) = (a i z : EReal)) (i : Fin 4096) (h : Fin 8) (x : Fin 64) :
    ∃ r : ℝ, (res_main_v16 V0 : FVec Ideal S4096x8x64 .f32) (ix3 i h x) = (r : EReal) := by
  pointwise [res_main_v16, res_main_v0, res_main_v1, res_main_v2, res_main_v3, res_main_v4]
  simp only [ha, hc, hs, ← EReal.coe_mul, ← EReal.coe_add, ← EReal.coe_sub]
  split
  · exact ⟨_, rfl⟩
  split
  · exact ⟨_, rfl⟩
  · exact ⟨_, rfl⟩

include hc hs in
/-- Rotated real keys are real. -/
theorem keys_real (a : Fin 4096 → Fin 512 → ℝ)
    (ha : ∀ i z, (V0 (Proc.devRef .tc main_arg1) : FVec Ideal S4096x512 .f32) (ix2 i z) = (a i z : EReal)) (i : Fin 4096) (h : Fin 8) (x : Fin 64) :
    ∃ r : ℝ, (res_main_v33 V0 : FVec Ideal S4096x8x64 .f32) (ix3 i h x) = (r : EReal) := by
  pointwise [res_main_v33, res_main_v17, res_main_v18, res_main_v19, res_main_v20, res_main_v21]
  simp only [ha, hc, hs, ← EReal.coe_mul, ← EReal.coe_add, ← EReal.coe_sub]
  split
  · exact ⟨_, rfl⟩
  split
  · exact ⟨_, rfl⟩
  · exact ⟨_, rfl⟩
end

theorem values_read (i : Fin 4096) (h : Fin 8) (x : Fin 64) : (res_main_v34 V0 : FVec Ideal S4096x8x64 .f32) (ix3 i h x)
    = (V0 (Proc.devRef .tc main_arg2) : FVec Ideal S4096x512 .f32) (ix2 i ⟨h.val * 64 + x.val, by omega⟩) := by
  pointwise [res_main_v34]

theorem gradient_read (b : Fin 3) (h : Fin 8) (i : Fin 4096) (x : Fin 64) : (res_main_v98 V0 : FVec Ideal S3x8x4096x64 .f32) (ix4 b h i x)
    = (V0 (Proc.devRef .tc main_arg5) : FVec Ideal S4096x512 .f32) (ix2 i ⟨h.val * 64 + x.val, by omega⟩) := by
  pointwise [res_main_v98]

end Cert.ReferenceIdeal.Value
-- ==== Proof.Agree.lean ====
module
public import proofs.«01_k».proof.Proof.Whole
public import proofs.«01_k».proof.Proof.Entry
public import proofs.«01_k».proof.Proof.Lanes
public import proofs.«01_k».proof.Proof.Reference
@[expose] public section

/-!
  The two results are equal when the arguments are real: both hold, index by index, the same gradients of the same
  heads, turned back through the rotary encoding.
-/

set_option maxRecDepth 16384
noncomputable section

namespace Cert.KernelIdeal.Tiles
open Idealize.ShloMosaic Idealize.ShloMosaic.StableHlo Idealize.ShloMosaic.TcCoe Idealize.SL.Sem Cert.KernelIdeal.Gen Cert.Attention
open Cert.ReferenceIdeal.Value

variable (V0 : Valuation Cert.ReferenceIdeal.τ Cert.ReferenceIdeal.sig (Elt Ideal)) (m : (ℓ : Loc nD τ sig) → Buf (Elt Ideal) ℓ) (c : Dev nD)
  (h0 : m (c, (Proc.devRef .tc main_arg0 : DevRef τ sig)) = refA0 V0)
  (h1 : m (c, (Proc.devRef .tc main_arg1 : DevRef τ sig)) = refA1 V0)
  (h2 : m (c, (Proc.devRef .tc main_arg2 : DevRef τ sig)) = refA2 V0)
  (h3 : m (c, (Proc.devRef .tc main_arg3 : DevRef τ sig)) = refA3 V0)
  (h4 : m (c, (Proc.devRef .tc main_arg4 : DevRef τ sig)) = refA4 V0)
  (h5 : m (c, (Proc.devRef .tc main_arg5 : DevRef τ sig)) = refA5 V0)
  (H : Fin 8 → Head (Fin 4096) (Fin 64)) (cos sin : Fin 4096 → Fin 8 → ℝ)
  (hq : ∀ i h x, refQ V0 (ix3 i h x) = ((H h).q i x : EReal))
  (hk : ∀ i h x, refK V0 (ix3 i h x) = ((H h).k i x : EReal))
  (hv : ∀ i (h : Fin 8) (x : Fin 64), refA2 V0 (ix2 i ⟨h.val * 64 + x.val, by omega⟩) = ((H h).v i x : EReal))
  (hg : ∀ i (h : Fin 8) (x : Fin 64), refA5 V0 (ix2 i ⟨h.val * 64 + x.val, by omega⟩) = ((H h).g i x : EReal))
  (hc : ∀ i y, refA3 V0 (ix2 i y) = (cos i y : EReal))
  (hs : ∀ i y, refA4 V0 (ix2 i y) = (sin i y : EReal))

/-- The two heads of a pair. -/
def pairHeads (H : Fin 8 → Head (Fin 4096) (Fin 64)) (g : Fin 4) (s : Fin 2) : Head (Fin 4096) (Fin 64) := H ⟨2 * g.val + s.val, by omega⟩

include hv in
theorem values_head (b : Fin 4096) (h : Fin 8) (x : Fin 64) :
    (res_main_v34 V0 : FVec Ideal Cert.ReferenceIdeal.S4096x8x64 .f32) (ix3 b h x) = ((H h).v b x : EReal) :=
  (values_read V0 b h x).trans (hv b h x)

include hg in
theorem gradient_head (b : Fin 3) (h : Fin 8) (i : Fin 4096) (x : Fin 64) :
    (res_main_v98 V0 : FVec Ideal Cert.ReferenceIdeal.S3x8x4096x64 .f32) (ix4 b h i x) = ((H h).g i x : EReal) :=
  (gradient_read V0 b h i x).trans (hg i h x)

include h5 in
theorem entry_gradient (y : Fin 4096) (z : Fin 512) : V m c main_arg5 (ix2 y z) = refA5 V0 (ix2 y z) := by
  have e : V m c main_arg5 = refA5 V0 := (V_main_arg5 m c).trans h5
  exact congrFun e (ix2 y z)

include h0 h1 h2 h3 h4 h5 hq hk hv hg in
set_option maxHeartbeats 1000000 in
/-- What the region starts with, in the rows of each pair. -/
theorem rows_hold (g : Fin 4) : (pairRows m c g).Holds (pairHeads H g) where
  q i x := (entry_queries V0 m c h0 h1 h2 h3 h4 g i x).trans (hq i _ _)
  k i x := (entry_keys V0 m c h0 h1 h2 h3 h4 g i x).trans (hk i _ _)
  v i x := by
    refine (entry_values V0 m c h0 h1 h2 h3 h4 g i x).trans (Eq.trans ?_ (hv i (headOf g x) (chan x)))
    exact congrArg (refA2 V0) (congrArg (ix2 i) (Fin.ext (by simp only [column, headOf, chan]; omega)))
  g i x := by
    refine (entry_gradient V0 m c h5 i ⟨128 * g.val + x.val, by omega⟩).trans (Eq.trans ?_ (hg i (headOf g x) (chan x)))
    exact congrArg (refA5 V0) (congrArg (ix2 i) (Fin.ext (by simp only [headOf, chan]; omega)))
  l i x := by
    refine (entry_total V0 m c h0 h1 h3 h4 i _).trans ?_
    have e : (⟨(128 * g.val + x.val) / 64, by omega⟩ : Fin 8) = headOf g x := Fin.ext (by simp only [headOf]; omega)
    rw [e]
    refine (congrArg Ideal.log (total_at V0 H hq hk _ _)).trans ?_
    exact log_pos ((H (headOf g x)).total_pos sees sees_self i)
  e i x := by
    refine (entry_product V0 m c h0 h1 h2 h3 h4 h5 i _).trans ?_
    have e : (⟨(128 * g.val + x.val) / 64, by omega⟩ : Fin 8) = headOf g x := Fin.ext (by simp only [headOf]; omega)
    have hz (z : Fin 64) : refA5 V0 (ix2 i ⟨(128 * g.val + x.val) / 64 * 64 + z.val, by omega⟩) = ((H (headOf g x)).g i z : EReal) := by
      refine Eq.trans ?_ (hg i (headOf g x) z)
      exact congrArg (refA5 V0) (congrArg (ix2 i) (Fin.ext (by simp only [headOf]; omega)))
    have hw (b : Fin 3) : refShares V0 (ix3 b (headOf g x) i) = (((H (headOf g x)).share sees b i : ℝ) : EReal) := share_at V0 H hq hk b _ i
    have ho (b : Fin 3) (z : Fin 64) : refOuts V0 (ix4 b (headOf g x) i z) = (((H (headOf g x)).out sees b i z : ℝ) : EReal) :=
      out_at V0 H hq hk (values_head V0 H hv) b _ i z
    simp only [hz, e, hw, ho, ← EReal.coe_mul, sum_coe]
    rfl

include h0 h1 h2 h3 h4 h5 hq hk hv hg hc hs in
/-- The two results, index by index. -/
theorem final_at (s : Fin 3) (y : Fin 4096) (z : Fin 512) : finalAt m c s y z = result V0 (ix3 s y z) := by
  have hR := rows_hold V0 m c h0 h1 h2 h3 h4 h5 H hq hk hv hg ⟨z.val / 128, by omega⟩
  have hC : ∀ (y : Fin 4096) (x : Fin 128), V m c main_v102 (ix2 y x) = if x.val % 64 < 16 then (cos y ⟨x.val % 8, by omega⟩ : EReal) else 1 :=
    fun y x => (entry_cosines V0 m c h3 y x).trans (by rw [hc])
  have hS : ∀ (y : Fin 4096) (x : Fin 128), V m c main_v104 (ix2 y x) = if x.val % 64 < 16 then (sin y ⟨x.val % 8, by omega⟩ : EReal) else 0 :=
    fun y x => (entry_sines V0 m c h4 y x).trans (by rw [hs])
  have eh : pairHeads H ⟨z.val / 128, by omega⟩ (side ⟨z.val % 128, by omega⟩) = H ⟨z.val / 64, by omega⟩ :=
    congrArg H (Fin.ext (by simp only [side]; omega))
  have ec : chan ⟨z.val % 128, by omega⟩ = (⟨z.val % 64, by omega⟩ : Fin 64) := Fin.ext (by simp only [chan]; omega)
  have hv' := values_head V0 H hv
  have hg' := gradient_head V0 H hg
  unfold finalAt stored
  match s with
  | 0 =>
    rw [if_pos rfl]
    refine (turned_eq _ _ _ cos sin (fun s y x => (pairHeads H ⟨z.val / 128, by omega⟩ s).dq sees y x) hC hS hR.sumQueries y _).trans ?_
    rw [ec]
    refine Eq.trans ?_ (result_queries V0 H hq hk hv' hg' cos sin hc hs y z).symm
    rw [eh]
  | 1 =>
    rw [if_neg (by decide), if_pos rfl]
    refine (turned_eq _ _ _ cos sin (fun s y x => (pairHeads H ⟨z.val / 128, by omega⟩ s).dk sees y x) hC hS hR.sumKeys y _).trans ?_
    rw [ec]
    refine Eq.trans ?_ (result_keys V0 H hq hk hv' hg' cos sin hc hs y z).symm
    rw [eh]
  | 2 =>
    rw [if_neg (by decide), if_neg (by decide)]
    refine (hR.sumValues y _).trans ?_
    rw [ec]
    refine Eq.trans ?_ (result_values V0 H hq hk hg' y z).symm
    rw [eh]

include h0 h1 h2 h3 h4 h5 in
/-- The two results are the same array when the arguments hold real numbers. -/
theorem final_result (r0 : ∀ i z, ∃ r : ℝ, refA0 V0 (ix2 i z) = (r : EReal)) (r1 : ∀ i z, ∃ r : ℝ, refA1 V0 (ix2 i z) = (r : EReal))
    (r2 : ∀ i z, ∃ r : ℝ, refA2 V0 (ix2 i z) = (r : EReal)) (r3 : ∀ i z, ∃ r : ℝ, refA3 V0 (ix2 i z) = (r : EReal))
    (r4 : ∀ i z, ∃ r : ℝ, refA4 V0 (ix2 i z) = (r : EReal)) (r5 : ∀ i z, ∃ r : ℝ, refA5 V0 (ix2 i z) = (r : EReal)) :
    final m c = result V0 := by
  choose a0 e0 using r0
  choose a1 e1 using r1
  choose a2 e2 using r2
  choose cos hc using r3
  choose sin hs using r4
  choose a5 e5 using r5
  choose q hq using queries_real V0 cos sin hc hs a0 e0
  choose k hk using keys_real V0 cos sin hc hs a1 e1
  funext i
  obtain ⟨s, y, z, rfl⟩ : ∃ (s : Fin 3) (y : Fin 4096) (z : Fin 512), i = ix3 s y z := ⟨i 0, i 1, i 2, by funext k; fin_cases k <;> rfl⟩
  exact final_at V0 m c h0 h1 h2 h3 h4 h5
    (fun h => { q := fun i x => q i h x, k := fun i x => k i h x, v := fun i x => a2 i ⟨h.val * 64 + x.val, by omega⟩, g := fun i x => a5 i ⟨h.val * 64 + x.val, by omega⟩ })
    cos sin hq hk (fun i h x => e2 i _) (fun i h x => e5 i _) hc hs s y z

end Cert.KernelIdeal.Tiles
-- ==== Proof.Down.lean ====
module
public import proofs.«01_k».proof.Proof.Gen.DownIdeal.Frame
public import proofs.«01_k».proof.Proof.Gen.DownReferenceIdeal.Run
public import proofs.«01_k».proof.Proof.Reals
public import Idealize.ShloMosaic.Lib.Pointwise
public import Idealize.ShloMosaic.Lib.Pipeline.ValueKit
public import Idealize.ShloMosaic.Lib.Claim
@[expose] public section

/-!
The gradient that reaches the gate and the other factor of the feed-forward layer.
-/

set_option maxRecDepth 16384
noncomputable section

namespace Cert.DownReferenceIdeal.Value
open Idealize.ShloMosaic Idealize.ShloMosaic.TcCoe Idealize.SL.Sem
open Cert.DownReferenceIdeal Cert.DownReferenceIdeal.Gen

/-- What reaches the gate, as the reference writes it. -/
def gate (a0 : FVec Ideal S4096x2816 .f32) (a1 : FVec Ideal S4096x2816 .f32) (a2 : FVec Ideal S2816x1024 .f32) (a3 : FVec Ideal S4096x1024 .f32) : FVec Ideal S4096x2816 .bf16 :=
  truncf .bf16 (addf (mulf (mulf (Host.dotGeneral (φ₁ := .f32) (φ₂ := .f32) dot_S4096x1024_S2816x1024_S4096x2816_1_1_0_0_n_n none (a3) (a2)) (a1)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (a0)))))) (mulf (mulf (a0) (mulf (Host.dotGeneral (φ₁ := .f32) (φ₂ := .f32) dot_S4096x1024_S2816x1024_S4096x2816_1_1_0_0_n_n none (a3) (a2)) (a1))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (a0))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (a0))))))))) bitsLt_bf16_f32

/-- What reaches the other factor, as the reference writes it. -/
def factor (a0 : FVec Ideal S4096x2816 .f32) (a1 : FVec Ideal S4096x2816 .f32) (a2 : FVec Ideal S2816x1024 .f32) (a3 : FVec Ideal S4096x1024 .f32) : FVec Ideal S4096x2816 .bf16 :=
  truncf .bf16 (mulf (mulf (a0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (a0)))))) (Host.dotGeneral (φ₁ := .f32) (φ₂ := .f32) dot_S4096x1024_S2816x1024_S4096x2816_1_1_0_0_n_n none (a3) (a2))) bitsLt_bf16_f32

end Cert.DownReferenceIdeal.Value

namespace Cert.DownIdeal.Value
open Idealize.ShloMosaic Idealize.ShloMosaic.TcCoe Idealize.SL.Sem
open Idealize.ShloMosaic.Pipeline (Dat)
open Cert.DownIdeal Cert.DownIdeal.Gen
open Cert.DownReferenceIdeal.Value (gate factor)

variable (m : (ℓ : Loc nD τ sig) → Buf (Elt Ideal) ℓ) (c : Dev nD)

/-- The block each window reads or writes at a point of the grid. -/
theorem placed : ∀ t : Fin cfg0.N, win0_0.index t = ![t.val / 2, 0]
    ∧ win0_1.index t = ![0, t.val % 2, 0]
    ∧ win0_2.index t = ![t.val / 2, t.val % 2]
    ∧ win0_3.index t = ![t.val / 2, t.val % 2]
    ∧ win0_4.index t = ![t.val / 2, t.val % 2]
    ∧ win0_5.index t = ![t.val / 2, t.val % 2] :=
  (by decide +kernel : ∀ t : Fin grid0.N, _)

/-- The slope of the gate: with a finite number before it the product may be taken apart, whatever the gate's value is. -/
theorem slope (a : ℝ) (g : EReal) :
    (a : EReal) * (Ideal.logistic g * (1 + g * (1 - Ideal.logistic g)))
      = a * Ideal.logistic g + g * a * (Ideal.logistic g * (1 - Ideal.logistic g)) := by
  induction g with
  | bot => simp
  | top =>
    have h : (1 : EReal) - 1 = 0 := by rw [← EReal.coe_one, ← EReal.coe_sub, sub_self, EReal.coe_zero]
    simp [h]
  | coe g =>
    rw [Ideal.logistic_coe]
    generalize (1 + Real.exp (-g))⁻¹ = s
    norm_cast
    ring

theorem stored_5 (t : Fin cfg0.N) (y) :
    k0_pay5 (iblk m c 0 t) (iblk m c 1 t) (iblk m c 2 t) y = factor (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay5, k0_pay3, k0_pay2, k0_pay1, factor]
  refine (mul_comm _ _).trans ?_
  unfold Ideal.logistic
  blk_point [iblk, V, placed t]

theorem array_5 : (dats m 0 c).arrAt 5 (cfgs 0).N = factor (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact stored_5 m c t y

theorem before_gate (u : FVec Ideal S4096x2816 .f32) (w : FVec Ideal S2816x1024 .f32) (d : FVec Ideal S4096x1024 .f32)
    (real_u : ∀ i, ∃ r : ℝ, u i = (r : EReal)) (real_w : ∀ i, ∃ r : ℝ, w i = (r : EReal)) (real_d : ∀ i, ∃ r : ℝ, d i = (r : EReal)) (i : S4096x2816.Idx) :
    ∃ a : ℝ, (∑ x : Fin 1024, d (ix2 (i 0) x) * w (ix2 (i 1) x)) * u i = (a : EReal) := by
  choose u' hu using real_u
  choose w' hw using real_w
  choose d' hd using real_d
  refine ⟨(∑ x : Fin 1024, d' (ix2 (i 0) x) * w' (ix2 (i 1) x)) * u' i, ?_⟩
  rw [EReal.coe_mul, ← Cert.Attention.sum_coe]
  simp only [hd, hw, hu, EReal.coe_mul]

variable (real_u : ∀ i, ∃ r : ℝ, m ((c : Thread nD τ).loc main_arg1) i = (r : EReal)) (real_w : ∀ i, ∃ r : ℝ, m ((c : Thread nD τ).loc main_arg2) i = (r : EReal))
  (real_d : ∀ i, ∃ r : ℝ, m ((c : Thread nD τ).loc main_arg3) i = (r : EReal))
include real_u real_w real_d
theorem stored_4 (t : Fin cfg0.N) (y) :
    k0_pay4 (iblk m c 0 t) (iblk m c 1 t) (iblk m c 2 t) (iblk m c 3 t) y = gate (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay3, k0_pay2, k0_pay1, gate]
  obtain ⟨a, ha⟩ := before_gate _ _ _ real_u real_w real_d (((cfg0.win 4).blk t).view.emb y)
  have h := slope a (m ((c : Thread nD τ).loc main_arg0) (((cfg0.win 4).blk t).view.emb y))
  rw [← ha] at h
  unfold Ideal.logistic at h ⊢
  refine Eq.trans ?_ (h.trans ?_)
  · blk_point [iblk, V, placed t]
  · blk_point [iblk, V, placed t]

theorem array_4 : (dats m 0 c).arrAt 4 (cfgs 0).N = gate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact stored_4 m c real_u real_w real_d t y

end Cert.DownIdeal.Value

end
-- ==== Proof.DownFinite.lean ====
module
public import proofs.«01_k».proof.Defs
public import proofs.«01_k».proof.Proof.Finite
public import Idealize.ShloMosaic.Lib.Pointwise
@[expose] public section

/-!
  What the precondition of the down projection's gradient says: every element of the three arguments after the gate is a
  real number.
-/

noncomputable section
namespace Cert.DownFinite
open Idealize.ShloMosaic

theorem facts : Cert.Pre_finite_but_gate.Facts where
  shapeCasts_S4096x2816_S11534336 := by decide
  shapeCasts_S2816x1024_S2883584 := by decide
  shapeCasts_S4096x1024_S4194304 := by decide
  concatenates_S11534336_S2883584_S4194304_S18612224_d0 := by decide
  bcast_S_S18612224 := by decide

variable [Cert.Pre_finite_but_gate.Facts] (a0 a1 : FVec Ideal Cert.Pre_finite_but_gate.S4096x2816 .f32)
  (a2 : FVec Ideal Cert.Pre_finite_but_gate.S2816x1024 .f32) (a3 : FVec Ideal Cert.Pre_finite_but_gate.S4096x1024 .f32)
  (hf : Cert.Pre_finite_but_gate.fn (F := Ideal) a0 a1 a2 a3 = fun _ => 1#1)

/-- The three arguments after the gate end to end, at one index. -/
def joined (z : Fin 18612224) : EReal :=
  if h : z.val < 11534336 then a1 (ix2 ⟨z.val / 2816, by omega⟩ ⟨z.val % 2816, by omega⟩)
  else if h : z.val - 11534336 < 2883584 then a2 (ix2 ⟨(z.val - 11534336) / 1024, by omega⟩ ⟨(z.val - 11534336) % 1024, by omega⟩)
  else a3 (ix2 ⟨(z.val - 11534336 - 2883584) / 1024, by omega⟩ ⟨(z.val - 11534336 - 2883584) % 1024, by omega⟩)

include hf in
theorem joined_real (z : Fin 18612224) : ∃ r : ℝ, joined a1 a2 a3 z = (r : EReal) := by
  refine Cert.Attention.real_of_bit _ ?_
  have h := congrFun hf (ix1 z)
  revert h
  pointwise [Cert.Pre_finite_but_gate.fn]
  exact id

theorem index_eq {n k : ℕ} (i j : (⟨2, ![n, k]⟩ : Shape).Idx) (h0 : (i 0).val = (j 0).val) (h1 : (i 1).val = (j 1).val) : i = j := by
  funext d
  refine Fin.ext ?_
  match d with
  | 0 => exact h0
  | 1 => exact h1

include hf
theorem real_1 (i : Cert.Pre_finite_but_gate.S4096x2816.Idx) : ∃ r : ℝ, a1 i = (r : EReal) := by
  have b0 : (i 0).val < 4096 := (i 0).isLt
  have b1 : (i 1).val < 2816 := (i 1).isLt
  have h := joined_real a0 a1 a2 a3 hf ⟨(i 0).val * 2816 + (i 1).val, by omega⟩
  unfold joined at h
  rw [dif_pos (by simp only; omega)] at h
  rwa [index_eq (ix2 _ _) i (by show _ / _ = _; simp only; omega) (by show _ % _ = _; simp only; omega)] at h
theorem real_2 (i : Cert.Pre_finite_but_gate.S2816x1024.Idx) : ∃ r : ℝ, a2 i = (r : EReal) := by
  have b0 : (i 0).val < 2816 := (i 0).isLt
  have b1 : (i 1).val < 1024 := (i 1).isLt
  have h := joined_real a0 a1 a2 a3 hf ⟨11534336 + ((i 0).val * 1024 + (i 1).val), by omega⟩
  unfold joined at h
  rw [dif_neg (by simp only; omega), dif_pos (by simp only; omega)] at h
  rwa [index_eq (ix2 _ _) i (by show _ / _ = _; simp only; omega) (by show _ % _ = _; simp only; omega)] at h
theorem real_3 (i : Cert.Pre_finite_but_gate.S4096x1024.Idx) : ∃ r : ℝ, a3 i = (r : EReal) := by
  have b0 : (i 0).val < 4096 := (i 0).isLt
  have b1 : (i 1).val < 1024 := (i 1).isLt
  have h := joined_real a0 a1 a2 a3 hf ⟨14417920 + ((i 0).val * 1024 + (i 1).val), by omega⟩
  unfold joined at h
  rw [dif_neg (by simp only; omega), dif_neg (by simp only; omega)] at h
  rwa [index_eq (ix2 _ _) i (by show _ / _ = _; simp only; omega) (by show _ % _ = _; simp only; omega)] at h

end Cert.DownFinite
-- ==== Proof.Weights.lean ====
module
public import proofs.«01_k».proof.Proof.Gen.WeightsIdeal.Frame
public import proofs.«01_k».proof.Proof.Gen.WeightsReferenceIdeal.Run
public import Idealize.ShloMosaic.Lib.Pointwise
public import Idealize.ShloMosaic.Lib.Pipeline.ValueKit
public import Idealize.ShloMosaic.Lib.Claim
@[expose] public section

/-!
The gradient of the first feed-forward matrix: two products, the second written beside the first.
-/

set_option maxRecDepth 16384
noncomputable section

namespace Cert.WeightsReferenceIdeal.Value
open Idealize.ShloMosaic Idealize.ShloMosaic.TcCoe Idealize.SL.Sem
open Cert.WeightsReferenceIdeal Cert.WeightsReferenceIdeal.Gen

/-- The gradient as the reference writes it. -/
def weights (a0 : FVec Ideal S4096x1024 .f32) (a1 : FVec Ideal S1024x5632 .f32) (a2 : FVec Ideal S4096x2816 .f32) (a3 : FVec Ideal S4096x2816 .f32) (a4 : FVec Ideal S4x1024x1408 .f32) : FVec Ideal S4x1024x1408 .f32 :=
  transpose S4x1024x1408 [1, 0, 2] (shapeCast _ (transpose S1024x5632 [1, 0] (Host.dotGeneral (φ₁ := .f32) (φ₂ := .f32) dot_S4096x5632_S4096x1024_S5632x1024_0_0_1_1_n_n none (concatenate S4096x5632 1 [⟨S4096x2816, (a2)⟩, ⟨S4096x2816, (a3)⟩] concatenates_S4096x2816_S4096x2816_S4096x5632_d1) (a0)) transposes_S5632x1024_S1024x5632_1_0) shapeCasts_S1024x5632_S1024x4x1408) transposes_S1024x4x1408_S4x1024x1408_1_0_2

end Cert.WeightsReferenceIdeal.Value

namespace Cert.WeightsIdeal.Value
open Idealize.ShloMosaic Idealize.ShloMosaic.TcCoe Idealize.SL.Sem
open Idealize.ShloMosaic.Pipeline (Dat)
open Cert.WeightsIdeal Cert.WeightsIdeal.Gen
open Cert.WeightsReferenceIdeal.Value (weights)

variable (m : (ℓ : Loc nD τ sig) → Buf (Elt Ideal) ℓ) (c : Dev nD)

/-- The block each window reads or writes at a point of the grid. -/
theorem placed_0 : ∀ t : Fin cfg0.N, win0_0.index t = ![0, t.val / 2] ∧ win0_1.index t = ![0, t.val % 2] ∧ win0_2.index t = ![t.val % 2, t.val / 2, 0] :=
  (by decide +kernel : ∀ t : Fin grid0.N, _)
theorem placed_1 : ∀ t : Fin cfg1.N, win1_0.index t = ![0, t.val / 2] ∧ win1_1.index t = ![0, t.val % 2] ∧ win1_2.index t = ![t.val % 2 + 2, t.val / 2, 0] :=
  (by decide +kernel : ∀ t : Fin grid1.N, _)

variable (ρ : Dev nD → PrngReg)

/-- Half 0 of the gradient is the product with the gate's part, half 1 the one with the other part. -/
theorem half_0 (a0 a1 a2 a3 a4) (s : Fin 4) (r : Fin 1024) (z : Fin 1408) (h : s.val < 2) :
    weights a0 a1 a2 a3 a4 (ix3 s r z) = ∑ k : Fin 4096, a0 (ix2 k r) * a2 (ix2 k ⟨1408 * s.val + z.val, by omega⟩) := by
  pointwise [weights]
  refine Finset.sum_congr rfl fun k _ => (mul_comm _ _).trans (congrArg (a0 (ix2 k r) * ·) ?_)
  split_ifs <;> first | (exfalso; omega) | blk_ext
theorem half_1 (a0 a1 a2 a3 a4) (s : Fin 4) (r : Fin 1024) (z : Fin 1408) (h : 2 ≤ s.val) :
    weights a0 a1 a2 a3 a4 (ix3 s r z) = ∑ k : Fin 4096, a0 (ix2 k r) * a3 (ix2 k ⟨1408 * s.val + z.val - 2816, by omega⟩) := by
  pointwise [weights]
  refine Finset.sum_congr rfl fun k _ => (mul_comm _ _).trans (congrArg (a0 (ix2 k r) * ·) ?_)
  split_ifs <;> first | (exfalso; omega) | blk_ext

/-- What the two calls read: the arguments, of which a cast changes no number. -/
theorem held_0 : V1 m ρ c main_v0 = m ((c : Thread nD τ).loc main_arg0) := by
  unfold V1 W1; after_results; try rfl
theorem held_1 : V1 m ρ c main_v1 = m ((c : Thread nD τ).loc main_arg2) := by
  unfold V1 W1; after_results; try rfl
theorem held_2 : V1 m ρ c main_v2 = m ((c : Thread nD τ).loc main_arg3) := by
  unfold V1 W1; after_results; try rfl
theorem later_0 : V3 m ρ c main_v0 = m ((c : Thread nD τ).loc main_arg0) :=
  ((W3_of m ρ c main_v0 (by decide)).trans (W2_of m ρ c main_v0 (by decide))).trans (held_0 m c ρ)
theorem later_2 : V3 m ρ c main_v2 = m ((c : Thread nD τ).loc main_arg3) :=
  ((W3_of m ρ c main_v2 (by decide)).trans (W2_of m ρ c main_v2 (by decide))).trans (held_2 m c ρ)
/-- The second call finds in its array what the first left there. -/
theorem later_4 : V3 m ρ c main_v4 = (dat0 (V1 m ρ) c).arrAt 2 cfg0.N := by
  refine Eq.trans ?_ (W2_arr m ρ c 2)
  unfold V3 W3; after_results; try rfl

theorem stored_0 (t : Fin cfg0.N) (y) :
    k0_pay1 (iblk0 (V1 m ρ) c 0 t) (iblk0 (V1 m ρ) c 1 t) y = weights (m ((c : Thread nD τ).loc main_arg0)) (m ((c : Thread nD τ).loc main_arg1)) (m ((c : Thread nD τ).loc main_arg2)) (m ((c : Thread nD τ).loc main_arg3)) (m ((c : Thread nD τ).loc main_arg4)) (((cfg0.win 2).blk t).view.emb y) := by
  have ht : t.val < 4 := lt_of_lt_of_eq t.isLt (by decide)
  have hy : (y 1).val < 512 := (y 1).isLt
  refine Eq.trans ?_ (congrArg _ (?_ : ix3 ⟨t.val % 2, by omega⟩ ⟨512 * (t.val / 2) + (y 1).val, by omega⟩ (y 2) = _))
  · refine Eq.trans ?_ (half_0 _ _ _ _ _ _ _ _ (by simp only; omega)).symm
    pointwise [k0_pay1]
    blk_simp [iblk0]
    rw [held_0 m c ρ, held_1 m c ρ]
    blk_point [placed_0 t]
  · blk_ext [placed_0 t]

theorem stored_1 (t : Fin cfg1.N) (y) :
    k1_pay1 (iblk1 (V3 m ρ) c 0 t) (iblk1 (V3 m ρ) c 1 t) y = weights (m ((c : Thread nD τ).loc main_arg0)) (m ((c : Thread nD τ).loc main_arg1)) (m ((c : Thread nD τ).loc main_arg2)) (m ((c : Thread nD τ).loc main_arg3)) (m ((c : Thread nD τ).loc main_arg4)) (((cfg1.win 2).blk t).view.emb y) := by
  have ht : t.val < 4 := lt_of_lt_of_eq t.isLt (by decide)
  have hy : (y 1).val < 512 := (y 1).isLt
  refine Eq.trans ?_ (congrArg _ (?_ : ix3 ⟨t.val % 2 + 2, by omega⟩ ⟨512 * (t.val / 2) + (y 1).val, by omega⟩ (y 2) = _))
  · refine Eq.trans ?_ (half_1 _ _ _ _ _ _ _ _ (by simp only; omega)).symm
    pointwise [k1_pay1]
    blk_simp [iblk1]
    rw [later_0 m c ρ, later_2 m c ρ]
    blk_point [placed_1 t]
  · blk_ext [placed_1 t]

/-- The first call's part of its array. -/
theorem first (j : (cfg0.win 2).shape.Idx) (h : (cfg0.win 2).cell j (0 : Fin 3) < 2) :
    (dat0 (V1 m ρ) c).arrAt 2 cfg0.N ((cfg0.win 2).arr.view.emb j) = weights (m ((c : Thread nD τ).loc main_arg0)) (m ((c : Thread nD τ).loc main_arg1)) (m ((c : Thread nD τ).loc main_arg2)) (m ((c : Thread nD τ).loc main_arg3)) (m ((c : Thread nD τ).loc main_arg4)) ((cfg0.win 2).arr.view.emb j) := by
  refine ((dat0 (V1 m ρ) c).arrAt_emb_eq_of_coversWhere 2 (weights (m ((c : Thread nD τ).loc main_arg0)) (m ((c : Thread nD τ).loc main_arg1)) (m ((c : Thread nD τ).loc main_arg2)) (m ((c : Thread nD τ).loc main_arg3)) (m ((c : Thread nD τ).loc main_arg4))) (fun β => β (0 : Fin 3) < 2) (by decide +kernel) (fun t hf y => ?_) j).trans (if_pos h)
  blk_simp; rw [after0_2]; unfold outsAt0; frame_out
  exact stored_0 m c ρ t y

theorem array_2 : (dat1 (V3 m ρ) c).arrAt 2 cfg1.N = weights (m ((c : Thread nD τ).loc main_arg0)) (m ((c : Thread nD τ).loc main_arg1)) (m ((c : Thread nD τ).loc main_arg2)) (m ((c : Thread nD τ).loc main_arg3)) (m ((c : Thread nD τ).loc main_arg4)) := by
  refine (dat1 (V3 m ρ) c).arrAt_eq_of_coversWhere_of_agree 2 _ (fun β => 2 ≤ β (0 : Fin 3)) (by decide +kernel) (fun t hf y => ?_) (fun j hj => ?_)
  · blk_simp; rw [after1_2]; unfold outsAt1; frame_out
    exact stored_1 m c ρ t y
  · rw [A_eq1]
    refine (congrFun (later_4 m c ρ) _).trans (first m c ρ j (Nat.lt_of_not_le hj))

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
-- plain definitions in a metavariable's type
set_option backward.isDefEq.respectTransparency.types false in
/-- The run of the two calls: what the second leaves in its array is the result. -/
theorem run : θ_run defs (onTc (τ := τ) (main (F := Ideal))) ⟨m, fun _ => 0, ρ⟩ (fun r => ∀ c : Dev nD,
      r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.WeightsIdeal.Value

end
-- ==== Proof.DownWeights.lean ====
module
public import proofs.«01_k».proof.Proof.Gen.DownWeightsIdeal.Frame
public import proofs.«01_k».proof.Proof.Gen.DownWeightsReferenceIdeal.Run
public import Idealize.ShloMosaic.Lib.Pointwise
public import Idealize.ShloMosaic.Lib.Pipeline.ValueKit
public import Idealize.ShloMosaic.Lib.Claim
@[expose] public section

/-!
The gradient of the second feed-forward matrix: the product of the gated activations with the gradient that arrives.
-/

set_option maxRecDepth 16384
noncomputable section

namespace Cert.DownWeightsReferenceIdeal.Value
open Idealize.ShloMosaic Idealize.ShloMosaic.TcCoe Idealize.SL.Sem
open Cert.DownWeightsReferenceIdeal Cert.DownWeightsReferenceIdeal.Gen

/-- The gradient as the reference writes it. -/
def weights (a0 : FVec Ideal S4096x2816 .f32) (a1 : FVec Ideal S4096x2816 .f32) (a2 : FVec Ideal S2816x1024 .f32) (a3 : FVec Ideal S4096x1024 .f32) : FVec Ideal S1x2816x1024 .f32 :=
  broadcastInDim S1x2816x1024 ![1, 2] bcast_S2816x1024_S1x2816x1024_1_2 (transpose S2816x1024 [1, 0] (Host.dotGeneral (φ₁ := .f32) (φ₂ := .f32) dot_S4096x1024_S4096x2816_S1024x2816_0_0_1_1_n_n none (a3) (mulf (mulf (a0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (a0)))))) (a1))) transposes_S1024x2816_S2816x1024_1_0)

end Cert.DownWeightsReferenceIdeal.Value

namespace Cert.DownWeightsIdeal.Value
open Idealize.ShloMosaic Idealize.ShloMosaic.TcCoe Idealize.SL.Sem
open Idealize.ShloMosaic.Pipeline (Dat)
open Cert.DownWeightsIdeal Cert.DownWeightsIdeal.Gen
open Cert.DownWeightsReferenceIdeal.Value (weights)

variable (m : (ℓ : Loc nD τ sig) → Buf (Elt Ideal) ℓ) (c : Dev nD)

/-- The block each window reads or writes at a point of the grid. -/
theorem placed : ∀ t : Fin cfg0.N, win0_0.index t = ![0, t.val]
    ∧ win0_1.index t = ![0, 0]
    ∧ win0_2.index t = ![0, t.val, 0] :=
  (by decide +kernel : ∀ t : Fin grid0.N, _)

/-- The gated activations, as the host prepares them for the product. -/
def activations (a0 a1 : FVec Ideal S4096x2816 .f32) : FVec Ideal S4096x2816 .bf16 :=
  truncf .bf16 (mulf (mulf a0 (Host.divf (broadcastInDim S4096x2816 ![] bcast_S_S4096x2816 (constant S_ .f32 0x3F800000#32)) (addf (broadcastInDim S4096x2816 ![] bcast_S_S4096x2816 (constant S_ .f32 0x3F800000#32)) (Host.exp (Host.negf a0))))) a1) bitsLt_bf16_f32

/-- What the gated activations are when the region starts. -/
theorem held : V m c main_v2 = activations (m ((c : Thread nD τ).loc main_arg0)) (m ((c : Thread nD τ).loc main_arg1)) := by
  unfold V
  simp only [hostOps0, hostOps0_1, List.flatten_cons, List.flatten_nil, List.append_nil, List.cons_append, List.nil_append]
  after_results
  try rfl

theorem stored_2 (t : Fin cfg0.N) (y) :
    k0_pay1 (iblk m c 0 t) (iblk m c 1 t) y = weights (m ((c : Thread nD τ).loc main_arg0)) (m ((c : Thread nD τ).loc main_arg1)) (m ((c : Thread nD τ).loc main_arg2)) (m ((c : Thread nD τ).loc main_arg3)) (((cfg0.win 2).blk t).view.emb y) := by
  pointwise [k0_pay1, weights]
  refine Finset.sum_congr rfl fun x _ => (mul_comm _ _).trans ?_
  blk_point [iblk, V, placed t]
  refine congrArg _ ((congrFun (held m c) _).trans ?_); pointwise [activations]; blk_point [placed t]

theorem array_2 : (dats m 0 c).arrAt 2 (cfgs 0).N = weights (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp; rw [after0_2]; frame_out
  exact stored_2 m c t y

end Cert.DownWeightsIdeal.Value

end
-- ==== Proof.InWeights.lean ====
module
public import proofs.«01_k».proof.Proof.Gen.InWeightsIdeal.Frame
public import proofs.«01_k».proof.Proof.Gen.InWeightsReferenceIdeal.Run
public import Idealize.ShloMosaic.Lib.Pointwise
public import Idealize.ShloMosaic.Lib.Pipeline.ValueKit
public import Idealize.ShloMosaic.Lib.Claim
@[expose] public section

/-!
The gradient of the input projection's matrix: the product of the normalised input with the gradients of the six parts.
-/

set_option maxRecDepth 16384
noncomputable section

namespace Cert.InWeightsReferenceIdeal.Value
open Idealize.ShloMosaic Idealize.ShloMosaic.TcCoe Idealize.SL.Sem
open Cert.InWeightsReferenceIdeal Cert.InWeightsReferenceIdeal.Gen

/-- The gradient as the reference writes it. -/
def weights (a0 : FVec Ideal S4096x1024 .f32) (a1 : FVec Ideal S1024x3072 .f32) (a2 : FVec Ideal S3x4096x512 .f32) (a3 : FVec Ideal S3x4096x512 .f32) : FVec Ideal S2x2x1024x768 .f32 :=
  shapeCast _ (transpose S4x1024x768 [1, 0, 2] (shapeCast _ (transpose S1024x3072 [1, 0] (Host.dotGeneral (φ₁ := .f32) (φ₂ := .f32) dot_S4096x3072_S4096x1024_S3072x1024_0_0_1_1_n_n none ((concatenate S4096x3072 1 [⟨S4096x512, ((shapeCast _ (extractStridedSlice S1x4096x512 ![0, 0, 0] (a2) slices_S3x4096x512_S1x4096x512_0_0_0) shapeCasts_S1x4096x512_S4096x512) : FVec Ideal S4096x512 .f32)⟩, ⟨S4096x512, ((shapeCast _ (extractStridedSlice S1x4096x512 ![1, 0, 0] (a2) slices_S3x4096x512_S1x4096x512_1_0_0) shapeCasts_S1x4096x512_S4096x512) : FVec Ideal S4096x512 .f32)⟩, ⟨S4096x512, ((shapeCast _ (extractStridedSlice S1x4096x512 ![2, 0, 0] (a2) slices_S3x4096x512_S1x4096x512_2_0_0) shapeCasts_S1x4096x512_S4096x512) : FVec Ideal S4096x512 .f32)⟩, ⟨S4096x512, ((shapeCast _ (extractStridedSlice S1x4096x512 ![0, 0, 0] (a3) slices_S3x4096x512_S1x4096x512_0_0_0) shapeCasts_S1x4096x512_S4096x512) : FVec Ideal S4096x512 .f32)⟩, ⟨S4096x512, ((shapeCast _ (extractStridedSlice S1x4096x512 ![1, 0, 0] (a3) slices_S3x4096x512_S1x4096x512_1_0_0) shapeCasts_S1x4096x512_S4096x512) : FVec Ideal S4096x512 .f32)⟩, ⟨S4096x512, ((shapeCast _ (extractStridedSlice S1x4096x512 ![2, 0, 0] (a3) slices_S3x4096x512_S1x4096x512_2_0_0) shapeCasts_S1x4096x512_S4096x512) : FVec Ideal S4096x512 .f32)⟩] concatenates_S4096x512_S4096x512_S4096x512_S4096x512_S4096x512_S4096x512_S4096x3072_d1 : FVec Ideal S4096x3072 .f32)) (a0)) transposes_S3072x1024_S1024x3072_1_0) shapeCasts_S1024x3072_S1024x4x768) transposes_S1024x4x768_S4x1024x768_1_0_2) shapeCasts_S4x1024x768_S2x2x1024x768

end Cert.InWeightsReferenceIdeal.Value

namespace Cert.InWeightsIdeal.Value
open Idealize.ShloMosaic Idealize.ShloMosaic.TcCoe Idealize.SL.Sem
open Idealize.ShloMosaic.Pipeline (Dat)
open Cert.InWeightsIdeal Cert.InWeightsIdeal.Gen
open Cert.InWeightsReferenceIdeal.Value (weights)

variable (m : (ℓ : Loc nD τ sig) → Buf (Elt Ideal) ℓ) (c : Dev nD)

/-- The block each window reads or writes at a point of the grid. -/
theorem placed : ∀ t : Fin cfg0.N, win0_0.index t = ![0, t.val / 2]
    ∧ win0_1.index t = ![(3 * (t.val % 2) + 0) / 2, 0, (3 * (t.val % 2) + 0) % 2]
    ∧ win0_2.index t = ![(3 * (t.val % 2) + 1) / 2, 0, (3 * (t.val % 2) + 1) % 2]
    ∧ win0_3.index t = ![(3 * (t.val % 2) + 2) / 2, 0, (3 * (t.val % 2) + 2) % 2]
    ∧ win0_4.index t = ![(3 * (t.val % 2) + 0) / 2, 0, (3 * (t.val % 2) + 0) % 2]
    ∧ win0_5.index t = ![(3 * (t.val % 2) + 1) / 2, 0, (3 * (t.val % 2) + 1) % 2]
    ∧ win0_6.index t = ![(3 * (t.val % 2) + 2) / 2, 0, (3 * (t.val % 2) + 2) % 2]
    ∧ win0_7.index t = ![0, t.val % 2, t.val / 2, 0] :=
  (by decide +kernel : ∀ t : Fin grid0.N, _)

theorem side_0 (a0 a1 a2 a3) (b : Fin 2) (r : Fin 1024) (z : Fin 768) :
    weights a0 a1 a2 a3 (ix4 0 b r z) = ∑ k : Fin 4096, a0 (ix2 k r) * a2 (ix3 ⟨(768 * b.val + z.val) / 512, by omega⟩ k ⟨(768 * b.val + z.val) % 512, by omega⟩) := by
  pointwise [weights]
  refine Finset.sum_congr rfl fun k _ => (mul_comm _ _).trans (congrArg (a0 (ix2 k r) * ·) ?_)
  split_ifs <;> first | (exfalso; omega) | blk_ext
theorem side_1 (a0 a1 a2 a3) (b : Fin 2) (r : Fin 1024) (z : Fin 768) :
    weights a0 a1 a2 a3 (ix4 1 b r z) = ∑ k : Fin 4096, a0 (ix2 k r) * a3 (ix3 ⟨(768 * b.val + z.val) / 512, by omega⟩ k ⟨(768 * b.val + z.val) % 512, by omega⟩) := by
  pointwise [weights]
  refine Finset.sum_congr rfl fun k _ => (mul_comm _ _).trans (congrArg (a0 (ix2 k r) * ·) ?_)
  split_ifs <;> first | (exfalso; omega) | blk_ext

theorem stored_7 (t : Fin cfg0.N) (y) :
    out0_7 (iblk m c 0 t) (iblk m c 1 t) (iblk m c 2 t) (iblk m c 3 t) (iblk m c 4 t) (iblk m c 5 t) (iblk m c 6 t) y = weights (m ((c : Thread nD τ).loc main_arg0)) (m ((c : Thread nD τ).loc main_arg1)) (m ((c : Thread nD τ).loc main_arg2)) (m ((c : Thread nD τ).loc main_arg3)) (((cfg0.win 7).blk t).view.emb y) := by
  have ht : t.val < 4 := lt_of_lt_of_eq t.isLt (by decide)
  canon_tiles x h
  all_goals open_payloads
  all_goals pointwise
  iterate 3
    refine Eq.trans ?_ (congrArg _ (?_ : ix4 1 ⟨t.val % 2, by omega⟩ ⟨512 * (t.val / 2) + (x 2).val, by omega⟩ ⟨(y 3).val, by omega⟩ = _))
    · refine Eq.trans ?_ (side_1 _ _ _ _ _ _ _).symm
      blk_point [iblk, V, placed t]
    · blk_ext [placed t]
  iterate 3
    refine Eq.trans ?_ (congrArg _ (?_ : ix4 0 ⟨t.val % 2, by omega⟩ ⟨512 * (t.val / 2) + (x 2).val, by omega⟩ ⟨(y 3).val, by omega⟩ = _))
    · refine Eq.trans ?_ (side_0 _ _ _ _ _ _ _).symm
      blk_point [iblk, V, placed t]
    · blk_ext [placed t]

theorem array_7 : (dats m 0 c).arrAt 7 (cfgs 0).N = weights (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  exact stored_7 m c t y

end Cert.InWeightsIdeal.Value

end
-- ==== Proof.OutWeights.lean ====
module
public import proofs.«01_k».proof.Proof.Gen.OutWeightsIdeal.Frame
public import proofs.«01_k».proof.Proof.Gen.OutWeightsReferenceIdeal.Run
public import Idealize.ShloMosaic.Lib.Pointwise
public import Idealize.ShloMosaic.Lib.Pipeline.ValueKit
public import Idealize.ShloMosaic.Lib.Claim
@[expose] public section

/-!
The gradient of the output projection's matrix: the product of the merged heads with the gradient of the mix.
-/

set_option maxRecDepth 16384
noncomputable section

namespace Cert.OutWeightsReferenceIdeal.Value
open Idealize.ShloMosaic Idealize.ShloMosaic.TcCoe Idealize.SL.Sem
open Cert.OutWeightsReferenceIdeal Cert.OutWeightsReferenceIdeal.Gen

/-- The gradient as the reference writes it. -/
def weights (a0 : FVec Ideal S4096x1024 .f32) (a1 : FVec Ideal S1024x1024 .f32) (a2 : FVec Ideal S4096x1024 .f32) : FVec Ideal S1x1024x1024 .f32 :=
  broadcastInDim S1x1024x1024 ![1, 2] bcast_S1024x1024_S1x1024x1024_1_2 (transpose S1024x1024 [1, 0] (Host.dotGeneral (φ₁ := .f32) (φ₂ := .f32) dot_S4096x1024_S4096x1024_S1024x1024_0_0_1_1_n_n none (a2) (a0)) transposes_S1024x1024_S1024x1024_1_0)

end Cert.OutWeightsReferenceIdeal.Value

namespace Cert.OutWeightsIdeal.Value
open Idealize.ShloMosaic Idealize.ShloMosaic.TcCoe Idealize.SL.Sem
open Idealize.ShloMosaic.Pipeline (Dat)
open Cert.OutWeightsIdeal Cert.OutWeightsIdeal.Gen
open Cert.OutWeightsReferenceIdeal.Value (weights)

variable (m : (ℓ : Loc nD τ sig) → Buf (Elt Ideal) ℓ) (c : Dev nD)

/-- The block each window reads or writes at a point of the grid. -/
theorem placed : ∀ t : Fin cfg0.N, win0_0.index t = ![0, t.val]
    ∧ win0_1.index t = ![0, 0]
    ∧ win0_2.index t = ![0, t.val, 0] :=
  (by decide +kernel : ∀ t : Fin grid0.N, _)

theorem stored_2 (t : Fin cfg0.N) (y) :
    k0_pay1 (iblk m c 0 t) (iblk m c 1 t) y = weights (m ((c : Thread nD τ).loc main_arg0)) (m ((c : Thread nD τ).loc main_arg1)) (m ((c : Thread nD τ).loc main_arg2)) (((cfg0.win 2).blk t).view.emb y) := by
  pointwise [k0_pay1, weights]
  refine Finset.sum_congr rfl fun x _ => (mul_comm _ _).trans ?_
  blk_point [iblk, V, placed t]

theorem array_2 : (dats m 0 c).arrAt 2 (cfgs 0).N = weights (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp; rw [after0_2]; frame_out
  exact stored_2 m c t y

end Cert.OutWeightsIdeal.Value

end
-- ==== Proof.Products.lean ====
/- The calls that multiply: what each leaves in its results is what the differentiated forward lines leave. -/
module

public import proofs.«01_k».proof.Defs
public import proofs.«01_k».proof.Proof.Down
public import proofs.«01_k».proof.Proof.DownFinite
public import proofs.«01_k».proof.Proof.Weights
public import proofs.«01_k».proof.Proof.DownWeights
public import proofs.«01_k».proof.Proof.InWeights
public import proofs.«01_k».proof.Proof.OutWeights

@[expose] public section

noncomputable section

namespace Cert.Proof

open Idealize.ShloMosaic Idealize.SL.Sem

theorem algebraic_weights : Cert.algebraic_WeightsIdeal_WeightsReferenceIdeal := by
  intro m ρ m' ρ' _ hArgs
  refine ⟨fun c => (Cert.WeightsIdeal.Gen.dat1 (Cert.WeightsIdeal.Gen.V3 m ρ) c).arrAt 2 Cert.WeightsIdeal.cfg1.N, ?_, ?_⟩
  · exact Cert.WeightsIdeal.Value.run m ρ
  · refine (θ_run _ _ _).mono (fun r h c => ⟨(h c).1.trans ?_, (h c).2⟩) (Cert.WeightsReferenceIdeal.Value.run (F := Ideal) m' ρ')
    obtain ⟨g0, g1, g2, g3, g4⟩ := hArgs c
    exact (congr (congr (congr (congr (congrArg Cert.WeightsReferenceIdeal.Value.weights g0) g1) g2) g3) g4).trans (Cert.WeightsIdeal.Value.array_2 m c ρ).symm

theorem algebraic_down_weights : Cert.algebraic_DownWeightsIdeal_DownWeightsReferenceIdeal := by
  intro m ρ m' ρ' _ hArgs
  refine ⟨fun c => (Cert.DownWeightsIdeal.Gen.dats m 0 c).arrAt 2 (Cert.DownWeightsIdeal.cfgs 0).N, ?_, ?_⟩
  · exact (θ_run _ _ _).mono (fun r h c => ⟨(h.1 c).1 2, h.2.1 c⟩) (θ_run_and (Cert.DownWeightsIdeal.Gen.run_main m ρ) (Cert.DownWeightsIdeal.Gen.frame m ρ))
  · refine (θ_run _ _ _).mono (fun r h c => ⟨(h c).1.trans ?_, (h c).2⟩) (Cert.DownWeightsReferenceIdeal.Value.run (F := Ideal) m' ρ')
    obtain ⟨g0, g1, g2, g3⟩ := hArgs c
    exact (congr (congr (congr (congrArg Cert.DownWeightsReferenceIdeal.Value.weights g0) g1) g2) g3).trans (Cert.DownWeightsIdeal.Value.array_2 m c).symm

theorem algebraic_in_weights : Cert.algebraic_InWeightsIdeal_InWeightsReferenceIdeal := by
  intro m ρ m' ρ' _ hArgs
  refine ⟨fun c => (Cert.InWeightsIdeal.Gen.dats m 0 c).arrAt 7 (Cert.InWeightsIdeal.cfgs 0).N, ?_, ?_⟩
  · exact (θ_run _ _ _).mono (fun r h c => ⟨(h.1 c).1 7, h.2.1 c⟩) (θ_run_and (Cert.InWeightsIdeal.Gen.run_main m ρ) (Cert.InWeightsIdeal.Gen.frame m ρ))
  · refine (θ_run _ _ _).mono (fun r h c => ⟨(h c).1.trans ?_, (h c).2⟩) (Cert.InWeightsReferenceIdeal.Value.run (F := Ideal) m' ρ')
    obtain ⟨g0, g1, g2, g3⟩ := hArgs c
    exact (congr (congr (congr (congrArg Cert.InWeightsReferenceIdeal.Value.weights g0) g1) g2) g3).trans (Cert.InWeightsIdeal.Value.array_7 m c).symm

theorem algebraic_out_weights : Cert.algebraic_OutWeightsIdeal_OutWeightsReferenceIdeal := by
  intro m ρ m' ρ' _ hArgs
  refine ⟨fun c => (Cert.OutWeightsIdeal.Gen.dats m 0 c).arrAt 2 (Cert.OutWeightsIdeal.cfgs 0).N, ?_, ?_⟩
  · exact (θ_run _ _ _).mono (fun r h c => ⟨(h.1 c).1 2, h.2.1 c⟩) (θ_run_and (Cert.OutWeightsIdeal.Gen.run_main m ρ) (Cert.OutWeightsIdeal.Gen.frame m ρ))
  · refine (θ_run _ _ _).mono (fun r h c => ⟨(h c).1.trans ?_, (h c).2⟩) (Cert.OutWeightsReferenceIdeal.Value.run (F := Ideal) m' ρ')
    obtain ⟨g0, g1, g2⟩ := hArgs c
    exact (congr (congr (congrArg Cert.OutWeightsReferenceIdeal.Value.weights g0) g1) g2).trans (Cert.OutWeightsIdeal.Value.array_2 m c).symm

theorem algebraic_down [Cert.Pre_finite_but_gate.Facts] : Cert.algebraic_DownIdeal_DownReferenceIdeal_pre_finite_but_gate := by
  intro m ρ m' ρ' hPre hArgs
  refine ⟨fun c => (Cert.DownIdeal.Gen.dats m 0 c).arrAt 4 (Cert.DownIdeal.cfgs 0).N,
    fun c => (Cert.DownIdeal.Gen.dats m 0 c).arrAt 5 (Cert.DownIdeal.cfgs 0).N, ?_, ?_⟩
  · exact (θ_run _ _ _).mono (fun r h c => ⟨(h.1 c).1 4, (h.1 c).1 5, h.2.1 c⟩)
      (θ_run_and (Cert.DownIdeal.Gen.run_main m ρ) (Cert.DownIdeal.Gen.frame m ρ))
  · refine (θ_run _ _ _).mono (fun r h c => ⟨(h c).1.trans ?_, (h c).2.1.trans ?_, (h c).2.2⟩) (Cert.DownReferenceIdeal.Value.run (F := Ideal) m' ρ')
    · obtain ⟨g0, g1, g2, g3⟩ := hArgs c
      exact (congr (congr (congr (congrArg Cert.DownReferenceIdeal.Value.gate g0) g1) g2) g3).trans (Cert.DownIdeal.Value.array_4 m c (Cert.DownFinite.real_1 _ _ _ _ (hPre c))
        (Cert.DownFinite.real_2 _ _ _ _ (hPre c)) (Cert.DownFinite.real_3 _ _ _ _ (hPre c))).symm
    · obtain ⟨g0, g1, g2, g3⟩ := hArgs c
      exact (congr (congr (congr (congrArg Cert.DownReferenceIdeal.Value.factor g0) g1) g2) g3).trans (Cert.DownIdeal.Value.array_5 m c).symm

end Cert.Proof

end
-- ==== Proof.Gates.lean ====
module
public import proofs.«01_k».proof.Proof.Gen.GatesIdeal.Frame
public import proofs.«01_k».proof.Proof.Gen.GatesReferenceIdeal.Run
public import Idealize.ShloMosaic.Lib.Pointwise
public import Idealize.ShloMosaic.Lib.Pipeline.ValueKit
public import Idealize.ShloMosaic.Lib.Claim
@[expose] public section

/-!
The first feed-forward product: the gate, the other factor, and their product through the gate's activation.
-/

set_option maxRecDepth 16384
noncomputable section

namespace Cert.GatesReferenceIdeal.Value
open Idealize.ShloMosaic Idealize.ShloMosaic.TcCoe Idealize.SL.Sem
open Cert.GatesReferenceIdeal Cert.GatesReferenceIdeal.Gen

/-- The gate as the reference writes it. -/
def gate (a0 : FVec Ideal S4096x1024 .f32) (a1 : FVec Ideal S1024x5632 .f32) : FVec Ideal S4096x2816 .bf16 :=
  truncf .bf16 (extractStridedSlice S4096x2816 ![0, 0] (Host.dotGeneral (φ₁ := .f32) (φ₂ := .f32) dot_S4096x1024_S1024x5632_S4096x5632_1_0_0_1_n_n none (a0) (a1)) slices_S4096x5632_S4096x2816_0_0) bitsLt_bf16_f32

/-- The other factor as the reference writes it. -/
def factor (a0 : FVec Ideal S4096x1024 .f32) (a1 : FVec Ideal S1024x5632 .f32) : FVec Ideal S4096x2816 .bf16 :=
  truncf .bf16 (extractStridedSlice S4096x2816 ![0, 2816] (Host.dotGeneral (φ₁ := .f32) (φ₂ := .f32) dot_S4096x1024_S1024x5632_S4096x5632_1_0_0_1_n_n none (a0) (a1)) slices_S4096x5632_S4096x2816_0_2816) bitsLt_bf16_f32

/-- The activated product as the reference writes it. -/
def product (a0 : FVec Ideal S4096x1024 .f32) (a1 : FVec Ideal S1024x5632 .f32) : FVec Ideal S4096x2816 .bf16 :=
  truncf .bf16 (mulf (mulf (extractStridedSlice S4096x2816 ![0, 0] (Host.dotGeneral (φ₁ := .f32) (φ₂ := .f32) dot_S4096x1024_S1024x5632_S4096x5632_1_0_0_1_n_n none (a0) (a1)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral (φ₁ := .f32) (φ₂ := .f32) dot_S4096x1024_S1024x5632_S4096x5632_1_0_0_1_n_n none (a0) (a1)) slices_S4096x5632_S4096x2816_0_0)))))) (extractStridedSlice S4096x2816 ![0, 2816] (Host.dotGeneral (φ₁ := .f32) (φ₂ := .f32) dot_S4096x1024_S1024x5632_S4096x5632_1_0_0_1_n_n none (a0) (a1)) slices_S4096x5632_S4096x2816_0_2816)) bitsLt_bf16_f32

end Cert.GatesReferenceIdeal.Value

namespace Cert.GatesIdeal.Value
open Idealize.ShloMosaic Idealize.ShloMosaic.TcCoe Idealize.SL.Sem
open Idealize.ShloMosaic.Pipeline (Dat)
open Cert.GatesIdeal Cert.GatesIdeal.Gen
open Cert.GatesReferenceIdeal.Value (gate factor product)

variable (m : (ℓ : Loc nD τ sig) → Buf (Elt Ideal) ℓ) (c : Dev nD)

/-- The block each window reads or writes at a point of the grid. -/
theorem placed : ∀ t : Fin cfg0.N, win0_0.index t = ![t.val / 2, 0]
    ∧ win0_1.index t = ![t.val % 2, 0, 0]
    ∧ win0_2.index t = ![t.val % 2 + 2, 0, 0]
    ∧ win0_3.index t = ![t.val / 2, t.val % 2]
    ∧ win0_4.index t = ![t.val / 2, t.val % 2]
    ∧ win0_5.index t = ![t.val / 2, t.val % 2] :=
  (by decide +kernel : ∀ t : Fin grid0.N, _)

theorem stored_3 (t : Fin cfg0.N) (y) :
    k0_pay3 (iblk m c 0 t) (iblk m c 1 t) y = gate (m ((c : Thread nD τ).loc main_arg0)) (m ((c : Thread nD τ).loc main_arg1)) (((cfg0.win 3).blk t).view.emb y) := by
  pointwise [k0_pay3, k0_pay1, gate]
  blk_point [iblk, V, placed t]

theorem array_3 : (dats m 0 c).arrAt 3 (cfgs 0).N = gate (m ((c : Thread nD τ).loc main_arg0)) (m ((c : Thread nD τ).loc main_arg1)) := by
  refine (dats m 0 c).arrAt_eq_of_covers 3 _ (by decide +kernel) fun t hf y => ?_
  blk_simp; rw [after0_3]; frame_out
  exact stored_3 m c t y

theorem stored_4 (t : Fin cfg0.N) (y) :
    k0_pay4 (iblk m c 0 t) (iblk m c 2 t) y = factor (m ((c : Thread nD τ).loc main_arg0)) (m ((c : Thread nD τ).loc main_arg1)) (((cfg0.win 4).blk t).view.emb y) := by
  pointwise [k0_pay4, k0_pay2, factor]
  blk_point [iblk, V, placed t]

theorem array_4 : (dats m 0 c).arrAt 4 (cfgs 0).N = factor (m ((c : Thread nD τ).loc main_arg0)) (m ((c : Thread nD τ).loc main_arg1)) := by
  refine (dats m 0 c).arrAt_eq_of_covers 4 _ (by decide +kernel) fun t hf y => ?_
  blk_simp; rw [after0_4]; frame_out
  exact stored_4 m c t y

theorem stored_5 (t : Fin cfg0.N) (y) :
    k0_pay5 (iblk m c 0 t) (iblk m c 1 t) (iblk m c 0 t) (iblk m c 2 t) y = product (m ((c : Thread nD τ).loc main_arg0)) (m ((c : Thread nD τ).loc main_arg1)) (((cfg0.win 5).blk t).view.emb y) := by
  pointwise [k0_pay5, k0_pay2, k0_pay1, product]
  unfold Ideal.logistic
  blk_point [iblk, V, placed t]

theorem array_5 : (dats m 0 c).arrAt 5 (cfgs 0).N = product (m ((c : Thread nD τ).loc main_arg0)) (m ((c : Thread nD τ).loc main_arg1)) := by
  refine (dats m 0 c).arrAt_eq_of_covers 5 _ (by decide +kernel) fun t hf y => ?_
  blk_simp; rw [after0_5]; frame_out
  exact stored_5 m c t y

end Cert.GatesIdeal.Value

end
-- ==== Proof.DownForward.lean ====
module
public import proofs.«01_k».proof.Proof.Gen.DownForwardIdeal.Frame
public import proofs.«01_k».proof.Proof.Gen.DownForwardReferenceIdeal.Run
public import Idealize.ShloMosaic.Lib.Pointwise
public import Idealize.ShloMosaic.Lib.Pipeline.ValueKit
public import Idealize.ShloMosaic.Lib.Claim
@[expose] public section

/-!
The second feed-forward product, added to the stream through its norm, and the next layer's normalised input.
-/

set_option maxRecDepth 16384
noncomputable section

namespace Cert.DownForwardReferenceIdeal.Value
open Idealize.ShloMosaic Idealize.ShloMosaic.TcCoe Idealize.SL.Sem
open Cert.DownForwardReferenceIdeal Cert.DownForwardReferenceIdeal.Gen

/-- The product as the reference writes it. -/
def product (a0 : FVec Ideal S4096x2816 .f32) (a1 : FVec Ideal S2816x1024 .f32) : FVec Ideal S4096x1024 .f32 :=
  Host.dotGeneral (φ₁ := .f32) (φ₂ := .f32) dot_S4096x2816_S2816x1024_S4096x1024_1_0_0_1_n_n none (a0) (a1)

/-- A row over the root of its mean square, times the gains, as the reference writes it. -/
def normalise (x : FVec Ideal S4096x1024 .f32) (g : FVec Ideal S1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))

/-- The stream after the layer as the reference writes it. -/
def stream (a0 : FVec Ideal S4096x2816 .f32) (a1 : FVec Ideal S2816x1024 .f32) (a2 : FVec Ideal S4096x1024 .f32) (a3 : FVec Ideal S1024 .f32) (a4 : FVec Ideal S1024 .f32) : FVec Ideal S4096x1024 .f32 :=
  addf a2 (normalise (product a0 a1) a3)

/-- The next layer's input as the reference writes it. -/
def next (a0 : FVec Ideal S4096x2816 .f32) (a1 : FVec Ideal S2816x1024 .f32) (a2 : FVec Ideal S4096x1024 .f32) (a3 : FVec Ideal S1024 .f32) (a4 : FVec Ideal S1024 .f32) : FVec Ideal S4096x1024 .bf16 :=
  truncf .bf16 (normalise (stream a0 a1 a2 a3 a4) a4) bitsLt_bf16_f32

end Cert.DownForwardReferenceIdeal.Value

namespace Cert.DownForwardIdeal.Value
open Idealize.ShloMosaic Idealize.ShloMosaic.TcCoe Idealize.SL.Sem
open Idealize.ShloMosaic.Pipeline (Dat)
open Cert.DownForwardIdeal Cert.DownForwardIdeal.Gen
open Cert.DownForwardReferenceIdeal.Value (product normalise stream next)

variable (m : (ℓ : Loc nD τ sig) → Buf (Elt Ideal) ℓ) (c : Dev nD)

/-- The block each window reads or writes at a point of the grid. -/
theorem placed : ∀ t : Fin cfg0.N, win0_0.index t = ![t.val, 0]
    ∧ win0_1.index t = ![0, 0, 0]
    ∧ win0_2.index t = ![t.val, 0]
    ∧ win0_3.index t = ![0, 0, 0]
    ∧ win0_4.index t = ![0, 0, 0]
    ∧ win0_5.index t = ![t.val, 0]
    ∧ win0_6.index t = ![t.val, 0]
    ∧ win0_7.index t = ![t.val, 0] :=
  (by decide +kernel : ∀ t : Fin grid0.N, _)

theorem stored_5 (t : Fin cfg0.N) (y) :
    k0_pay1 (iblk m c 0 t) (iblk m c 1 t) y = product (m ((c : Thread nD τ).loc main_arg0)) (m ((c : Thread nD τ).loc main_arg1)) (((cfg0.win 5).blk t).view.emb y) := by
  pointwise [k0_pay1, product]
  blk_point [iblk, V, placed t]

theorem array_5 : (dats m 0 c).arrAt 5 (cfgs 0).N = product (m ((c : Thread nD τ).loc main_arg0)) (m ((c : Thread nD τ).loc main_arg1)) := by
  refine (dats m 0 c).arrAt_eq_of_covers 5 _ (by decide +kernel) fun t hf y => ?_
  blk_simp; rw [after0_5]; frame_out
  exact stored_5 m c t y

theorem stored_6 (t : Fin cfg0.N) (y) :
    k0_pay2 (iblk m c 0 t) (iblk m c 1 t) (iblk m c 2 t) (iblk m c 3 t) y = stream (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, stream, normalise]
  simp only [stored_5]
  blk_point [iblk, V, placed t]

theorem array_6 : (dats m 0 c).arrAt 6 (cfgs 0).N = stream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  exact stored_6 m c t y

theorem stored_7 (t : Fin cfg0.N) (y) :
    k0_pay3 (iblk m c 0 t) (iblk m c 1 t) (iblk m c 2 t) (iblk m c 3 t) (iblk m c 4 t) y = next (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay3, next, normalise]
  simp only [stored_6]
  blk_point [iblk, V, placed t]

theorem array_7 : (dats m 0 c).arrAt 7 (cfgs 0).N = next (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]; frame_out
  exact stored_7 m c t y

end Cert.DownForwardIdeal.Value

end
-- ==== Proof.Forward.lean ====
/- The forward calls of the feed-forward layer: what each leaves in its results is what the forward lines leave. -/
module

public import proofs.«01_k».proof.Defs
public import proofs.«01_k».proof.Proof.Gates
public import proofs.«01_k».proof.Proof.DownForward
@[expose] public section

noncomputable section

namespace Cert.Proof

open Idealize.ShloMosaic Idealize.SL.Sem

theorem algebraic_gates : Cert.algebraic_GatesIdeal_GatesReferenceIdeal := by
  intro m ρ m' ρ' _ hArgs
  refine ⟨fun c => (Cert.GatesIdeal.Gen.dats m 0 c).arrAt 3 (Cert.GatesIdeal.cfgs 0).N,
    fun c => (Cert.GatesIdeal.Gen.dats m 0 c).arrAt 4 (Cert.GatesIdeal.cfgs 0).N,
    fun c => (Cert.GatesIdeal.Gen.dats m 0 c).arrAt 5 (Cert.GatesIdeal.cfgs 0).N, ?_, ?_⟩
  · exact (θ_run _ _ _).mono (fun r h c => ⟨(h.1 c).1 3, (h.1 c).1 4, (h.1 c).1 5, h.2.1 c⟩)
      (θ_run_and (Cert.GatesIdeal.Gen.run_main m ρ) (Cert.GatesIdeal.Gen.frame m ρ))
  · refine (θ_run _ _ _).mono (fun r h c => ⟨(h c).1.trans ?_, (h c).2.1.trans ?_, (h c).2.2.1.trans ?_, (h c).2.2.2⟩) (Cert.GatesReferenceIdeal.Value.run (F := Ideal) m' ρ')
    · obtain ⟨g0, g1⟩ := hArgs c
      exact (congr (congrArg Cert.GatesReferenceIdeal.Value.gate g0) g1).trans (Cert.GatesIdeal.Value.array_3 m c).symm
    · obtain ⟨g0, g1⟩ := hArgs c
      exact (congr (congrArg Cert.GatesReferenceIdeal.Value.factor g0) g1).trans (Cert.GatesIdeal.Value.array_4 m c).symm
    · obtain ⟨g0, g1⟩ := hArgs c
      exact (congr (congrArg Cert.GatesReferenceIdeal.Value.product g0) g1).trans (Cert.GatesIdeal.Value.array_5 m c).symm

theorem algebraic_down_forward : Cert.algebraic_DownForwardIdeal_DownForwardReferenceIdeal := by
  intro m ρ m' ρ' _ hArgs
  refine ⟨fun c => (Cert.DownForwardIdeal.Gen.dats m 0 c).arrAt 5 (Cert.DownForwardIdeal.cfgs 0).N,
    fun c => (Cert.DownForwardIdeal.Gen.dats m 0 c).arrAt 6 (Cert.DownForwardIdeal.cfgs 0).N,
    fun c => (Cert.DownForwardIdeal.Gen.dats m 0 c).arrAt 7 (Cert.DownForwardIdeal.cfgs 0).N, ?_, ?_⟩
  · exact (θ_run _ _ _).mono (fun r h c => ⟨(h.1 c).1 5, (h.1 c).1 6, (h.1 c).1 7, h.2.1 c⟩)
      (θ_run_and (Cert.DownForwardIdeal.Gen.run_main m ρ) (Cert.DownForwardIdeal.Gen.frame m ρ))
  · refine (θ_run _ _ _).mono (fun r h c => ⟨(h c).1.trans ?_, (h c).2.1.trans ?_, (h c).2.2.1.trans ?_, (h c).2.2.2⟩) (Cert.DownForwardReferenceIdeal.Value.run (F := Ideal) m' ρ')
    · obtain ⟨g0, g1, g2, g3, g4⟩ := hArgs c
      exact (congr (congrArg Cert.DownForwardReferenceIdeal.Value.product g0) g1).trans (Cert.DownForwardIdeal.Value.array_5 m c).symm
    · obtain ⟨g0, g1, g2, g3, g4⟩ := hArgs c
      exact (congr (congr (congr (congr (congrArg Cert.DownForwardReferenceIdeal.Value.stream g0) g1) g2) g3) g4).trans (Cert.DownForwardIdeal.Value.array_6 m c).symm
    · obtain ⟨g0, g1, g2, g3, g4⟩ := hArgs c
      exact (congr (congr (congr (congr (congrArg Cert.DownForwardReferenceIdeal.Value.next g0) g1) g2) g3) g4).trans (Cert.DownForwardIdeal.Value.array_7 m c).symm

end Cert.Proof

end
-- ==== Proof.Norm.lean ====
module
public import proofs.«01_k».proof.Proof.Reals
@[expose] public section

/-!
  The gradient of one row of the root-mean-square norm. A call keeps the normalised row and subtracts from the gradient
  its mean against it; the rules of differentiation go through the root and through each square. The two are one, also
  where the row or the gradient holds an infinity.
-/

noncomputable section
namespace Cert.Norm
open Idealize.ShloMosaic

/-- The length of a row, minus one half, and the small number under the root, as real numbers. -/
theorem width_eq : Ideal.ofBits .f32 0x44800000#32 = ((1024 : ℝ) : EReal) := by
  simp [Ideal.ofBits, Ideal.ieee]
  norm_num
  rw [← EReal.coe_mul]
  norm_num
theorem half_eq : Ideal.ofBits .f32 0xBF000000#32 = ((-(1 / 2) : ℝ) : EReal) := by
  simp [Ideal.ofBits, Ideal.ieee]
  norm_num
  rw [← EReal.coe_mul]
  norm_num
theorem tiny_eq : ∃ e : ℝ, 0 < e ∧ Ideal.ofBits .f32 0x358637BD#32 = (e : EReal) := by
  refine ⟨8796093 / 8796093022208, by norm_num, ?_⟩
  simp [Ideal.ofBits, Ideal.ieee]
  norm_num
  try rw [← EReal.coe_mul]
  try norm_num

/-- The mean square of a row with the small number added, and one over its root. -/
def spread (x : Fin 1024 → EReal) : EReal :=
  Ideal.div (∑ z, x z * x z) (Ideal.ofBits .f32 0x44800000#32) + Ideal.ofBits .f32 0x358637BD#32
def root (x : Fin 1024 → EReal) : EReal := Ideal.rsqrt (spread x)

/-- What the rules of differentiation send back through the mean square, for each half of each square. -/
def slope (x u : Fin 1024 → EReal) : EReal :=
  Ideal.div ((∑ z, x z * u z) * (Ideal.ofBits .f32 0xBF000000#32 * Ideal.div (root x) (spread x))) (Ideal.ofBits .f32 0x44800000#32)

/-- What the call sends back: `u` is the gradient times the gains. -/
def back (x u : Fin 1024 → EReal) (z : Fin 1024) : EReal :=
  root x * (u z - x z * root x * Ideal.div (∑ w, x w * root x * u w) (Ideal.ofBits .f32 0x44800000#32))

theorem spread_real (x : Fin 1024 → ℝ) : ∃ v : ℝ, 0 < v ∧ spread (fun z => (x z : EReal)) = (v : EReal) := by
  obtain ⟨e, he, h⟩ := tiny_eq
  refine ⟨(∑ z, x z * x z) / 1024 + e, by have : 0 ≤ ∑ z, x z * x z := Finset.sum_nonneg fun z _ => mul_self_nonneg _; positivity, ?_⟩
  unfold spread
  rw [h, width_eq]
  simp only [← EReal.coe_mul]
  rw [Cert.Attention.sum_coe, Cert.Attention.div_real _ (by norm_num), ← EReal.coe_add]

theorem root_eq (x : Fin 1024 → ℝ) {v : ℝ} (hv : 0 < v) (h : spread (fun z => (x z : EReal)) = (v : EReal)) :
    root (fun z => (x z : EReal)) = (((Real.sqrt v)⁻¹ : ℝ) : EReal) := by
  unfold root
  rw [h, Ideal.rsqrt_coe, if_neg (not_lt.mpr hv.le), if_neg hv.ne']

/-- A square is not negative, and a row with an infinite element has an infinite mean square. -/
theorem square_nonneg (x : EReal) : 0 ≤ x * x := by
  induction x with
  | bot => simp
  | top => simp
  | coe r =>
    rw [← EReal.coe_mul]
    exact_mod_cast mul_self_nonneg r

theorem spread_top {x : Fin 1024 → EReal} (w : Fin 1024) (h : x w * x w = ⊤) : spread x = ⊤ := by
  obtain ⟨e, he, ht⟩ := tiny_eq
  have hs : ∑ z, x z * x z = ⊤ :=
    top_le_iff.mp (h ▸ Finset.single_le_sum (f := fun z => x z * x z) (fun z _ => square_nonneg (x z)) (Finset.mem_univ w))
  unfold spread
  rw [hs, ht, width_eq, Ideal.div_coe (by norm_num), EReal.top_mul_coe_of_pos (by norm_num), EReal.top_add_coe]

/-- A positive number may be taken out of a sum, whatever the terms. -/
theorem sum_scale {s : ℝ} (hs : 0 < s) (f : Fin 1024 → EReal) : ∑ z, (s : EReal) * f z = (s : EReal) * ∑ z, f z := by
  classical
  refine (Finset.induction_on (motive := fun t => ∑ i ∈ t, (s : EReal) * f i = (s : EReal) * ∑ i ∈ t, f i) Finset.univ (by simp) ?_)
  intro a t ha h
  rw [Finset.sum_insert ha, Finset.sum_insert ha, h,
    EReal.left_distrib_of_nonneg_of_ne_top (by exact_mod_cast hs.le) (EReal.coe_ne_top s)]

/-- Minus a number is minus half of it, twice, also where it is infinite. -/
theorem halves (x : EReal) : -x = ((-(1 / 2) : ℝ) : EReal) * x + ((-(1 / 2) : ℝ) : EReal) * x := by
  induction x with
  | bot => rw [EReal.coe_mul_bot_of_neg (by norm_num)]; rfl
  | top => rw [EReal.coe_mul_top_of_neg (by norm_num)]; rfl
  | coe r =>
    rw [← EReal.coe_mul, ← EReal.coe_add, ← EReal.coe_neg]
    congr 1
    ring

theorem back_eq_real (f : Fin 1024 → ℝ) (u : Fin 1024 → EReal) (z : Fin 1024) :
    back (fun z => (f z : EReal)) u z = u z * root (fun z => (f z : EReal)) + (f z : EReal) * slope (fun z => (f z : EReal)) u
      + slope (fun z => (f z : EReal)) u * (f z : EReal) := by
  obtain ⟨v, hv, h⟩ := spread_real f
  have hp : 0 < (Real.sqrt v)⁻¹ := inv_pos.mpr (Real.sqrt_pos.mpr hv)
  have hs : (Real.sqrt v)⁻¹ / v = (Real.sqrt v)⁻¹ * (Real.sqrt v)⁻¹ * (Real.sqrt v)⁻¹ := by
    rw [div_eq_mul_inv, mul_assoc, ← mul_inv (Real.sqrt v) (Real.sqrt v), Real.mul_self_sqrt hv.le]
  have hi : ∑ w, (f w : EReal) * (((Real.sqrt v)⁻¹ : ℝ) : EReal) * u w = (((Real.sqrt v)⁻¹ : ℝ) : EReal) * ∑ w, (f w : EReal) * u w := by
    rw [← sum_scale hp]
    exact Finset.sum_congr rfl fun w _ => by rw [mul_comm (f w : EReal), mul_assoc]
  unfold back slope
  rw [root_eq f hv h, h, width_eq, half_eq, Cert.Attention.div_real _ hv.ne', hs, hi, Ideal.div_coe (by norm_num), Ideal.div_coe (by norm_num)]
  beta_reduce
  generalize (∑ w, (f w : EReal) * u w) = i
  generalize u z = y
  generalize f z = a
  generalize (Real.sqrt v)⁻¹ = s at hp
  rw [sub_eq_add_neg, EReal.left_distrib_of_nonneg_of_ne_top (by exact_mod_cast hp.le) (EReal.coe_ne_top s), mul_neg, halves, EReal.coe_mul, EReal.coe_mul,
    mul_comm (s : EReal) y, add_assoc]
  refine congrArg (_ + ·) (congrArg₂ (· + ·) ?_ ?_) <;> ac_rfl

theorem back_eq_top {x : Fin 1024 → EReal} (u : Fin 1024 → EReal) (z : Fin 1024) (w : Fin 1024) (h : x w * x w = ⊤) :
    back x u z = u z * root x + x z * slope x u + slope x u * x z := by
  have hr : root x = 0 := by
    unfold root
    rw [spread_top w h]
    rfl
  have hd : Ideal.div 0 ⊤ = 0 := by simp [Ideal.div]
  have hz : slope x u = 0 := by
    unfold slope
    rw [hr, spread_top w h, hd, mul_zero, mul_zero, width_eq, Ideal.div_coe (by norm_num), zero_mul]
  unfold back
  rw [hr, hz, zero_mul, mul_zero, mul_zero, zero_mul, add_zero, add_zero]

/-- The two gradients of a row agree, whatever the row and the gradient hold. -/
theorem back_eq (x u : Fin 1024 → EReal) (z : Fin 1024) :
    back x u z = u z * root x + x z * slope x u + slope x u * x z := by
  by_cases h : ∃ w, x w * x w = ⊤
  · obtain ⟨w, h⟩ := h
    exact back_eq_top u z w h
  · have hx : ∀ w, ∃ r : ℝ, x w = (r : EReal) := fun w => by
      have hw : ¬ x w * x w = ⊤ := fun hw => h ⟨w, hw⟩
      revert hw
      generalize x w = y
      induction y with
      | bot => intro hw; exact absurd (by simp) hw
      | top => intro hw; exact absurd (by simp) hw
      | coe r => intro _; exact ⟨r, rfl⟩
    choose f hf using hx
    obtain rfl : x = fun z => (f z : EReal) := funext hf
    exact back_eq_real f u z

end Cert.Norm

end
-- ==== Proof.GateUpReference.lean ====
module
public import proofs.«01_k».proof.Proof.Gen.GateUpReferenceIdeal.Run
public import proofs.«01_k».proof.Proof.Norm
public import Idealize.ShloMosaic.Lib.Pointwise
public import Idealize.ShloMosaic.Lib.Pipeline.ValueKit
@[expose] public section

/-!
  The gradient that leaves the first feed-forward product, in the steps the reference takes, and what each step holds at
  one place.
-/

set_option maxRecDepth 16384
noncomputable section

namespace Cert.GateUpReferenceIdeal.Value
open Idealize.ShloMosaic Idealize.ShloMosaic.TcCoe Idealize.SL.Sem
open Cert.GateUpReferenceIdeal Cert.GateUpReferenceIdeal.Gen

/-- One number per row, spread over the row, and one gain per column, spread over the rows. -/
def wide (r : FVec Ideal S4096x1 .f32) : FVec Ideal S4096x1024 .f32 :=
  broadcastInDim S4096x1024 ![0, 1] bcast_S4096x1_S4096x1024_0_1 r
def gains (g : FVec Ideal S1024 .f32) : FVec Ideal S4096x1024 .f32 :=
  broadcastInDim S4096x1024 ![0, 1] bcast_S1x1024_S4096x1024_0_1 (broadcastInDim S1x1024 ![1] bcast_S1024_S1x1024_1 g)
def number (b : BitVec 32) : FVec Ideal S4096x1 .f32 := broadcastInDim S4096x1 ![] bcast_S_S4096x1 (constant S_ .f32 b)

/-- Each row's mean square with the small number added. -/
def spread (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (number 0x44800000#32)) (number 0x358637BD#32)

/-- What goes back through each row's mean square. -/
def slope (x u : FVec Ideal S4096x1024 .f32) : FVec Ideal S4096x1024 .f32 :=
  broadcastInDim S4096x1024 ![0] bcast_S4096_S4096x1024_0 (Host.reduceAdd (Host.divf (mulf (shapeCast S4096x1 (Host.reduceAdd (mulf x u) (constant S_ .f32 0x00000000#32) reducesTo_S4096x1024_S4096_d1 h_S_) shapeCasts_S4096_S4096x1) (mulf (number 0xBF000000#32) (Host.divf (Host.rsqrt (spread x)) (spread x)))) (number 0x44800000#32)) (constant S_ .f32 0x00000000#32) reducesTo_S4096x1_S4096_d1 h_S_)

/-- The stream before the feed-forward layer. -/
def stream (a0 a1 : FVec Ideal S4096x1024 .f32) (a2 : FVec Ideal S1024 .f32) : FVec Ideal S4096x1024 .f32 :=
  addf a0 (mulf (mulf a1 (wide (Host.rsqrt (spread a1)))) (gains a2))

/-- What reaches the normalised stream, through the product. -/
def reaching (a4 : FVec Ideal S1024x5632 .f32) (a6 a7 : FVec Ideal S4096x2816 .f32) : FVec Ideal S4096x1024 .f32 :=
  Host.dotGeneral (φ₁ := .f32) (φ₂ := .f32) dot_S4096x5632_S1024x5632_S4096x1024_1_1_0_0_n_n none (concatenate S4096x5632 1 [⟨S4096x2816, a6⟩, ⟨S4096x2816, a7⟩] concatenates_S4096x2816_S4096x2816_S4096x5632_d1) a4

variable (a0 a1 : FVec Ideal S4096x1024 .f32) (a2 a3 : FVec Ideal S1024 .f32) (a4 : FVec Ideal S1024x5632 .f32)
  (a5 : FVec Ideal S4096x1024 .f32) (a6 a7 : FVec Ideal S4096x2816 .f32)

/-- The gradient of the stream. -/
def dx : FVec Ideal S4096x1024 .f32 :=
  addf (addf (addf a5 (mulf (mulf (reaching a4 a6 a7) (gains a3)) (wide (Host.rsqrt (spread (stream a0 a1 a2))))))
      (mulf (stream a0 a1 a2) (slope (stream a0 a1 a2) (mulf (reaching a4 a6 a7) (gains a3)))))
    (mulf (slope (stream a0 a1 a2) (mulf (reaching a4 a6 a7) (gains a3))) (stream a0 a1 a2))

/-- The same, as it enters the norm of the mix. -/
def entering : FVec Ideal S4096x1024 .f32 := shapeCast S4096x1024 (dx a0 a1 a2 a3 a4 a5 a6 a7) shapeCasts_S4096x1024_S4096x1024

/-- The gradient of the mix. -/
def dmix : FVec Ideal S4096x1024 .bf16 :=
  truncf .bf16 (addf (addf (mulf (mulf (entering a0 a1 a2 a3 a4 a5 a6 a7) (gains a2)) (wide (Host.rsqrt (spread a1))))
      (mulf a1 (slope a1 (mulf (entering a0 a1 a2 a3 a4 a5 a6 a7) (gains a2)))))
    (mulf (slope a1 (mulf (entering a0 a1 a2 a3 a4 a5 a6 a7) (gains a2))) a1)) bitsLt_bf16_f32

/-- The sum of the rows of an array. -/
def summed (x : FVec Ideal S4096x1024 .f32) : FVec Ideal S1x1024 .f32 :=
  broadcastInDim S1x1024 ![1] bcast_S1024_S1x1024_1 (Host.reduceAdd (shapeCast S1x1024 (Host.reduceAdd x (constant S_ .f32 0x00000000#32) reducesTo_S4096x1024_S1024_d0 h_S_) shapeCasts_S1024_S1x1024) (constant S_ .f32 0x00000000#32) reducesTo_S1x1024_S1024_d0 h_S_)

/-- The gradients of the gains before the feed-forward layer and after the mix. -/
def dpre : FVec Ideal S1x1024 .f32 :=
  summed (mulf (mulf (stream a0 a1 a2) (wide (Host.rsqrt (spread (stream a0 a1 a2))))) (reaching a4 a6 a7))
def dpost : FVec Ideal S1x1024 .f32 :=
  summed (mulf (mulf a1 (wide (Host.rsqrt (spread a1)))) (entering a0 a1 a2 a3 a4 a5 a6 a7))

/-- Row `p` of an array. -/
abbrev row (x : FVec Ideal S4096x1024 .f32) (p : Fin 4096) : Fin 1024 → EReal := fun z => x (ix2 p z)

theorem root_at (x : FVec Ideal S4096x1024 .f32) (p : Fin 4096) (q : Fin 1024) :
    wide (Host.rsqrt (spread x)) (ix2 p q) = Cert.Norm.root (row x p) := by
  pointwise [wide, spread, number, Cert.Norm.root, Cert.Norm.spread]

theorem slope_at (x u : FVec Ideal S4096x1024 .f32) (p : Fin 4096) (q : Fin 1024) :
    slope x u (ix2 p q) = Cert.Norm.slope (row x p) (row u p) := by
  pointwise [slope, spread, number, Cert.Norm.slope, Cert.Norm.root, Cert.Norm.spread]
  exact Fin.sum_univ_one _

theorem gains_at (g : FVec Ideal S1024 .f32) (p : Fin 4096) (q : Fin 1024) : gains g (ix2 p q) = g (ix1 q) := by
  pointwise [gains]

theorem summed_at (x : FVec Ideal S4096x1024 .f32) (o : Fin 1) (q : Fin 1024) : summed x (ix2 o q) = ∑ p : Fin 4096, x (ix2 p q) := by
  pointwise [summed]
  exact Fin.sum_univ_one _

theorem stream_at (p : Fin 4096) (q : Fin 1024) :
    stream a0 a1 a2 (ix2 p q) = a0 (ix2 p q) + a1 (ix2 p q) * Cert.Norm.root (row a1 p) * a2 (ix1 q) := by
  rw [← root_at a1 p q, ← gains_at a2 p q]
  rfl

theorem reaching_at (p : Fin 4096) (q : Fin 1024) :
    reaching a4 a6 a7 (ix2 p q) = ∑ z : Fin 5632, (if h : z.val < 2816 then a6 (ix2 p ⟨z.val, h⟩) else a7 (ix2 p ⟨z.val - 2816, by omega⟩)) * a4 (ix2 q z) := by
  pointwise [reaching]

/-- The gradient before the gains, over a row. -/
def gained (p : Fin 4096) (z : Fin 1024) : EReal := reaching a4 a6 a7 (ix2 p z) * a3 (ix1 z)

theorem row_gained (p : Fin 4096) : row (mulf (reaching a4 a6 a7) (gains a3)) p = gained a3 a4 a6 a7 p := by
  funext z
  unfold gained
  rw [← gains_at a3 p z]
  rfl

theorem dx_at (p : Fin 4096) (q : Fin 1024) :
    dx a0 a1 a2 a3 a4 a5 a6 a7 (ix2 p q) = a5 (ix2 p q) + Cert.Norm.back (row (stream a0 a1 a2) p) (gained a3 a4 a6 a7 p) q := by
  rw [Cert.Norm.back_eq, ← row_gained, ← slope_at _ _ p q, ← root_at _ p q, ← add_assoc, ← add_assoc]
  rfl

/-- The gradient of the stream before the gains of the mix, over a row. -/
def given (p : Fin 4096) (z : Fin 1024) : EReal := dx a0 a1 a2 a3 a4 a5 a6 a7 (ix2 p z) * a2 (ix1 z)

theorem entering_at (p : Fin 4096) (q : Fin 1024) :
    entering a0 a1 a2 a3 a4 a5 a6 a7 (ix2 p q) = dx a0 a1 a2 a3 a4 a5 a6 a7 (ix2 p q) := by
  pointwise [entering]

theorem row_entering (p : Fin 4096) :
    row (mulf (entering a0 a1 a2 a3 a4 a5 a6 a7) (gains a2)) p = given a0 a1 a2 a3 a4 a5 a6 a7 p := by
  funext z
  unfold given
  rw [← gains_at a2 p z, ← entering_at]
  rfl

theorem dmix_at (p : Fin 4096) (q : Fin 1024) :
    dmix a0 a1 a2 a3 a4 a5 a6 a7 (ix2 p q) = Cert.Norm.back (row a1 p) (given a0 a1 a2 a3 a4 a5 a6 a7 p) q := by
  rw [Cert.Norm.back_eq, ← row_entering, ← slope_at _ _ p q, ← root_at _ p q]
  rfl

theorem dpre_at (o : Fin 1) (q : Fin 1024) :
    dpre a0 a1 a2 a4 a6 a7 (ix2 o q) = ∑ p : Fin 4096, reaching a4 a6 a7 (ix2 p q) * (stream a0 a1 a2 (ix2 p q) * Cert.Norm.root (row (stream a0 a1 a2) p)) := by
  unfold dpre
  rw [summed_at]
  refine Finset.sum_congr rfl fun p _ => ?_
  rw [mul_comm, ← root_at _ p q]
  rfl

theorem dpost_at (o : Fin 1) (q : Fin 1024) :
    dpost a0 a1 a2 a3 a4 a5 a6 a7 (ix2 o q) = ∑ p : Fin 4096, dx a0 a1 a2 a3 a4 a5 a6 a7 (ix2 p q) * (a1 (ix2 p q) * Cert.Norm.root (row a1 p)) := by
  unfold dpost
  rw [summed_at]
  refine Finset.sum_congr rfl fun p _ => ?_
  rw [mul_comm, ← root_at _ p q, ← entering_at]
  rfl

/-- The run's results are these. -/
theorem res_58 (m : (ℓ : Loc nD τ sig) → Buf (Elt Ideal) ℓ) (c : Dev nD) :
    res_main_v58 m c = dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl
theorem res_80 (m : (ℓ : Loc nD τ sig) → Buf (Elt Ideal) ℓ) (c : Dev nD) :
    res_main_v80 m c = dmix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl
theorem res_82 (m : (ℓ : Loc nD τ sig) → Buf (Elt Ideal) ℓ) (c : Dev nD) :
    res_main_v82 m c = dpost (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.GateUpReferenceIdeal.Value

end
-- ==== Proof.GateUp.lean ====
module
public import proofs.«01_k».proof.Proof.Gen.GateUpIdeal.Frame
public import proofs.«01_k».proof.Proof.GateUpReference
public import Idealize.ShloMosaic.Lib.Claim
@[expose] public section

/-!
  The gradient that leaves the first feed-forward product, as the call computes it: block by block of 512 rows, with the
  gradients of the gains added up over the blocks.
-/

set_option maxRecDepth 16384
noncomputable section

namespace Cert.GateUpIdeal.Value
open Idealize.ShloMosaic Idealize.ShloMosaic.TcCoe Idealize.SL.Sem
open Idealize.ShloMosaic.Pipeline (Dat)
open Cert.GateUpIdeal Cert.GateUpIdeal.Gen
open Cert.GateUpReferenceIdeal.Value (stream reaching gained given dx dmix dpre dpost row)

variable (m : (ℓ : Loc nD τ sig) → Buf (Elt Ideal) ℓ) (c : Dev nD)

/-- The arguments. -/
abbrev b0 : FVec Ideal S4096x1024 .f32 := m ((c : Thread nD τ).loc main_arg0)
abbrev b1 : FVec Ideal S4096x1024 .f32 := m ((c : Thread nD τ).loc main_arg1)
abbrev b2 : FVec Ideal S1024 .f32 := m ((c : Thread nD τ).loc main_arg2)
abbrev b3 : FVec Ideal S1024 .f32 := m ((c : Thread nD τ).loc main_arg3)
abbrev b4 : FVec Ideal S1024x5632 .f32 := m ((c : Thread nD τ).loc main_arg4)
abbrev b5 : FVec Ideal S4096x1024 .f32 := m ((c : Thread nD τ).loc main_arg5)
abbrev b6 : FVec Ideal S4096x2816 .f32 := m ((c : Thread nD τ).loc main_arg6)
abbrev b7 : FVec Ideal S4096x2816 .f32 := m ((c : Thread nD τ).loc main_arg7)

/-- The block each window reads or writes at a point of the grid. -/
theorem placed : ∀ t : Fin cfg0.N, win0_0.index t = ![t.val, 0]
    ∧ win0_1.index t = ![t.val, 0]
    ∧ win0_2.index t = ![0, 0, 0]
    ∧ win0_3.index t = ![t.val, 0]
    ∧ win0_4.index t = ![t.val, 0]
    ∧ win0_5.index t = ![0, 0, 0]
    ∧ win0_6.index t = ![t.val, 0]
    ∧ win0_7.index t = ![0, 0, 0]
    ∧ win0_8.index t = ![t.val, 0]
    ∧ win0_9.index t = ![0, 0]
    ∧ win0_10.index t = ![t.val, 0]
    ∧ win0_11.index t = ![0, 0] :=
  (by decide +kernel : ∀ t : Fin grid0.N, _)

theorem points (t : Fin cfg0.N) : t.val < 8 := t.isLt

/-- Row `p` of block `t`. -/
def at_ (t : Fin cfg0.N) (p : Fin 512) : Fin 4096 := ⟨t.val * 512 + p.val, by have := points t; omega⟩

/-- What the call reads of the stream is the stream of the reference. -/
theorem held : V m c main_v13 = stream (b0 m c) (b1 m c) (b2 m c) := by
  unfold V; after_results
  rfl

theorem read_stream (t : Fin cfg0.N) (p : Fin 512) (q : Fin 1024) :
    k0_pay6 (iblk m c 4 t) (ix2 p q) = stream (b0 m c) (b1 m c) (b2 m c) (ix2 (at_ t p) q) := by
  rw [← held]
  pointwise [k0_pay6]
  unfold at_
  blk_ext [iblk, placed t]

theorem read_gains (t : Fin cfg0.N) (q : Fin 1024) : k0_pay7 (iblk m c 5 t) (ix2 0 q) = b3 m c (ix1 q) := by
  pointwise [k0_pay7]
  blk_point [iblk, V, placed t]
theorem read_gains_mix (t : Fin cfg0.N) (q : Fin 1024) : k0_pay17 (iblk m c 7 t) (ix2 0 q) = b2 m c (ix1 q) := by
  pointwise [k0_pay17]
  blk_point [iblk, V, placed t]
theorem read_mix (t : Fin cfg0.N) (p : Fin 512) (q : Fin 1024) : iblk m c 6 t (ix2 p q) = b1 m c (ix2 (at_ t p) q) := by
  unfold at_
  blk_point [iblk, V, placed t]
theorem read_grad (t : Fin cfg0.N) (p : Fin 512) (q : Fin 1024) : iblk m c 3 t (ix2 p q) = b5 m c (ix2 (at_ t p) q) := by
  unfold at_
  blk_point [iblk, V, placed t]

/-- A sum over the columns of both factors, in the order the call takes the four parts. -/
theorem parts (f : Fin 5632 → EReal) :
    ∑ z, f z = (((∑ z : Fin 1408, f ⟨z.val, by omega⟩) + ∑ z : Fin 1408, f ⟨2816 + z.val, by omega⟩)
      + ∑ z : Fin 1408, f ⟨1408 + z.val, by omega⟩) + ∑ z : Fin 1408, f ⟨4224 + z.val, by omega⟩ := by
  have h : ∑ z, f z = ∑ z : Fin (1408 + 1408 + (1408 + 1408)), f z := rfl
  rw [h, Fin.sum_univ_add, Fin.sum_univ_add, Fin.sum_univ_add, add_assoc, add_assoc, add_assoc]
  refine congrArg₂ (· + ·) (Finset.sum_congr rfl fun z _ => congrArg f (Fin.ext rfl)) ?_
  rw [add_left_comm]
  refine congrArg₂ (· + ·) (Finset.sum_congr rfl fun z _ => congrArg f (Fin.ext rfl)) (congrArg₂ (· + ·) (Finset.sum_congr rfl fun z _ => congrArg f (Fin.ext rfl)) (Finset.sum_congr rfl fun z _ => congrArg f (Fin.ext ?_)))
  show 1408 + 1408 + (1408 + z.val) = 4224 + z.val
  omega

theorem read_gate (t : Fin cfg0.N) (p : Fin 512) (z : Fin 2816) : iblk m c 0 t (ix2 p z) = b6 m c (ix2 (at_ t p) z) := by
  unfold at_
  blk_point [iblk, V, placed t]
theorem read_factor (t : Fin cfg0.N) (p : Fin 512) (z : Fin 2816) : iblk m c 1 t (ix2 p z) = b7 m c (ix2 (at_ t p) z) := by
  unfold at_
  blk_point [iblk, V, placed t]
theorem read_weights (t : Fin cfg0.N) (s : Fin 4) (q : Fin 1024) (z : Fin 1408) :
    iblk m c 2 t (ix3 s q z) = b4 m c (ix2 q ⟨1408 * s.val + z.val, by omega⟩) := by
  blk_point [iblk, V, placed t]

/-- The block's product, in its four parts. -/
abbrev product (t : Fin cfg0.N) : FVec Ideal S512x1024 .f32 :=
  k0_pay11 (k0_pay8 (View.ld (iblk m c 0 t) (Rect.unit ![0, 0] ![512, 1408] inb_S512x2816_S512x1408_0_0))
        (View.ld (iblk m c 2 t) (Rect.unit ![0, 0, 0] ![1, 1024, 1408] inb_S4x1024x1408_S1x1024x1408_0_0_0))
        (View.ld (iblk m c 1 t) (Rect.unit ![0, 0] ![512, 1408] inb_S512x2816_S512x1408_0_0))
        (View.ld (iblk m c 2 t) (Rect.unit ![2, 0, 0] ![1, 1024, 1408] inb_S4x1024x1408_S1x1024x1408_2_0_0))
        (View.ld (iblk m c 0 t) (Rect.unit ![0, 1408] ![512, 1408] inb_S512x2816_S512x1408_0_1408))
        (View.ld (iblk m c 2 t) (Rect.unit ![1, 0, 0] ![1, 1024, 1408] inb_S4x1024x1408_S1x1024x1408_1_0_0)))
      (k0_pay9 (View.ld (iblk m c 1 t) (Rect.unit ![0, 1408] ![512, 1408] inb_S512x2816_S512x1408_0_1408)))
      (k0_pay10 (View.ld (iblk m c 2 t) (Rect.unit ![3, 0, 0] ![1, 1024, 1408] inb_S4x1024x1408_S1x1024x1408_3_0_0)))
      (constant S512x1024 FTy.f32 0#32)

theorem product_at (t : Fin cfg0.N) (p : Fin 512) (q : Fin 1024) :
    product m c t (ix2 p q) = reaching (b4 m c) (b6 m c) (b7 m c) (ix2 (at_ t p) q) := by
  rw [Cert.GateUpReferenceIdeal.Value.reaching_at, parts]
  pointwise [product, k0_pay11, k0_pay8, k0_pay9, k0_pay10]
  refine congrArg₂ (· + ·) (congrArg₂ (· + ·) (congrArg₂ (· + ·) ?_ ?_) ?_) ?_ <;> refine Finset.sum_congr rfl fun z _ => ?_
  · rw [dif_pos (by omega)]
    exact congrArg₂ (· * ·) (read_gate m c t p _) ((read_weights m c t 0 q z).trans (congrArg (fun k => b4 m c (ix2 q k)) (Fin.ext (by show 1408 * 0 + z.val = z.val; omega))))
  · exact congrArg₂ (· * ·) (read_factor m c t p _) ((read_weights m c t 2 q z).trans (congrArg (fun k => b4 m c (ix2 q k)) (Fin.ext (by show 1408 * 2 + z.val = 2816 + z.val; omega))))
  · rw [dif_pos (by omega)]
    exact congrArg₂ (· * ·) (read_gate m c t p _) ((read_weights m c t 1 q z).trans (congrArg (fun k => b4 m c (ix2 q k)) (Fin.ext (by show 1408 * 1 + z.val = 1408 + z.val; omega))))
  · rw [dif_neg (by omega)]
    exact congrArg₂ (· * ·) ((read_factor m c t p _).trans (congrArg (fun k => b7 m c (ix2 (at_ t p) k)) (Fin.ext (by show 1408 + z.val = 4224 + z.val - 2816; omega)))) ((read_weights m c t 3 q z).trans (congrArg (fun k => b4 m c (ix2 q k)) (Fin.ext (by show 1408 * 3 + z.val = 4224 + z.val; omega))))

theorem pay15_at (v2 v4 v23 v25 v27 k v55) (p : Fin 512) (q : Fin 1024) :
    k0_pay15 (F := Ideal) v2 v4 v23 v25 v27 k v55 (ix2 p q)
      = v55 (ix2 p q) + Cert.Norm.back (fun z => v2 (ix2 p z)) (fun z => k0_pay11 (F := Ideal) v23 v25 v27 k (ix2 p z) * v4 (ix2 0 z)) q := by
  pointwise [k0_pay15, k0_pay13, k0_pay12, Cert.Norm.back, Cert.Norm.root, Cert.Norm.spread]

theorem pay4_at (v56 v63 v65) (p : Fin 512) (q : Fin 1024) :
    k0_pay4 (F := Ideal) v56 v63 v65 (k0_pay18 v63) (ix2 p q)
      = Cert.Norm.back (fun z => v63 (ix2 p z)) (fun z => v56 (ix2 p z) * v65 (ix2 0 z)) q := by
  pointwise [k0_pay4, k0_pay2, k0_pay1, k0_pay18, Cert.Norm.back, Cert.Norm.root, Cert.Norm.spread]

theorem pay14_at (v2 v23 v25 v27 k) (q : Fin 1024) :
    k0_pay14 (F := Ideal) v2 v23 v25 v27 k (ix2 0 q)
      = ∑ p : Fin 512, k0_pay11 (F := Ideal) v23 v25 v27 k (ix2 p q) * (v2 (ix2 p q) * Cert.Norm.root (fun z => v2 (ix2 p z))) := by
  pointwise [k0_pay14, k0_pay13, k0_pay12, Cert.Norm.root, Cert.Norm.spread]

theorem pay3_at (v56 v63) (q : Fin 1024) :
    k0_pay3 (F := Ideal) v56 v63 (k0_pay18 v63) (ix2 0 q)
      = ∑ p : Fin 512, v56 (ix2 p q) * (v63 (ix2 p q) * Cert.Norm.root (fun z => v63 (ix2 p z))) := by
  pointwise [k0_pay3, k0_pay2, k0_pay1, k0_pay18, Cert.Norm.root, Cert.Norm.spread]

theorem pay16_at (v2 v23 v25 v27 k v98) (j : S1x1024.Idx) :
    k0_pay16 (F := Ideal) v2 v23 v25 v27 k v98 j = v98 j + k0_pay14 (F := Ideal) v2 v23 v25 v27 k j := by
  pointwise [k0_pay16]

theorem pay5_at (v56 v63 v66 v98) (j : S1x1024.Idx) :
    k0_pay5 (F := Ideal) v56 v63 v66 v98 j = v98 j + k0_pay3 (F := Ideal) v56 v63 v66 j := by
  pointwise [k0_pay5]

/-- What the call stores of the stream's gradient at a point. -/
abbrev stored (t : Fin cfg0.N) : FVec Ideal S512x1024 .f32 :=
  k0_pay15 (k0_pay6 (iblk m c 4 t)) (k0_pay7 (iblk m c 5 t))
      (k0_pay8 (View.ld (iblk m c 0 t) (Rect.unit ![0, 0] ![512, 1408] inb_S512x2816_S512x1408_0_0))
        (View.ld (iblk m c 2 t) (Rect.unit ![0, 0, 0] ![1, 1024, 1408] inb_S4x1024x1408_S1x1024x1408_0_0_0))
        (View.ld (iblk m c 1 t) (Rect.unit ![0, 0] ![512, 1408] inb_S512x2816_S512x1408_0_0))
        (View.ld (iblk m c 2 t) (Rect.unit ![2, 0, 0] ![1, 1024, 1408] inb_S4x1024x1408_S1x1024x1408_2_0_0))
        (View.ld (iblk m c 0 t) (Rect.unit ![0, 1408] ![512, 1408] inb_S512x2816_S512x1408_0_1408))
        (View.ld (iblk m c 2 t) (Rect.unit ![1, 0, 0] ![1, 1024, 1408] inb_S4x1024x1408_S1x1024x1408_1_0_0)))
      (k0_pay9 (View.ld (iblk m c 1 t) (Rect.unit ![0, 1408] ![512, 1408] inb_S512x2816_S512x1408_0_1408)))
      (k0_pay10 (View.ld (iblk m c 2 t) (Rect.unit ![3, 0, 0] ![1, 1024, 1408] inb_S4x1024x1408_S1x1024x1408_3_0_0)))
      (constant S512x1024 FTy.f32 0#32) (iblk m c 3 t)

end Cert.GateUpIdeal.Value

end
-- ==== Proof.GateUpArrays.lean ====
module
public import proofs.«01_k».proof.Proof.GateUp
@[expose] public section

/-!
  The four arrays the call leaves: the gradients of the stream and of the mix by blocks of rows, and the gradients of the
  two gains added up over the blocks, against the reference.
-/

set_option maxRecDepth 16384
noncomputable section

namespace Cert.GateUpIdeal.Value
open Idealize.ShloMosaic Idealize.ShloMosaic.TcCoe Idealize.SL.Sem
open Idealize.ShloMosaic.Pipeline (Dat)
open Cert.GateUpIdeal Cert.GateUpIdeal.Gen
open Cert.GateUpReferenceIdeal.Value (stream reaching gained given dx dmix dpre dpost row)

variable (m : (ℓ : Loc nD τ sig) → Buf (Elt Ideal) ℓ) (c : Dev nD)

/-- The results of the reference at the call's arguments. -/
abbrev refDx : FVec Ideal S4096x1024 .f32 := dx (b0 m c) (b1 m c) (b2 m c) (b3 m c) (b4 m c) (b5 m c) (b6 m c) (b7 m c)
abbrev refDmix : FVec Ideal S4096x1024 .bf16 := dmix (b0 m c) (b1 m c) (b2 m c) (b3 m c) (b4 m c) (b5 m c) (b6 m c) (b7 m c)
abbrev refPre : FVec Ideal S1x1024 .f32 := dpre (b0 m c) (b1 m c) (b2 m c) (b4 m c) (b6 m c) (b7 m c)
abbrev refPost : FVec Ideal S1x1024 .f32 := dpost (b0 m c) (b1 m c) (b2 m c) (b3 m c) (b4 m c) (b5 m c) (b6 m c) (b7 m c)

theorem row_stream (t : Fin cfg0.N) (p : Fin 512) :
    (fun z => k0_pay6 (iblk m c 4 t) (ix2 p z)) = row (stream (b0 m c) (b1 m c) (b2 m c)) (at_ t p) := by
  funext z
  exact read_stream m c t p z

theorem row_mix (t : Fin cfg0.N) (p : Fin 512) :
    (fun z => (iblk m c 6 t : FVec Ideal S512x1024 .f32) (ix2 p z)) = row (b1 m c) (at_ t p) := by
  funext z
  exact read_mix m c t p z

theorem stored_at (t : Fin cfg0.N) (p : Fin 512) (q : Fin 1024) : stored m c t (ix2 p q) = refDx m c (ix2 (at_ t p) q) := by
  refine (pay15_at _ _ _ _ _ _ _ p q).trans (Eq.trans ?_
    (Cert.GateUpReferenceIdeal.Value.dx_at (b0 m c) (b1 m c) (b2 m c) (b3 m c) (b4 m c) (b5 m c) (b6 m c) (b7 m c) (at_ t p) q).symm)
  refine congrArg₂ (· + ·) (read_grad m c t p q) ?_
  rw [row_stream]
  refine congrArg (fun u => Cert.Norm.back _ u q) ?_
  funext z
  exact congrArg₂ (· * ·) (product_at m c t p z) (read_gains m c t z)

theorem mixed_at (t : Fin cfg0.N) (p : Fin 512) (q : Fin 1024) :
    k0_pay4 (stored m c t) (iblk m c 6 t) (k0_pay17 (iblk m c 7 t)) (k0_pay18 (iblk m c 6 t)) (ix2 p q) = refDmix m c (ix2 (at_ t p) q) := by
  refine (pay4_at _ _ _ p q).trans (Eq.trans ?_
    (Cert.GateUpReferenceIdeal.Value.dmix_at (b0 m c) (b1 m c) (b2 m c) (b3 m c) (b4 m c) (b5 m c) (b6 m c) (b7 m c) (at_ t p) q).symm)
  rw [row_mix]
  refine congrArg (fun u => Cert.Norm.back _ u q) ?_
  funext z
  exact congrArg₂ (· * ·) (stored_at m c t p z) (read_gains_mix m c t z)

/-- Where a block lies in the array. -/
theorem place_8 (t : Fin cfg0.N) (y : S512x1024.Idx) : ((cfg0.win 8).blk t).view.emb y = ix2 (at_ t (y 0)) (y 1) := by
  unfold at_
  blk_ext [placed t]
theorem place_10 (t : Fin cfg0.N) (y : S512x1024.Idx) : ((cfg0.win 10).blk t).view.emb y = ix2 (at_ t (y 0)) (y 1) := by
  unfold at_
  blk_ext [placed t]
theorem pair_eq (y : S512x1024.Idx) : y = ix2 (y 0) (y 1) := by
  funext d
  match d with
  | 0 => rfl
  | 1 => rfl

theorem array_8 : (dats m 0 c).arrAt 8 (cfgs 0).N = refDx m c := by
  refine (dats m 0 c).arrAt_eq_of_covers 8 _ (by decide +kernel) fun t hf y => ?_
  have h8 : t.val < 8 := t.isLt
  have e : stored m c t y = refDx m c (((cfg0.win 8).blk t).view.emb y) := by
    rw [place_8]
    exact (congrArg (stored m c t) (pair_eq y)).trans (stored_at m c t (y 0) (y 1))
  blk_simp; rw [after0_8]
  by_cases h : t.val % 8 = 0
  · rw [outsAt0_A m c t h (by omega) h (by omega)]; frame_out
    exact e
  · have h' : 1 ≤ t.val := by omega
    rw [outsAt0_B m c t h h' h h']; frame_out
    exact e

theorem array_10 : (dats m 0 c).arrAt 10 (cfgs 0).N = refDmix m c := by
  refine (dats m 0 c).arrAt_eq_of_covers 10 _ (by decide +kernel) fun t hf y => ?_
  have h8 : t.val < 8 := t.isLt
  have e : k0_pay4 (stored m c t) (iblk m c 6 t) (k0_pay17 (iblk m c 7 t)) (k0_pay18 (iblk m c 6 t)) y = refDmix m c (((cfg0.win 10).blk t).view.emb y) := by
    rw [place_10]
    exact (congrArg _ (pair_eq y)).trans (mixed_at m c t (y 0) (y 1))
  blk_simp; rw [after0_10]
  by_cases h : t.val % 8 = 0
  · rw [outsAt0_A m c t h (by omega) h (by omega)]; frame_out
    exact e
  · have h' : 1 ≤ t.val := by omega
    rw [outsAt0_B m c t h h' h h']; frame_out
    exact e

/-- What one row adds to the gradients of the gains. -/
def addsPre (k : Fin 4096) (q : Fin 1024) : EReal :=
  reaching (b4 m c) (b6 m c) (b7 m c) (ix2 k q) * (stream (b0 m c) (b1 m c) (b2 m c) (ix2 k q) * Cert.Norm.root (row (stream (b0 m c) (b1 m c) (b2 m c)) k))
def addsPost (k : Fin 4096) (q : Fin 1024) : EReal :=
  refDx m c (ix2 k q) * (b1 m c (ix2 k q) * Cert.Norm.root (row (b1 m c) k))

theorem only (j : S1x1024.Idx) : j = ix2 0 (j 1) := by
  funext d
  match d with
  | 0 => exact Fin.ext (by have : (j 0).val < 1 := (j 0).isLt; show (j 0).val = 0; omega)
  | 1 => rfl

/-- What one block adds. -/
theorem block_9 (t : Fin cfg0.N) (j : S1x1024.Idx) :
    k0_pay14 (k0_pay6 (iblk m c 4 t)) (k0_pay8 (View.ld (iblk m c 0 t) (Rect.unit ![0, 0] ![512, 1408] inb_S512x2816_S512x1408_0_0))
        (View.ld (iblk m c 2 t) (Rect.unit ![0, 0, 0] ![1, 1024, 1408] inb_S4x1024x1408_S1x1024x1408_0_0_0))
        (View.ld (iblk m c 1 t) (Rect.unit ![0, 0] ![512, 1408] inb_S512x2816_S512x1408_0_0))
        (View.ld (iblk m c 2 t) (Rect.unit ![2, 0, 0] ![1, 1024, 1408] inb_S4x1024x1408_S1x1024x1408_2_0_0))
        (View.ld (iblk m c 0 t) (Rect.unit ![0, 1408] ![512, 1408] inb_S512x2816_S512x1408_0_1408))
        (View.ld (iblk m c 2 t) (Rect.unit ![1, 0, 0] ![1, 1024, 1408] inb_S4x1024x1408_S1x1024x1408_1_0_0)))
      (k0_pay9 (View.ld (iblk m c 1 t) (Rect.unit ![0, 1408] ![512, 1408] inb_S512x2816_S512x1408_0_1408)))
      (k0_pay10 (View.ld (iblk m c 2 t) (Rect.unit ![3, 0, 0] ![1, 1024, 1408] inb_S4x1024x1408_S1x1024x1408_3_0_0)))
      (constant S512x1024 FTy.f32 0#32) j = ∑ p : Fin 512, addsPre m c (at_ t p) (j 1) := by
  refine (congrArg _ (only j)).trans ((pay14_at _ _ _ _ _ (j 1)).trans (Finset.sum_congr rfl fun p _ => ?_))
  unfold addsPre
  rw [row_stream]
  exact congrArg₂ (· * ·) (product_at m c t p (j 1)) (congrArg (· * _) (read_stream m c t p (j 1)))

theorem block_11 (t : Fin cfg0.N) (j : S1x1024.Idx) :
    k0_pay3 (stored m c t) (iblk m c 6 t) (k0_pay18 (iblk m c 6 t)) j = ∑ p : Fin 512, addsPost m c (at_ t p) (j 1) := by
  refine (congrArg _ (only j)).trans ((pay3_at _ _ (j 1)).trans (Finset.sum_congr rfl fun p _ => ?_))
  unfold addsPost
  rw [row_mix]
  exact congrArg₂ (· * ·) (stored_at m c t p (j 1)) (congrArg (· * _) (read_mix m c t p (j 1)))

theorem array_9 : (dats m 0 c).arrAt 9 (cfgs 0).N = refPre m c := by
  refine (dats m 0 c).arrAt_eq_of_after_last 9 t0_7 (by decide +kernel) _ fun j => ?_
  blk_simp
  rw [after0_9, Pipeline.eq_sum_fin_of_reset_step_apply_last (fun n h => (outsAt0 m c n h).2.1) 8 (fun _ => (0 : EReal))
    (fun t j => ∑ p : Fin 512, addsPre m c (at_ t p) (j 1))
    (fun t h j => by
      have h8 := points t
      rw [outsAt0_A m c t h (by omega) h (by omega)]; frame_out
      exact (block_9 m c t j).trans (zero_add _).symm)
    (fun t h j => by
      have h8 := points t
      have h1 : 1 ≤ t.val := by omega
      rw [outsAt0_B m c t h h1 h h1]; frame_out
      exact (pay16_at _ _ _ _ _ _ j).trans (congrArg (_ + ·) (block_9 m c t j)))
    (le_of_eq N_0) t0_7 rfl j, zero_add]
  refine Eq.trans (Fin.sum_mul_add_congr (L := 4096) (f := fun k => addsPre m c k (j 1)) (fun s k hl => rfl))
    ((congrArg (refPre m c) (only j)).trans (Cert.GateUpReferenceIdeal.Value.dpre_at _ _ _ _ _ _ 0 (j 1))).symm

theorem array_11 : (dats m 0 c).arrAt 11 (cfgs 0).N = refPost m c := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => (0 : EReal))
    (fun t j => ∑ p : Fin 512, addsPost m c (at_ t p) (j 1))
    (fun t h j => by
      have h8 := points t
      rw [outsAt0_A m c t h (by omega) h (by omega)]; frame_out
      exact (block_11 m c t j).trans (zero_add _).symm)
    (fun t h j => by
      have h8 := points t
      have h1 : 1 ≤ t.val := by omega
      rw [outsAt0_B m c t h h1 h h1]; frame_out
      exact (pay5_at _ _ _ _ j).trans (congrArg (_ + ·) (block_11 m c t j)))
    (le_of_eq N_0) t0_7 rfl j, zero_add]
  refine Eq.trans (Fin.sum_mul_add_congr (L := 4096) (f := fun k => addsPost m c k (j 1)) (fun s k hl => rfl))
    ((congrArg (refPost m c) (only j)).trans (Cert.GateUpReferenceIdeal.Value.dpost_at _ _ _ _ _ _ _ _ 0 (j 1))).symm

end Cert.GateUpIdeal.Value

end
-- ==== Proof.Inputs.lean ====
/- The call that takes the gradient back through the first feed-forward product and two norms: what it leaves in its
   results is what the rules of differentiation give. -/
module

public import proofs.«01_k».proof.Defs
public import proofs.«01_k».proof.Proof.GateUpArrays
@[expose] public section

noncomputable section

namespace Cert.Proof

open Idealize.ShloMosaic Idealize.SL.Sem

theorem algebraic_gate_up : Cert.algebraic_GateUpIdeal_GateUpReferenceIdeal := by
  intro m ρ m' ρ' _ hArgs
  refine ⟨fun c => (Cert.GateUpIdeal.Gen.dats m 0 c).arrAt 8 (Cert.GateUpIdeal.cfgs 0).N,
    fun c => (Cert.GateUpIdeal.Gen.dats m 0 c).arrAt 10 (Cert.GateUpIdeal.cfgs 0).N,
    fun c => (Cert.GateUpIdeal.Gen.dats m 0 c).arrAt 9 (Cert.GateUpIdeal.cfgs 0).N,
    fun c => (Cert.GateUpIdeal.Gen.dats m 0 c).arrAt 11 (Cert.GateUpIdeal.cfgs 0).N, ?_, ?_⟩
  · exact (θ_run _ _ _).mono (fun r h c => ⟨(h.1 c).1 8, (h.1 c).1 10, (h.1 c).1 9, (h.1 c).1 11, h.2.1 c⟩)
      (θ_run_and (Cert.GateUpIdeal.Gen.run_main m ρ) (Cert.GateUpIdeal.Gen.frame m ρ))
  · refine (θ_run _ _ _).mono (fun r h c => ⟨(h c).1.trans ?_, (h c).2.1.trans ?_, (h c).2.2.1.trans ?_, (h c).2.2.2.1.trans ?_, (h c).2.2.2.2⟩) (Cert.GateUpReferenceIdeal.Value.run (F := Ideal) m' ρ')
    · obtain ⟨g0, g1, g2, g3, g4, g5, g6, g7⟩ := hArgs c
      exact (Cert.GateUpReferenceIdeal.Value.res_58 m' c).trans (((congr (congr (congr (congr (congr (congr (congr (congrArg Cert.GateUpReferenceIdeal.Value.dx g0) g1) g2) g3) g4) g5) g6) g7).trans (Cert.GateUpIdeal.Value.array_8 m c).symm))
    · obtain ⟨g0, g1, g2, g3, g4, g5, g6, g7⟩ := hArgs c
      exact (Cert.GateUpReferenceIdeal.Value.res_80 m' c).trans (((congr (congr (congr (congr (congr (congr (congr (congrArg Cert.GateUpReferenceIdeal.Value.dmix g0) g1) g2) g3) g4) g5) g6) g7).trans (Cert.GateUpIdeal.Value.array_10 m c).symm))
    · obtain ⟨g0, g1, g2, g3, g4, g5, g6, g7⟩ := hArgs c
      exact (congr (congr (congr (congr (congr (congrArg Cert.GateUpReferenceIdeal.Value.dpre g0) g1) g2) g4) g6) g7).trans (Cert.GateUpIdeal.Value.array_9 m c).symm
    · obtain ⟨g0, g1, g2, g3, g4, g5, g6, g7⟩ := hArgs c
      exact (Cert.GateUpReferenceIdeal.Value.res_82 m' c).trans (((congr (congr (congr (congr (congr (congr (congr (congrArg Cert.GateUpReferenceIdeal.Value.dpost g0) g1) g2) g3) g4) g5) g6) g7).trans (Cert.GateUpIdeal.Value.array_11 m c).symm))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Gen.DownReferenceIdeal.Run
public import proofs.«01_k».proof.Proof.Gen.Weights
public import proofs.«01_k».proof.Proof.Gen.Weights.Frame
public import proofs.«01_k».proof.Proof.Gen.WeightsIdeal
public import proofs.«01_k».proof.Proof.Gen.WeightsIdeal.Frame
public import proofs.«01_k».proof.Proof.Gen.WeightsReferenceIdeal
public import proofs.«01_k».proof.Proof.Gen.WeightsReferenceIdeal.Run
public import proofs.«01_k».proof.Proof.Gen.DownWeights
public import proofs.«01_k».proof.Proof.Gen.DownWeights.Frame
public import proofs.«01_k».proof.Proof.Gen.DownWeightsIdeal
public import proofs.«01_k».proof.Proof.Gen.DownWeightsIdeal.Frame
public import proofs.«01_k».proof.Proof.Gen.DownWeightsReferenceIdeal
public import proofs.«01_k».proof.Proof.Gen.DownWeightsReferenceIdeal.Run
public import proofs.«01_k».proof.Proof.Gen.InWeights
public import proofs.«01_k».proof.Proof.Gen.InWeights.Frame
public import proofs.«01_k».proof.Proof.Gen.InWeightsIdeal
public import proofs.«01_k».proof.Proof.Gen.InWeightsIdeal.Frame
public import proofs.«01_k».proof.Proof.Gen.InWeightsReferenceIdeal
public import proofs.«01_k».proof.Proof.Gen.InWeightsReferenceIdeal.Run
public import proofs.«01_k».proof.Proof.Gen.OutWeights
public import proofs.«01_k».proof.Proof.Gen.OutWeights.Frame
public import proofs.«01_k».proof.Proof.Gen.OutWeightsIdeal
public import proofs.«01_k».proof.Proof.Gen.OutWeightsIdeal.Frame
public import proofs.«01_k».proof.Proof.Gen.OutWeightsReferenceIdeal
public import proofs.«01_k».proof.Proof.Gen.OutWeightsReferenceIdeal.Run
public import proofs.«01_k».proof.Proof.Gen.Gates
public import proofs.«01_k».proof.Proof.Gen.GatesIdeal
public import proofs.«01_k».proof.Proof.Gen.Gates.Frame
public import proofs.«01_k».proof.Proof.Gen.GatesIdeal.Frame
public import proofs.«01_k».proof.Proof.Gen.GatesReferenceIdeal
public import proofs.«01_k».proof.Proof.Gen.GatesReferenceIdeal.Run
public import proofs.«01_k».proof.Proof.Gen.DownForward
public import proofs.«01_k».proof.Proof.Gen.DownForwardIdeal
public import proofs.«01_k».proof.Proof.Gen.DownForward.Frame
public import proofs.«01_k».proof.Proof.Gen.DownForwardIdeal.Frame
public import proofs.«01_k».proof.Proof.Gen.DownForwardReferenceIdeal
public import proofs.«01_k».proof.Proof.Gen.DownForwardReferenceIdeal.Run
public import proofs.«01_k».proof.Proof.Gen.GateUp
public import proofs.«01_k».proof.Proof.Gen.GateUpIdeal
public import proofs.«01_k».proof.Proof.Gen.GateUp.Frame
public import proofs.«01_k».proof.Proof.Gen.GateUpIdeal.Frame
public import proofs.«01_k».proof.Proof.Gen.GateUpReferenceIdeal
public import proofs.«01_k».proof.Proof.Gen.GateUpReferenceIdeal.Run
public import proofs.«01_k».proof.Proof.Frames
public import proofs.«01_k».proof.Proof.Finite
public import proofs.«01_k».proof.Proof.Agree
public import proofs.«01_k».proof.Proof.Products
public import proofs.«01_k».proof.Proof.Forward
public import proofs.«01_k».proof.Proof.Inputs

@[expose] public section

noncomputable section

namespace Cert.Proof

open Idealize.ShloMosaic Idealize.SL.Sem

theorem frame_ideal_finite [Cert.Pre_finite.Facts] : Cert.quiescent_KernelIdeal_pre_finite := fun m ρ _ => Cert.KernelIdeal.Tiles.framed m ρ

theorem frame_reference_finite [Cert.Pre_finite.Facts] : Cert.quiescent_ReferenceIdeal_pre_finite := fun m ρ _ => frame_reference m ρ trivial

/-- What the kernel leaves in its result, and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, r.2.mem ((c.tc : Thread Cert.KernelIdeal.nD Cert.KernelIdeal.τ).loc Cert.KernelIdeal.main_v112) = Cert.KernelIdeal.Tiles.final m c) :=
  (θ_run _ _ _).mono (fun _ h c => ((h c).1 8).trans (Cert.KernelIdeal.Tiles.final_eq m c)) (Cert.KernelIdeal.Tiles.run_main m ρ)

theorem algebraic [Cert.Pre_finite.Facts] : Cert.algebraic_KernelIdeal_ReferenceIdeal_pre_finite := by
  intro m ρ m' ρ' hPre hArgs
  refine ⟨fun c => Cert.KernelIdeal.Tiles.final m c, ?_, ?_⟩
  · exact (θ_run _ _ _).mono (fun r h c => ⟨h.1 c, h.2.1 c⟩) (θ_run_and (kernel_run m ρ) (Cert.KernelIdeal.Tiles.framed m ρ))
  · refine (θ_run _ _ _).mono (fun r h c => ⟨(h c).1.trans ?_, (h c).2⟩) (Cert.ReferenceIdeal.Value.run (F := Ideal) m' ρ')
    obtain ⟨g0, g1, g2, g3, g4, g5⟩ := hArgs c
    have hf := hPre c
    rw [← g0, ← g1, ← g2, ← g3, ← g4, ← g5] at hf
    exact (Cert.KernelIdeal.Tiles.final_result (StableHlo.launchContents m' c) m c g0.symm g1.symm g2.symm g3.symm g4.symm g5.symm
      (Cert.Attention.real_0 _ _ _ _ _ _ hf) (Cert.Attention.real_1 _ _ _ _ _ _ hf) (Cert.Attention.real_2 _ _ _ _ _ _ hf)
      (Cert.Attention.real_3 _ _ _ _ _ _ hf) (Cert.Attention.real_4 _ _ _ _ _ _ hf) (Cert.Attention.real_5 _ _ _ _ _ _ hf)).symm

theorem frame_down_reference : Cert.quiescent_DownReferenceIdeal := fun m ρ _ =>
  (θ_run Cert.DownReferenceIdeal.defs _ _).mono (fun r h => ⟨fun c => (h c).2.2,
      Idealize.ShloMosaic.sem_eq_zero_of_no_sems (by decide) r.2⟩)
    (Cert.DownReferenceIdeal.Value.run (F := Ideal) m ρ)

theorem frame_weights_reference : Cert.quiescent_WeightsReferenceIdeal := fun m ρ _ =>
  (θ_run Cert.WeightsReferenceIdeal.defs _ _).mono (fun r h => ⟨fun c => (h c).2,
      Idealize.ShloMosaic.sem_eq_zero_of_no_sems (by decide) r.2⟩)
    (Cert.WeightsReferenceIdeal.Value.run (F := Ideal) m ρ)

theorem frame_down_weights_reference : Cert.quiescent_DownWeightsReferenceIdeal := fun m ρ _ =>
  (θ_run Cert.DownWeightsReferenceIdeal.defs _ _).mono (fun r h => ⟨fun c => (h c).2,
      Idealize.ShloMosaic.sem_eq_zero_of_no_sems (by decide) r.2⟩)
    (Cert.DownWeightsReferenceIdeal.Value.run (F := Ideal) m ρ)

theorem frame_in_weights_reference : Cert.quiescent_InWeightsReferenceIdeal := fun m ρ _ =>
  (θ_run Cert.InWeightsReferenceIdeal.defs _ _).mono (fun r h => ⟨fun c => (h c).2,
      Idealize.ShloMosaic.sem_eq_zero_of_no_sems (by decide) r.2⟩)
    (Cert.InWeightsReferenceIdeal.Value.run (F := Ideal) m ρ)

theorem frame_out_weights_reference : Cert.quiescent_OutWeightsReferenceIdeal := fun m ρ _ =>
  (θ_run Cert.OutWeightsReferenceIdeal.defs _ _).mono (fun r h => ⟨fun c => (h c).2,
      Idealize.ShloMosaic.sem_eq_zero_of_no_sems (by decide) r.2⟩)
    (Cert.OutWeightsReferenceIdeal.Value.run (F := Ideal) m ρ)

theorem frame_gates_reference : Cert.quiescent_GatesReferenceIdeal := fun m ρ _ =>
  (θ_run Cert.GatesReferenceIdeal.defs _ _).mono (fun r h => ⟨fun c => (h c).2.2.2,
      Idealize.ShloMosaic.sem_eq_zero_of_no_sems (by decide) r.2⟩)
    (Cert.GatesReferenceIdeal.Value.run (F := Ideal) m ρ)

theorem frame_down_forward_reference : Cert.quiescent_DownForwardReferenceIdeal := fun m ρ _ =>
  (θ_run Cert.DownForwardReferenceIdeal.defs _ _).mono (fun r h => ⟨fun c => (h c).2.2.2,
      Idealize.ShloMosaic.sem_eq_zero_of_no_sems (by decide) r.2⟩)
    (Cert.DownForwardReferenceIdeal.Value.run (F := Ideal) m ρ)

theorem frame_gate_up_reference : Cert.quiescent_GateUpReferenceIdeal := fun m ρ _ =>
  (θ_run Cert.GateUpReferenceIdeal.defs _ _).mono (fun r h => ⟨fun c => (h c).2.2.2.2,
      Idealize.ShloMosaic.sem_eq_zero_of_no_sems (by decide) r.2⟩)
    (Cert.GateUpReferenceIdeal.Value.run (F := Ideal) m ρ)

theorem claim : Cert.Claim := ⟨Cert.Kernel.Gen.facts,
  Cert.KernelIdeal.Gen.facts,
  Cert.ReferenceIdeal.Gen.facts,
  Cert.Down.Gen.facts,
  Cert.DownIdeal.Gen.facts,
  Cert.DownReferenceIdeal.Gen.facts,
  Cert.Weights.Gen.facts,
  Cert.WeightsIdeal.Gen.facts,
  Cert.WeightsReferenceIdeal.Gen.facts,
  Cert.DownWeights.Gen.facts,
  Cert.DownWeightsIdeal.Gen.facts,
  Cert.DownWeightsReferenceIdeal.Gen.facts,
  Cert.InWeights.Gen.facts,
  Cert.InWeightsIdeal.Gen.facts,
  Cert.InWeightsReferenceIdeal.Gen.facts,
  Cert.OutWeights.Gen.facts,
  Cert.OutWeightsIdeal.Gen.facts,
  Cert.OutWeightsReferenceIdeal.Gen.facts,
  Cert.Gates.Gen.facts,
  Cert.GatesIdeal.Gen.facts,
  Cert.GatesReferenceIdeal.Gen.facts,
  Cert.DownForward.Gen.facts,
  Cert.DownForwardIdeal.Gen.facts,
  Cert.DownForwardReferenceIdeal.Gen.facts,
  Cert.GateUp.Gen.facts,
  Cert.GateUpIdeal.Gen.facts,
  Cert.GateUpReferenceIdeal.Gen.facts,
  Cert.Attention.finite_facts,
  Cert.DownFinite.facts,
  frame_kernel,
  frame_ideal,
  @frame_ideal_finite Cert.Attention.finite_facts,
  frame_reference,
  @frame_reference_finite Cert.Attention.finite_facts,
  fun m ρ _ => Cert.Down.Gen.frame m ρ,
  fun m ρ _ => Cert.DownIdeal.Gen.frame m ρ,
  fun m ρ _ => Cert.DownIdeal.Gen.frame m ρ,
  frame_down_reference,
  fun m ρ _ => frame_down_reference m ρ trivial,
  fun m ρ _ => Cert.Weights.Gen.frame m ρ,
  fun m ρ _ => Cert.WeightsIdeal.Gen.frame m ρ,
  frame_weights_reference,
  fun m ρ _ => Cert.DownWeights.Gen.frame m ρ,
  fun m ρ _ => Cert.DownWeightsIdeal.Gen.frame m ρ,
  frame_down_weights_reference,
  fun m ρ _ => Cert.InWeights.Gen.frame m ρ,
  fun m ρ _ => Cert.InWeightsIdeal.Gen.frame m ρ,
  frame_in_weights_reference,
  fun m ρ _ => Cert.OutWeights.Gen.frame m ρ,
  fun m ρ _ => Cert.OutWeightsIdeal.Gen.frame m ρ,
  frame_out_weights_reference,
  fun m ρ _ => Cert.Gates.Gen.frame m ρ,
  fun m ρ _ => Cert.GatesIdeal.Gen.frame m ρ,
  frame_gates_reference,
  fun m ρ _ => Cert.DownForward.Gen.frame m ρ,
  fun m ρ _ => Cert.DownForwardIdeal.Gen.frame m ρ,
  frame_down_forward_reference,
  fun m ρ _ => Cert.GateUp.Gen.frame m ρ,
  fun m ρ _ => Cert.GateUpIdeal.Gen.frame m ρ,
  frame_gate_up_reference,
  preserved,
  @algebraic Cert.Attention.finite_facts,
  trivial,
  @algebraic_down Cert.DownFinite.facts,
  trivial,
  algebraic_weights,
  trivial,
  algebraic_down_weights,
  trivial,
  algebraic_in_weights,
  trivial,
  algebraic_out_weights,
  trivial,
  algebraic_gates,
  trivial,
  algebraic_down_forward,
  trivial,
  algebraic_gate_up⟩

end Cert.Proof

end
